-- ==== Defs.lean ====
def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresIdeal_experts_in_range [hPre_experts_in_range : Cert.Pre_experts_in_range.Facts] (m : (ℓ : Loc Cert.ScoresIdeal.nD Cert.ScoresIdeal.τ Cert.ScoresIdeal.sig) → Buf (Elt Ideal) ℓ) : Prop :=
  ∀ c : Dev Cert.ScoresIdeal.nD,
    (Cert.Pre_experts_in_range.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2))) = (fun _ => 1#1)

def Pre_ScoresRefIdeal (m : (ℓ : Loc Cert.ScoresRefIdeal.nD Cert.ScoresRefIdeal.τ Cert.ScoresRefIdeal.sig) → Buf (Elt Ideal) ℓ) : Prop :=
  True

def Pre_ScoresRefIdeal_experts_in_range [hPre_experts_in_range : Cert.Pre_experts_in_range.Facts] (m : (ℓ : Loc Cert.ScoresRefIdeal.nD Cert.ScoresRefIdeal.τ Cert.ScoresRefIdeal.sig) → Buf (Elt Ideal) ℓ) : Prop :=
  ∀ c : Dev Cert.ScoresRefIdeal.nD,
    (Cert.Pre_experts_in_range.fn (F := Ideal) (m ((c.tc : Thread Cert.ScoresRefIdeal.nD Cert.ScoresRefIdeal.τ).loc Cert.ScoresRefIdeal.main_arg0)) (m ((c.tc : Thread Cert.ScoresRefIdeal.nD Cert.ScoresRefIdeal.τ).loc Cert.ScoresRefIdeal.main_arg1)) (m ((c.tc : Thread Cert.ScoresRefIdeal.nD Cert.ScoresRefIdeal.τ).loc Cert.ScoresRefIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Values (m : (ℓ : Loc Cert.Values.nD Cert.Values.τ Cert.Values.sig) → Buf (Elt Bits) ℓ) : Prop :=
  True

def Pre_ValuesIdeal (m : (ℓ : Loc Cert.ValuesIdeal.nD Cert.ValuesIdeal.τ Cert.ValuesIdeal.sig) → Buf (Elt Ideal) ℓ) : Prop :=
  True

def Pre_ValuesIdeal_chosen_and_finite [hPre_chosen_and_finite : Cert.Pre_chosen_and_finite.Facts] (m : (ℓ : Loc Cert.ValuesIdeal.nD Cert.ValuesIdeal.τ Cert.ValuesIdeal.sig) → Buf (Elt Ideal) ℓ) : Prop :=
  ∀ c : Dev Cert.ValuesIdeal.nD,
    (Cert.Pre_chosen_and_finite.fn (F := Ideal) (m ((c.tc : Thread Cert.ValuesIdeal.nD Cert.ValuesIdeal.τ).loc Cert.ValuesIdeal.main_arg0)) (m ((c.tc : Thread Cert.ValuesIdeal.nD Cert.ValuesIdeal.τ).loc Cert.ValuesIdeal.main_arg1)) (m ((c.tc : Thread Cert.ValuesIdeal.nD Cert.ValuesIdeal.τ).loc Cert.ValuesIdeal.main_arg2)) (m ((c.tc : Thread Cert.ValuesIdeal.nD Cert.ValuesIdeal.τ).loc Cert.ValuesIdeal.main_arg3)) (m ((c.tc : Thread Cert.ValuesIdeal.nD Cert.ValuesIdeal.τ).loc Cert.ValuesIdeal.main_arg4)) (m ((c.tc : Thread Cert.ValuesIdeal.nD Cert.ValuesIdeal.τ).loc Cert.ValuesIdeal.main_arg5)) (m ((c.tc : Thread Cert.ValuesIdeal.nD Cert.ValuesIdeal.τ).loc Cert.ValuesIdeal.main_arg6)) (m ((c.tc : Thread Cert.ValuesIdeal.nD Cert.ValuesIdeal.τ).loc Cert.ValuesIdeal.main_arg7))) = (fun _ => 1#1)

def Pre_ValuesRefIdeal (m : (ℓ : Loc Cert.ValuesRefIdeal.nD Cert.ValuesRefIdeal.τ Cert.ValuesRefIdeal.sig) → Buf (Elt Ideal) ℓ) : Prop :=
  True

def Pre_ValuesRefIdeal_chosen_and_finite [hPre_chosen_and_finite : Cert.Pre_chosen_and_finite.Facts] (m : (ℓ : Loc Cert.ValuesRefIdeal.nD Cert.ValuesRefIdeal.τ Cert.ValuesRefIdeal.sig) → Buf (Elt Ideal) ℓ) : Prop :=
  ∀ c : Dev Cert.ValuesRefIdeal.nD,
    (Cert.Pre_chosen_and_finite.fn (F := Ideal) (m ((c.tc : Thread Cert.ValuesRefIdeal.nD Cert.ValuesRefIdeal.τ).loc Cert.ValuesRefIdeal.main_arg0)) (m ((c.tc : Thread Cert.ValuesRefIdeal.nD Cert.ValuesRefIdeal.τ).loc Cert.ValuesRefIdeal.main_arg1)) (m ((c.tc : Thread Cert.ValuesRefIdeal.nD Cert.ValuesRefIdeal.τ).loc Cert.ValuesRefIdeal.main_arg2)) (m ((c.tc : Thread Cert.ValuesRefIdeal.nD Cert.ValuesRefIdeal.τ).loc Cert.ValuesRefIdeal.main_arg3)) (m ((c.tc : Thread Cert.ValuesRefIdeal.nD Cert.ValuesRefIdeal.τ).loc Cert.ValuesRefIdeal.main_arg4)) (m ((c.tc : Thread Cert.ValuesRefIdeal.nD Cert.ValuesRefIdeal.τ).loc Cert.ValuesRefIdeal.main_arg5)) (m ((c.tc : Thread Cert.ValuesRefIdeal.nD Cert.ValuesRefIdeal.τ).loc Cert.ValuesRefIdeal.main_arg6)) (m ((c.tc : Thread Cert.ValuesRefIdeal.nD Cert.ValuesRefIdeal.τ).loc Cert.ValuesRefIdeal.main_arg7))) = (fun _ => 1#1)

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def Pre_CtxProj (m : (ℓ : Loc Cert.CtxProj.nD Cert.CtxProj.τ Cert.CtxProj.sig) → Buf (Elt Bits) ℓ) : Prop :=
  True

def Pre_CtxProjIdeal (m : (ℓ : Loc Cert.CtxProjIdeal.nD Cert.CtxProjIdeal.τ Cert.CtxProjIdeal.sig) → Buf (Elt Ideal) ℓ) : Prop :=
  True

def Pre_CtxProjRefIdeal (m : (ℓ : Loc Cert.CtxProjRefIdeal.nD Cert.CtxProjRefIdeal.τ Cert.CtxProjRefIdeal.sig) → Buf (Elt Ideal) ℓ) : Prop :=
  True

def Pre_Filters (m : (ℓ : Loc Cert.Filters.nD Cert.Filters.τ Cert.Filters.sig) → Buf (Elt Bits) ℓ) : Prop :=
  True

def Pre_FiltersIdeal (m : (ℓ : Loc Cert.FiltersIdeal.nD Cert.FiltersIdeal.τ Cert.FiltersIdeal.sig) → Buf (Elt Ideal) ℓ) : Prop :=
  True

def Pre_FiltersIdeal_finite_w3 [hPre_finite_w3 : Cert.Pre_finite_w3.Facts] (m : (ℓ : Loc Cert.FiltersIdeal.nD Cert.FiltersIdeal.τ Cert.FiltersIdeal.sig) → Buf (Elt Ideal) ℓ) : Prop :=
  ∀ c : Dev Cert.FiltersIdeal.nD,
    (Cert.Pre_finite_w3.fn (F := Ideal) (m ((c.tc : Thread Cert.FiltersIdeal.nD Cert.FiltersIdeal.τ).loc Cert.FiltersIdeal.main_arg0)) (m ((c.tc : Thread Cert.FiltersIdeal.nD Cert.FiltersIdeal.τ).loc Cert.FiltersIdeal.main_arg1)) (m ((c.tc : Thread Cert.FiltersIdeal.nD Cert.FiltersIdeal.τ).loc Cert.FiltersIdeal.main_arg2)) (m ((c.tc : Thread Cert.FiltersIdeal.nD Cert.FiltersIdeal.τ).loc Cert.FiltersIdeal.main_arg3)) (m ((c.tc : Thread Cert.FiltersIdeal.nD Cert.FiltersIdeal.τ).loc Cert.FiltersIdeal.main_arg4)) (m ((c.tc : Thread Cert.FiltersIdeal.nD Cert.FiltersIdeal.τ).loc Cert.FiltersIdeal.main_arg5)) (m ((c.tc : Thread Cert.FiltersIdeal.nD Cert.FiltersIdeal.τ).loc Cert.FiltersIdeal.main_arg6)) (m ((c.tc : Thread Cert.FiltersIdeal.nD Cert.FiltersIdeal.τ).loc Cert.FiltersIdeal.main_arg7))) = (fun _ => 1#1)

def Pre_FiltersRefIdeal (m : (ℓ : Loc Cert.FiltersRefIdeal.nD Cert.FiltersRefIdeal.τ Cert.FiltersRefIdeal.sig) → Buf (Elt Ideal) ℓ) : Prop :=
  True

def Pre_FiltersRefIdeal_finite_w3 [hPre_finite_w3 : Cert.Pre_finite_w3.Facts] (m : (ℓ : Loc Cert.FiltersRefIdeal.nD Cert.FiltersRefIdeal.τ Cert.FiltersRefIdeal.sig) → Buf (Elt Ideal) ℓ) : Prop :=
  ∀ c : Dev Cert.FiltersRefIdeal.nD,
    (Cert.Pre_finite_w3.fn (F := Ideal) (m ((c.tc : Thread Cert.FiltersRefIdeal.nD Cert.FiltersRefIdeal.τ).loc Cert.FiltersRefIdeal.main_arg0)) (m ((c.tc : Thread Cert.FiltersRefIdeal.nD Cert.FiltersRefIdeal.τ).loc Cert.FiltersRefIdeal.main_arg1)) (m ((c.tc : Thread Cert.FiltersRefIdeal.nD Cert.FiltersRefIdeal.τ).loc Cert.FiltersRefIdeal.main_arg2)) (m ((c.tc : Thread Cert.FiltersRefIdeal.nD Cert.FiltersRefIdeal.τ).loc Cert.FiltersRefIdeal.main_arg3)) (m ((c.tc : Thread Cert.FiltersRefIdeal.nD Cert.FiltersRefIdeal.τ).loc Cert.FiltersRefIdeal.main_arg4)) (m ((c.tc : Thread Cert.FiltersRefIdeal.nD Cert.FiltersRefIdeal.τ).loc Cert.FiltersRefIdeal.main_arg5)) (m ((c.tc : Thread Cert.FiltersRefIdeal.nD Cert.FiltersRefIdeal.τ).loc Cert.FiltersRefIdeal.main_arg6)) (m ((c.tc : Thread Cert.FiltersRefIdeal.nD Cert.FiltersRefIdeal.τ).loc Cert.FiltersRefIdeal.main_arg7))) = (fun _ => 1#1)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ r.2.sem = fun _ => 0)

def quiescent_ScoresIdeal_pre_experts_in_range [hScoresIdeal : Cert.ScoresIdeal.Facts] [hPre_experts_in_range : Cert.Pre_experts_in_range.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal_experts_in_range m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ r.2.sem = fun _ => 0)

def quiescent_ScoresRefIdeal [hScoresRefIdeal : Cert.ScoresRefIdeal.Facts] : Prop :=
  ∀ (m : (ℓ : Loc Cert.ScoresRefIdeal.nD Cert.ScoresRefIdeal.τ Cert.ScoresRefIdeal.sig) → Buf (Elt Ideal) ℓ) (g : Dev Cert.ScoresRefIdeal.nD → PrngReg), Pre_ScoresRefIdeal m →
    θ_run (Cert.ScoresRefIdeal.defs (F := Ideal)) (onTc (τ := Cert.ScoresRefIdeal.τ) (Cert.ScoresRefIdeal.main (F := Ideal))) ⟨m, fun _ => 0, g⟩ (fun r => (∀ c : Dev Cert.ScoresRefIdeal.nD,
      r.2.mem ((c.tc : Thread Cert.ScoresRefIdeal.nD Cert.ScoresRefIdeal.τ).loc Cert.ScoresRefIdeal.main_arg0) = m ((c.tc : Thread Cert.ScoresRefIdeal.nD Cert.ScoresRefIdeal.τ).loc Cert.ScoresRefIdeal.main_arg0)
      ∧ r.2.mem ((c.tc : Thread Cert.ScoresRefIdeal.nD Cert.ScoresRefIdeal.τ).loc Cert.ScoresRefIdeal.main_arg1) = m ((c.tc : Thread Cert.ScoresRefIdeal.nD Cert.ScoresRefIdeal.τ).loc Cert.ScoresRefIdeal.main_arg1)
      ∧ r.2.mem ((c.tc : Thread Cert.ScoresRefIdeal.nD Cert.ScoresRefIdeal.τ).loc Cert.ScoresRefIdeal.main_arg2) = m ((c.tc : Thread Cert.ScoresRefIdeal.nD Cert.ScoresRefIdeal.τ).loc Cert.ScoresRefIdeal.main_arg2))
      ∧ r.2.sem = fun _ => 0)

def quiescent_ScoresRefIdeal_pre_experts_in_range [hScoresRefIdeal : Cert.ScoresRefIdeal.Facts] [hPre_experts_in_range : Cert.Pre_experts_in_range.Facts] : Prop :=
  ∀ (m : (ℓ : Loc Cert.ScoresRefIdeal.nD Cert.ScoresRefIdeal.τ Cert.ScoresRefIdeal.sig) → Buf (Elt Ideal) ℓ) (g : Dev Cert.ScoresRefIdeal.nD → PrngReg), Pre_ScoresRefIdeal_experts_in_range m →
    θ_run (Cert.ScoresRefIdeal.defs (F := Ideal)) (onTc (τ := Cert.ScoresRefIdeal.τ) (Cert.ScoresRefIdeal.main (F := Ideal))) ⟨m, fun _ => 0, g⟩ (fun r => (∀ c : Dev Cert.ScoresRefIdeal.nD,
      r.2.mem ((c.tc : Thread Cert.ScoresRefIdeal.nD Cert.ScoresRefIdeal.τ).loc Cert.ScoresRefIdeal.main_arg0) = m ((c.tc : Thread Cert.ScoresRefIdeal.nD Cert.ScoresRefIdeal.τ).loc Cert.ScoresRefIdeal.main_arg0)
      ∧ r.2.mem ((c.tc : Thread Cert.ScoresRefIdeal.nD Cert.ScoresRefIdeal.τ).loc Cert.ScoresRefIdeal.main_arg1) = m ((c.tc : Thread Cert.ScoresRefIdeal.nD Cert.ScoresRefIdeal.τ).loc Cert.ScoresRefIdeal.main_arg1)
      ∧ r.2.mem ((c.tc : Thread Cert.ScoresRefIdeal.nD Cert.ScoresRefIdeal.τ).loc Cert.ScoresRefIdeal.main_arg2) = m ((c.tc : Thread Cert.ScoresRefIdeal.nD Cert.ScoresRefIdeal.τ).loc Cert.ScoresRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def quiescent_Values [hValues : Cert.Values.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1)
      ∧ r.2.mem ((c.tc : Thread Cert.Values.nD Cert.Values.τ).loc Cert.Values.main_arg2) = m ((c.tc : Thread Cert.Values.nD Cert.Values.τ).loc Cert.Values.main_arg2)
      ∧ r.2.mem ((c.tc : Thread Cert.Values.nD Cert.Values.τ).loc Cert.Values.main_arg3) = m ((c.tc : Thread Cert.Values.nD Cert.Values.τ).loc Cert.Values.main_arg3)
      ∧ r.2.mem ((c.tc : Thread Cert.Values.nD Cert.Values.τ).loc Cert.Values.main_arg4) = m ((c.tc : Thread Cert.Values.nD Cert.Values.τ).loc Cert.Values.main_arg4)
      ∧ r.2.mem ((c.tc : Thread Cert.Values.nD Cert.Values.τ).loc Cert.Values.main_arg5) = m ((c.tc : Thread Cert.Values.nD Cert.Values.τ).loc Cert.Values.main_arg5)
      ∧ r.2.mem ((c.tc : Thread Cert.Values.nD Cert.Values.τ).loc Cert.Values.main_arg6) = m ((c.tc : Thread Cert.Values.nD Cert.Values.τ).loc Cert.Values.main_arg6)
      ∧ r.2.mem ((c.tc : Thread Cert.Values.nD Cert.Values.τ).loc Cert.Values.main_arg7) = m ((c.tc : Thread Cert.Values.nD Cert.Values.τ).loc Cert.Values.main_arg7))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1)
      ∧ r.2.mem ((c.tc : Thread Cert.ValuesIdeal.nD Cert.ValuesIdeal.τ).loc Cert.ValuesIdeal.main_arg2) = m ((c.tc : Thread Cert.ValuesIdeal.nD Cert.ValuesIdeal.τ).loc Cert.ValuesIdeal.main_arg2)
      ∧ r.2.mem ((c.tc : Thread Cert.ValuesIdeal.nD Cert.ValuesIdeal.τ).loc Cert.ValuesIdeal.main_arg3) = m ((c.tc : Thread Cert.ValuesIdeal.nD Cert.ValuesIdeal.τ).loc Cert.ValuesIdeal.main_arg3)
      ∧ r.2.mem ((c.tc : Thread Cert.ValuesIdeal.nD Cert.ValuesIdeal.τ).loc Cert.ValuesIdeal.main_arg4) = m ((c.tc : Thread Cert.ValuesIdeal.nD Cert.ValuesIdeal.τ).loc Cert.ValuesIdeal.main_arg4)
      ∧ r.2.mem ((c.tc : Thread Cert.ValuesIdeal.nD Cert.ValuesIdeal.τ).loc Cert.ValuesIdeal.main_arg5) = m ((c.tc : Thread Cert.ValuesIdeal.nD Cert.ValuesIdeal.τ).loc Cert.ValuesIdeal.main_arg5)
      ∧ r.2.mem ((c.tc : Thread Cert.ValuesIdeal.nD Cert.ValuesIdeal.τ).loc Cert.ValuesIdeal.main_arg6) = m ((c.tc : Thread Cert.ValuesIdeal.nD Cert.ValuesIdeal.τ).loc Cert.ValuesIdeal.main_arg6)
      ∧ r.2.mem ((c.tc : Thread Cert.ValuesIdeal.nD Cert.ValuesIdeal.τ).loc Cert.ValuesIdeal.main_arg7) = m ((c.tc : Thread Cert.ValuesIdeal.nD Cert.ValuesIdeal.τ).loc Cert.ValuesIdeal.main_arg7))
      ∧ r.2.sem = fun _ => 0)

def quiescent_ValuesIdeal_pre_chosen_and_finite [hValuesIdeal : Cert.ValuesIdeal.Facts] [hPre_chosen_and_finite : Cert.Pre_chosen_and_finite.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal_chosen_and_finite m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1)
      ∧ r.2.mem ((c.tc : Thread Cert.ValuesIdeal.nD Cert.ValuesIdeal.τ).loc Cert.ValuesIdeal.main_arg2) = m ((c.tc : Thread Cert.ValuesIdeal.nD Cert.ValuesIdeal.τ).loc Cert.ValuesIdeal.main_arg2)
      ∧ r.2.mem ((c.tc : Thread Cert.ValuesIdeal.nD Cert.ValuesIdeal.τ).loc Cert.ValuesIdeal.main_arg3) = m ((c.tc : Thread Cert.ValuesIdeal.nD Cert.ValuesIdeal.τ).loc Cert.ValuesIdeal.main_arg3)
      ∧ r.2.mem ((c.tc : Thread Cert.ValuesIdeal.nD Cert.ValuesIdeal.τ).loc Cert.ValuesIdeal.main_arg4) = m ((c.tc : Thread Cert.ValuesIdeal.nD Cert.ValuesIdeal.τ).loc Cert.ValuesIdeal.main_arg4)
      ∧ r.2.mem ((c.tc : Thread Cert.ValuesIdeal.nD Cert.ValuesIdeal.τ).loc Cert.ValuesIdeal.main_arg5) = m ((c.tc : Thread Cert.ValuesIdeal.nD Cert.ValuesIdeal.τ).loc Cert.ValuesIdeal.main_arg5)
      ∧ r.2.mem ((c.tc : Thread Cert.ValuesIdeal.nD Cert.ValuesIdeal.τ).loc Cert.ValuesIdeal.main_arg6) = m ((c.tc : Thread Cert.ValuesIdeal.nD Cert.ValuesIdeal.τ).loc Cert.ValuesIdeal.main_arg6)
      ∧ r.2.mem ((c.tc : Thread Cert.ValuesIdeal.nD Cert.ValuesIdeal.τ).loc Cert.ValuesIdeal.main_arg7) = m ((c.tc : Thread Cert.ValuesIdeal.nD Cert.ValuesIdeal.τ).loc Cert.ValuesIdeal.main_arg7))
      ∧ r.2.sem = fun _ => 0)

def quiescent_ValuesRefIdeal [hValuesRefIdeal : Cert.ValuesRefIdeal.Facts] : Prop :=
  ∀ (m : (ℓ : Loc Cert.ValuesRefIdeal.nD Cert.ValuesRefIdeal.τ Cert.ValuesRefIdeal.sig) → Buf (Elt Ideal) ℓ) (g : Dev Cert.ValuesRefIdeal.nD → PrngReg), Pre_ValuesRefIdeal m →
    θ_run (Cert.ValuesRefIdeal.defs (F := Ideal)) (onTc (τ := Cert.ValuesRefIdeal.τ) (Cert.ValuesRefIdeal.main (F := Ideal))) ⟨m, fun _ => 0, g⟩ (fun r => (∀ c : Dev Cert.ValuesRefIdeal.nD,
      r.2.mem ((c.tc : Thread Cert.ValuesRefIdeal.nD Cert.ValuesRefIdeal.τ).loc Cert.ValuesRefIdeal.main_arg0) = m ((c.tc : Thread Cert.ValuesRefIdeal.nD Cert.ValuesRefIdeal.τ).loc Cert.ValuesRefIdeal.main_arg0)
      ∧ r.2.mem ((c.tc : Thread Cert.ValuesRefIdeal.nD Cert.ValuesRefIdeal.τ).loc Cert.ValuesRefIdeal.main_arg1) = m ((c.tc : Thread Cert.ValuesRefIdeal.nD Cert.ValuesRefIdeal.τ).loc Cert.ValuesRefIdeal.main_arg1)
      ∧ r.2.mem ((c.tc : Thread Cert.ValuesRefIdeal.nD Cert.ValuesRefIdeal.τ).loc Cert.ValuesRefIdeal.main_arg2) = m ((c.tc : Thread Cert.ValuesRefIdeal.nD Cert.ValuesRefIdeal.τ).loc Cert.ValuesRefIdeal.main_arg2)
      ∧ r.2.mem ((c.tc : Thread Cert.ValuesRefIdeal.nD Cert.ValuesRefIdeal.τ).loc Cert.ValuesRefIdeal.main_arg3) = m ((c.tc : Thread Cert.ValuesRefIdeal.nD Cert.ValuesRefIdeal.τ).loc Cert.ValuesRefIdeal.main_arg3)
      ∧ r.2.mem ((c.tc : Thread Cert.ValuesRefIdeal.nD Cert.ValuesRefIdeal.τ).loc Cert.ValuesRefIdeal.main_arg4) = m ((c.tc : Thread Cert.ValuesRefIdeal.nD Cert.ValuesRefIdeal.τ).loc Cert.ValuesRefIdeal.main_arg4)
      ∧ r.2.mem ((c.tc : Thread Cert.ValuesRefIdeal.nD Cert.ValuesRefIdeal.τ).loc Cert.ValuesRefIdeal.main_arg5) = m ((c.tc : Thread Cert.ValuesRefIdeal.nD Cert.ValuesRefIdeal.τ).loc Cert.ValuesRefIdeal.main_arg5)
      ∧ r.2.mem ((c.tc : Thread Cert.ValuesRefIdeal.nD Cert.ValuesRefIdeal.τ).loc Cert.ValuesRefIdeal.main_arg6) = m ((c.tc : Thread Cert.ValuesRefIdeal.nD Cert.ValuesRefIdeal.τ).loc Cert.ValuesRefIdeal.main_arg6)
      ∧ r.2.mem ((c.tc : Thread Cert.ValuesRefIdeal.nD Cert.ValuesRefIdeal.τ).loc Cert.ValuesRefIdeal.main_arg7) = m ((c.tc : Thread Cert.ValuesRefIdeal.nD Cert.ValuesRefIdeal.τ).loc Cert.ValuesRefIdeal.main_arg7))
      ∧ r.2.sem = fun _ => 0)

def quiescent_ValuesRefIdeal_pre_chosen_and_finite [hValuesRefIdeal : Cert.ValuesRefIdeal.Facts] [hPre_chosen_and_finite : Cert.Pre_chosen_and_finite.Facts] : Prop :=
  ∀ (m : (ℓ : Loc Cert.ValuesRefIdeal.nD Cert.ValuesRefIdeal.τ Cert.ValuesRefIdeal.sig) → Buf (Elt Ideal) ℓ) (g : Dev Cert.ValuesRefIdeal.nD → PrngReg), Pre_ValuesRefIdeal_chosen_and_finite m →
    θ_run (Cert.ValuesRefIdeal.defs (F := Ideal)) (onTc (τ := Cert.ValuesRefIdeal.τ) (Cert.ValuesRefIdeal.main (F := Ideal))) ⟨m, fun _ => 0, g⟩ (fun r => (∀ c : Dev Cert.ValuesRefIdeal.nD,
      r.2.mem ((c.tc : Thread Cert.ValuesRefIdeal.nD Cert.ValuesRefIdeal.τ).loc Cert.ValuesRefIdeal.main_arg0) = m ((c.tc : Thread Cert.ValuesRefIdeal.nD Cert.ValuesRefIdeal.τ).loc Cert.ValuesRefIdeal.main_arg0)
      ∧ r.2.mem ((c.tc : Thread Cert.ValuesRefIdeal.nD Cert.ValuesRefIdeal.τ).loc Cert.ValuesRefIdeal.main_arg1) = m ((c.tc : Thread Cert.ValuesRefIdeal.nD Cert.ValuesRefIdeal.τ).loc Cert.ValuesRefIdeal.main_arg1)
      ∧ r.2.mem ((c.tc : Thread Cert.ValuesRefIdeal.nD Cert.ValuesRefIdeal.τ).loc Cert.ValuesRefIdeal.main_arg2) = m ((c.tc : Thread Cert.ValuesRefIdeal.nD Cert.ValuesRefIdeal.τ).loc Cert.ValuesRefIdeal.main_arg2)
      ∧ r.2.mem ((c.tc : Thread Cert.ValuesRefIdeal.nD Cert.ValuesRefIdeal.τ).loc Cert.ValuesRefIdeal.main_arg3) = m ((c.tc : Thread Cert.ValuesRefIdeal.nD Cert.ValuesRefIdeal.τ).loc Cert.ValuesRefIdeal.main_arg3)
      ∧ r.2.mem ((c.tc : Thread Cert.ValuesRefIdeal.nD Cert.ValuesRefIdeal.τ).loc Cert.ValuesRefIdeal.main_arg4) = m ((c.tc : Thread Cert.ValuesRefIdeal.nD Cert.ValuesRefIdeal.τ).loc Cert.ValuesRefIdeal.main_arg4)
      ∧ r.2.mem ((c.tc : Thread Cert.ValuesRefIdeal.nD Cert.ValuesRefIdeal.τ).loc Cert.ValuesRefIdeal.main_arg5) = m ((c.tc : Thread Cert.ValuesRefIdeal.nD Cert.ValuesRefIdeal.τ).loc Cert.ValuesRefIdeal.main_arg5)
      ∧ r.2.mem ((c.tc : Thread Cert.ValuesRefIdeal.nD Cert.ValuesRefIdeal.τ).loc Cert.ValuesRefIdeal.main_arg6) = m ((c.tc : Thread Cert.ValuesRefIdeal.nD Cert.ValuesRefIdeal.τ).loc Cert.ValuesRefIdeal.main_arg6)
      ∧ r.2.mem ((c.tc : Thread Cert.ValuesRefIdeal.nD Cert.ValuesRefIdeal.τ).loc Cert.ValuesRefIdeal.main_arg7) = m ((c.tc : Thread Cert.ValuesRefIdeal.nD Cert.ValuesRefIdeal.τ).loc Cert.ValuesRefIdeal.main_arg7))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2)
      ∧ r.2.mem ((c.tc : Thread Cert.ModulationRefIdeal.nD Cert.ModulationRefIdeal.τ).loc Cert.ModulationRefIdeal.main_arg3) = m ((c.tc : Thread Cert.ModulationRefIdeal.nD Cert.ModulationRefIdeal.τ).loc Cert.ModulationRefIdeal.main_arg3))
      ∧ r.2.sem = fun _ => 0)

def quiescent_CtxProj [hCtxProj : Cert.CtxProj.Facts] : Prop :=
  ∀ (m : (ℓ : Loc Cert.CtxProj.nD Cert.CtxProj.τ Cert.CtxProj.sig) → Buf (Elt Bits) ℓ) (g : Dev Cert.CtxProj.nD → PrngReg), Pre_CtxProj m →
    θ_run (Cert.CtxProj.defs (F := Bits)) (onTc (τ := Cert.CtxProj.τ) (Cert.CtxProj.main (F := Bits))) ⟨m, fun _ => 0, g⟩ (fun r => (∀ c : Dev Cert.CtxProj.nD,
      r.2.mem ((c.tc : Thread Cert.CtxProj.nD Cert.CtxProj.τ).loc Cert.CtxProj.main_arg0) = m ((c.tc : Thread Cert.CtxProj.nD Cert.CtxProj.τ).loc Cert.CtxProj.main_arg0)
      ∧ r.2.mem ((c.tc : Thread Cert.CtxProj.nD Cert.CtxProj.τ).loc Cert.CtxProj.main_arg1) = m ((c.tc : Thread Cert.CtxProj.nD Cert.CtxProj.τ).loc Cert.CtxProj.main_arg1)
      ∧ r.2.mem ((c.tc : Thread Cert.CtxProj.nD Cert.CtxProj.τ).loc Cert.CtxProj.main_arg2) = m ((c.tc : Thread Cert.CtxProj.nD Cert.CtxProj.τ).loc Cert.CtxProj.main_arg2)
      ∧ r.2.mem ((c.tc : Thread Cert.CtxProj.nD Cert.CtxProj.τ).loc Cert.CtxProj.main_arg3) = m ((c.tc : Thread Cert.CtxProj.nD Cert.CtxProj.τ).loc Cert.CtxProj.main_arg3))
      ∧ r.2.sem = fun _ => 0)

def quiescent_CtxProjIdeal [hCtxProjIdeal : Cert.CtxProjIdeal.Facts] : Prop :=
  ∀ (m : (ℓ : Loc Cert.CtxProjIdeal.nD Cert.CtxProjIdeal.τ Cert.CtxProjIdeal.sig) → Buf (Elt Ideal) ℓ) (g : Dev Cert.CtxProjIdeal.nD → PrngReg), Pre_CtxProjIdeal m →
    θ_run (Cert.CtxProjIdeal.defs (F := Ideal)) (onTc (τ := Cert.CtxProjIdeal.τ) (Cert.CtxProjIdeal.main (F := Ideal))) ⟨m, fun _ => 0, g⟩ (fun r => (∀ c : Dev Cert.CtxProjIdeal.nD,
      r.2.mem ((c.tc : Thread Cert.CtxProjIdeal.nD Cert.CtxProjIdeal.τ).loc Cert.CtxProjIdeal.main_arg0) = m ((c.tc : Thread Cert.CtxProjIdeal.nD Cert.CtxProjIdeal.τ).loc Cert.CtxProjIdeal.main_arg0)
      ∧ r.2.mem ((c.tc : Thread Cert.CtxProjIdeal.nD Cert.CtxProjIdeal.τ).loc Cert.CtxProjIdeal.main_arg1) = m ((c.tc : Thread Cert.CtxProjIdeal.nD Cert.CtxProjIdeal.τ).loc Cert.CtxProjIdeal.main_arg1)
      ∧ r.2.mem ((c.tc : Thread Cert.CtxProjIdeal.nD Cert.CtxProjIdeal.τ).loc Cert.CtxProjIdeal.main_arg2) = m ((c.tc : Thread Cert.CtxProjIdeal.nD Cert.CtxProjIdeal.τ).loc Cert.CtxProjIdeal.main_arg2)
      ∧ r.2.mem ((c.tc : Thread Cert.CtxProjIdeal.nD Cert.CtxProjIdeal.τ).loc Cert.CtxProjIdeal.main_arg3) = m ((c.tc : Thread Cert.CtxProjIdeal.nD Cert.CtxProjIdeal.τ).loc Cert.CtxProjIdeal.main_arg3))
      ∧ r.2.sem = fun _ => 0)

def quiescent_CtxProjRefIdeal [hCtxProjRefIdeal : Cert.CtxProjRefIdeal.Facts] : Prop :=
  ∀ (m : (ℓ : Loc Cert.CtxProjRefIdeal.nD Cert.CtxProjRefIdeal.τ Cert.CtxProjRefIdeal.sig) → Buf (Elt Ideal) ℓ) (g : Dev Cert.CtxProjRefIdeal.nD → PrngReg), Pre_CtxProjRefIdeal m →
    θ_run (Cert.CtxProjRefIdeal.defs (F := Ideal)) (onTc (τ := Cert.CtxProjRefIdeal.τ) (Cert.CtxProjRefIdeal.main (F := Ideal))) ⟨m, fun _ => 0, g⟩ (fun r => (∀ c : Dev Cert.CtxProjRefIdeal.nD,
      r.2.mem ((c.tc : Thread Cert.CtxProjRefIdeal.nD Cert.CtxProjRefIdeal.τ).loc Cert.CtxProjRefIdeal.main_arg0) = m ((c.tc : Thread Cert.CtxProjRefIdeal.nD Cert.CtxProjRefIdeal.τ).loc Cert.CtxProjRefIdeal.main_arg0)
      ∧ r.2.mem ((c.tc : Thread Cert.CtxProjRefIdeal.nD Cert.CtxProjRefIdeal.τ).loc Cert.CtxProjRefIdeal.main_arg1) = m ((c.tc : Thread Cert.CtxProjRefIdeal.nD Cert.CtxProjRefIdeal.τ).loc Cert.CtxProjRefIdeal.main_arg1)
      ∧ r.2.mem ((c.tc : Thread Cert.CtxProjRefIdeal.nD Cert.CtxProjRefIdeal.τ).loc Cert.CtxProjRefIdeal.main_arg2) = m ((c.tc : Thread Cert.CtxProjRefIdeal.nD Cert.CtxProjRefIdeal.τ).loc Cert.CtxProjRefIdeal.main_arg2)
      ∧ r.2.mem ((c.tc : Thread Cert.CtxProjRefIdeal.nD Cert.CtxProjRefIdeal.τ).loc Cert.CtxProjRefIdeal.main_arg3) = m ((c.tc : Thread Cert.CtxProjRefIdeal.nD Cert.CtxProjRefIdeal.τ).loc Cert.CtxProjRefIdeal.main_arg3))
      ∧ r.2.sem = fun _ => 0)

def quiescent_Filters [hFilters : Cert.Filters.Facts] : Prop :=
  ∀ (m : (ℓ : Loc Cert.Filters.nD Cert.Filters.τ Cert.Filters.sig) → Buf (Elt Bits) ℓ) (g : Dev Cert.Filters.nD → PrngReg), Pre_Filters m →
    θ_run (Cert.Filters.defs (F := Bits)) (onTc (τ := Cert.Filters.τ) (Cert.Filters.main (F := Bits))) ⟨m, fun _ => 0, g⟩ (fun r => (∀ c : Dev Cert.Filters.nD,
      r.2.mem ((c.tc : Thread Cert.Filters.nD Cert.Filters.τ).loc Cert.Filters.main_arg0) = m ((c.tc : Thread Cert.Filters.nD Cert.Filters.τ).loc Cert.Filters.main_arg0)
      ∧ r.2.mem ((c.tc : Thread Cert.Filters.nD Cert.Filters.τ).loc Cert.Filters.main_arg1) = m ((c.tc : Thread Cert.Filters.nD Cert.Filters.τ).loc Cert.Filters.main_arg1)
      ∧ r.2.mem ((c.tc : Thread Cert.Filters.nD Cert.Filters.τ).loc Cert.Filters.main_arg2) = m ((c.tc : Thread Cert.Filters.nD Cert.Filters.τ).loc Cert.Filters.main_arg2)
      ∧ r.2.mem ((c.tc : Thread Cert.Filters.nD Cert.Filters.τ).loc Cert.Filters.main_arg3) = m ((c.tc : Thread Cert.Filters.nD Cert.Filters.τ).loc Cert.Filters.main_arg3)
      ∧ r.2.mem ((c.tc : Thread Cert.Filters.nD Cert.Filters.τ).loc Cert.Filters.main_arg4) = m ((c.tc : Thread Cert.Filters.nD Cert.Filters.τ).loc Cert.Filters.main_arg4)
      ∧ r.2.mem ((c.tc : Thread Cert.Filters.nD Cert.Filters.τ).loc Cert.Filters.main_arg5) = m ((c.tc : Thread Cert.Filters.nD Cert.Filters.τ).loc Cert.Filters.main_arg5)
      ∧ r.2.mem ((c.tc : Thread Cert.Filters.nD Cert.Filters.τ).loc Cert.Filters.main_arg6) = m ((c.tc : Thread Cert.Filters.nD Cert.Filters.τ).loc Cert.Filters.main_arg6)
      ∧ r.2.mem ((c.tc : Thread Cert.Filters.nD Cert.Filters.τ).loc Cert.Filters.main_arg7) = m ((c.tc : Thread Cert.Filters.nD Cert.Filters.τ).loc Cert.Filters.main_arg7))
      ∧ r.2.sem = fun _ => 0)

def quiescent_FiltersIdeal [hFiltersIdeal : Cert.FiltersIdeal.Facts] : Prop :=
  ∀ (m : (ℓ : Loc Cert.FiltersIdeal.nD Cert.FiltersIdeal.τ Cert.FiltersIdeal.sig) → Buf (Elt Ideal) ℓ) (g : Dev Cert.FiltersIdeal.nD → PrngReg), Pre_FiltersIdeal m →
    θ_run (Cert.FiltersIdeal.defs (F := Ideal)) (onTc (τ := Cert.FiltersIdeal.τ) (Cert.FiltersIdeal.main (F := Ideal))) ⟨m, fun _ => 0, g⟩ (fun r => (∀ c : Dev Cert.FiltersIdeal.nD,
      r.2.mem ((c.tc : Thread Cert.FiltersIdeal.nD Cert.FiltersIdeal.τ).loc Cert.FiltersIdeal.main_arg0) = m ((c.tc : Thread Cert.FiltersIdeal.nD Cert.FiltersIdeal.τ).loc Cert.FiltersIdeal.main_arg0)
      ∧ r.2.mem ((c.tc : Thread Cert.FiltersIdeal.nD Cert.FiltersIdeal.τ).loc Cert.FiltersIdeal.main_arg1) = m ((c.tc : Thread Cert.FiltersIdeal.nD Cert.FiltersIdeal.τ).loc Cert.FiltersIdeal.main_arg1)
      ∧ r.2.mem ((c.tc : Thread Cert.FiltersIdeal.nD Cert.FiltersIdeal.τ).loc Cert.FiltersIdeal.main_arg2) = m ((c.tc : Thread Cert.FiltersIdeal.nD Cert.FiltersIdeal.τ).loc Cert.FiltersIdeal.main_arg2)
      ∧ r.2.mem ((c.tc : Thread Cert.FiltersIdeal.nD Cert.FiltersIdeal.τ).loc Cert.FiltersIdeal.main_arg3) = m ((c.tc : Thread Cert.FiltersIdeal.nD Cert.FiltersIdeal.τ).loc Cert.FiltersIdeal.main_arg3)
      ∧ r.2.mem ((c.tc : Thread Cert.FiltersIdeal.nD Cert.FiltersIdeal.τ).loc Cert.FiltersIdeal.main_arg4) = m ((c.tc : Thread Cert.FiltersIdeal.nD Cert.FiltersIdeal.τ).loc Cert.FiltersIdeal.main_arg4)
      ∧ r.2.mem ((c.tc : Thread Cert.FiltersIdeal.nD Cert.FiltersIdeal.τ).loc Cert.FiltersIdeal.main_arg5) = m ((c.tc : Thread Cert.FiltersIdeal.nD Cert.FiltersIdeal.τ).loc Cert.FiltersIdeal.main_arg5)
      ∧ r.2.mem ((c.tc : Thread Cert.FiltersIdeal.nD Cert.FiltersIdeal.τ).loc Cert.FiltersIdeal.main_arg6) = m ((c.tc : Thread Cert.FiltersIdeal.nD Cert.FiltersIdeal.τ).loc Cert.FiltersIdeal.main_arg6)
      ∧ r.2.mem ((c.tc : Thread Cert.FiltersIdeal.nD Cert.FiltersIdeal.τ).loc Cert.FiltersIdeal.main_arg7) = m ((c.tc : Thread Cert.FiltersIdeal.nD Cert.FiltersIdeal.τ).loc Cert.FiltersIdeal.main_arg7))
      ∧ r.2.sem = fun _ => 0)

def quiescent_FiltersIdeal_pre_finite_w3 [hFiltersIdeal : Cert.FiltersIdeal.Facts] [hPre_finite_w3 : Cert.Pre_finite_w3.Facts] : Prop :=
  ∀ (m : (ℓ : Loc Cert.FiltersIdeal.nD Cert.FiltersIdeal.τ Cert.FiltersIdeal.sig) → Buf (Elt Ideal) ℓ) (g : Dev Cert.FiltersIdeal.nD → PrngReg), Pre_FiltersIdeal_finite_w3 m →
    θ_run (Cert.FiltersIdeal.defs (F := Ideal)) (onTc (τ := Cert.FiltersIdeal.τ) (Cert.FiltersIdeal.main (F := Ideal))) ⟨m, fun _ => 0, g⟩ (fun r => (∀ c : Dev Cert.FiltersIdeal.nD,
      r.2.mem ((c.tc : Thread Cert.FiltersIdeal.nD Cert.FiltersIdeal.τ).loc Cert.FiltersIdeal.main_arg0) = m ((c.tc : Thread Cert.FiltersIdeal.nD Cert.FiltersIdeal.τ).loc Cert.FiltersIdeal.main_arg0)
      ∧ r.2.mem ((c.tc : Thread Cert.FiltersIdeal.nD Cert.FiltersIdeal.τ).loc Cert.FiltersIdeal.main_arg1) = m ((c.tc : Thread Cert.FiltersIdeal.nD Cert.FiltersIdeal.τ).loc Cert.FiltersIdeal.main_arg1)
      ∧ r.2.mem ((c.tc : Thread Cert.FiltersIdeal.nD Cert.FiltersIdeal.τ).loc Cert.FiltersIdeal.main_arg2) = m ((c.tc : Thread Cert.FiltersIdeal.nD Cert.FiltersIdeal.τ).loc Cert.FiltersIdeal.main_arg2)
      ∧ r.2.mem ((c.tc : Thread Cert.FiltersIdeal.nD Cert.FiltersIdeal.τ).loc Cert.FiltersIdeal.main_arg3) = m ((c.tc : Thread Cert.FiltersIdeal.nD Cert.FiltersIdeal.τ).loc Cert.FiltersIdeal.main_arg3)
      ∧ r.2.mem ((c.tc : Thread Cert.FiltersIdeal.nD Cert.FiltersIdeal.τ).loc Cert.FiltersIdeal.main_arg4) = m ((c.tc : Thread Cert.FiltersIdeal.nD Cert.FiltersIdeal.τ).loc Cert.FiltersIdeal.main_arg4)
      ∧ r.2.mem ((c.tc : Thread Cert.FiltersIdeal.nD Cert.FiltersIdeal.τ).loc Cert.FiltersIdeal.main_arg5) = m ((c.tc : Thread Cert.FiltersIdeal.nD Cert.FiltersIdeal.τ).loc Cert.FiltersIdeal.main_arg5)
      ∧ r.2.mem ((c.tc : Thread Cert.FiltersIdeal.nD Cert.FiltersIdeal.τ).loc Cert.FiltersIdeal.main_arg6) = m ((c.tc : Thread Cert.FiltersIdeal.nD Cert.FiltersIdeal.τ).loc Cert.FiltersIdeal.main_arg6)
      ∧ r.2.mem ((c.tc : Thread Cert.FiltersIdeal.nD Cert.FiltersIdeal.τ).loc Cert.FiltersIdeal.main_arg7) = m ((c.tc : Thread Cert.FiltersIdeal.nD Cert.FiltersIdeal.τ).loc Cert.FiltersIdeal.main_arg7))
      ∧ r.2.sem = fun _ => 0)

def quiescent_FiltersRefIdeal [hFiltersRefIdeal : Cert.FiltersRefIdeal.Facts] : Prop :=
  ∀ (m : (ℓ : Loc Cert.FiltersRefIdeal.nD Cert.FiltersRefIdeal.τ Cert.FiltersRefIdeal.sig) → Buf (Elt Ideal) ℓ) (g : Dev Cert.FiltersRefIdeal.nD → PrngReg), Pre_FiltersRefIdeal m →
    θ_run (Cert.FiltersRefIdeal.defs (F := Ideal)) (onTc (τ := Cert.FiltersRefIdeal.τ) (Cert.FiltersRefIdeal.main (F := Ideal))) ⟨m, fun _ => 0, g⟩ (fun r => (∀ c : Dev Cert.FiltersRefIdeal.nD,
      r.2.mem ((c.tc : Thread Cert.FiltersRefIdeal.nD Cert.FiltersRefIdeal.τ).loc Cert.FiltersRefIdeal.main_arg0) = m ((c.tc : Thread Cert.FiltersRefIdeal.nD Cert.FiltersRefIdeal.τ).loc Cert.FiltersRefIdeal.main_arg0)
      ∧ r.2.mem ((c.tc : Thread Cert.FiltersRefIdeal.nD Cert.FiltersRefIdeal.τ).loc Cert.FiltersRefIdeal.main_arg1) = m ((c.tc : Thread Cert.FiltersRefIdeal.nD Cert.FiltersRefIdeal.τ).loc Cert.FiltersRefIdeal.main_arg1)
      ∧ r.2.mem ((c.tc : Thread Cert.FiltersRefIdeal.nD Cert.FiltersRefIdeal.τ).loc Cert.FiltersRefIdeal.main_arg2) = m ((c.tc : Thread Cert.FiltersRefIdeal.nD Cert.FiltersRefIdeal.τ).loc Cert.FiltersRefIdeal.main_arg2)
      ∧ r.2.mem ((c.tc : Thread Cert.FiltersRefIdeal.nD Cert.FiltersRefIdeal.τ).loc Cert.FiltersRefIdeal.main_arg3) = m ((c.tc : Thread Cert.FiltersRefIdeal.nD Cert.FiltersRefIdeal.τ).loc Cert.FiltersRefIdeal.main_arg3)
      ∧ r.2.mem ((c.tc : Thread Cert.FiltersRefIdeal.nD Cert.FiltersRefIdeal.τ).loc Cert.FiltersRefIdeal.main_arg4) = m ((c.tc : Thread Cert.FiltersRefIdeal.nD Cert.FiltersRefIdeal.τ).loc Cert.FiltersRefIdeal.main_arg4)
      ∧ r.2.mem ((c.tc : Thread Cert.FiltersRefIdeal.nD Cert.FiltersRefIdeal.τ).loc Cert.FiltersRefIdeal.main_arg5) = m ((c.tc : Thread Cert.FiltersRefIdeal.nD Cert.FiltersRefIdeal.τ).loc Cert.FiltersRefIdeal.main_arg5)
      ∧ r.2.mem ((c.tc : Thread Cert.FiltersRefIdeal.nD Cert.FiltersRefIdeal.τ).loc Cert.FiltersRefIdeal.main_arg6) = m ((c.tc : Thread Cert.FiltersRefIdeal.nD Cert.FiltersRefIdeal.τ).loc Cert.FiltersRefIdeal.main_arg6)
      ∧ r.2.mem ((c.tc : Thread Cert.FiltersRefIdeal.nD Cert.FiltersRefIdeal.τ).loc Cert.FiltersRefIdeal.main_arg7) = m ((c.tc : Thread Cert.FiltersRefIdeal.nD Cert.FiltersRefIdeal.τ).loc Cert.FiltersRefIdeal.main_arg7))
      ∧ r.2.sem = fun _ => 0)

def quiescent_FiltersRefIdeal_pre_finite_w3 [hFiltersRefIdeal : Cert.FiltersRefIdeal.Facts] [hPre_finite_w3 : Cert.Pre_finite_w3.Facts] : Prop :=
  ∀ (m : (ℓ : Loc Cert.FiltersRefIdeal.nD Cert.FiltersRefIdeal.τ Cert.FiltersRefIdeal.sig) → Buf (Elt Ideal) ℓ) (g : Dev Cert.FiltersRefIdeal.nD → PrngReg), Pre_FiltersRefIdeal_finite_w3 m →
    θ_run (Cert.FiltersRefIdeal.defs (F := Ideal)) (onTc (τ := Cert.FiltersRefIdeal.τ) (Cert.FiltersRefIdeal.main (F := Ideal))) ⟨m, fun _ => 0, g⟩ (fun r => (∀ c : Dev Cert.FiltersRefIdeal.nD,
      r.2.mem ((c.tc : Thread Cert.FiltersRefIdeal.nD Cert.FiltersRefIdeal.τ).loc Cert.FiltersRefIdeal.main_arg0) = m ((c.tc : Thread Cert.FiltersRefIdeal.nD Cert.FiltersRefIdeal.τ).loc Cert.FiltersRefIdeal.main_arg0)
      ∧ r.2.mem ((c.tc : Thread Cert.FiltersRefIdeal.nD Cert.FiltersRefIdeal.τ).loc Cert.FiltersRefIdeal.main_arg1) = m ((c.tc : Thread Cert.FiltersRefIdeal.nD Cert.FiltersRefIdeal.τ).loc Cert.FiltersRefIdeal.main_arg1)
      ∧ r.2.mem ((c.tc : Thread Cert.FiltersRefIdeal.nD Cert.FiltersRefIdeal.τ).loc Cert.FiltersRefIdeal.main_arg2) = m ((c.tc : Thread Cert.FiltersRefIdeal.nD Cert.FiltersRefIdeal.τ).loc Cert.FiltersRefIdeal.main_arg2)
      ∧ r.2.mem ((c.tc : Thread Cert.FiltersRefIdeal.nD Cert.FiltersRefIdeal.τ).loc Cert.FiltersRefIdeal.main_arg3) = m ((c.tc : Thread Cert.FiltersRefIdeal.nD Cert.FiltersRefIdeal.τ).loc Cert.FiltersRefIdeal.main_arg3)
      ∧ r.2.mem ((c.tc : Thread Cert.FiltersRefIdeal.nD Cert.FiltersRefIdeal.τ).loc Cert.FiltersRefIdeal.main_arg4) = m ((c.tc : Thread Cert.FiltersRefIdeal.nD Cert.FiltersRefIdeal.τ).loc Cert.FiltersRefIdeal.main_arg4)
      ∧ r.2.mem ((c.tc : Thread Cert.FiltersRefIdeal.nD Cert.FiltersRefIdeal.τ).loc Cert.FiltersRefIdeal.main_arg5) = m ((c.tc : Thread Cert.FiltersRefIdeal.nD Cert.FiltersRefIdeal.τ).loc Cert.FiltersRefIdeal.main_arg5)
      ∧ r.2.mem ((c.tc : Thread Cert.FiltersRefIdeal.nD Cert.FiltersRefIdeal.τ).loc Cert.FiltersRefIdeal.main_arg6) = m ((c.tc : Thread Cert.FiltersRefIdeal.nD Cert.FiltersRefIdeal.τ).loc Cert.FiltersRefIdeal.main_arg6)
      ∧ r.2.mem ((c.tc : Thread Cert.FiltersRefIdeal.nD Cert.FiltersRefIdeal.τ).loc Cert.FiltersRefIdeal.main_arg7) = m ((c.tc : Thread Cert.FiltersRefIdeal.nD Cert.FiltersRefIdeal.τ).loc Cert.FiltersRefIdeal.main_arg7))
      ∧ r.2.sem = fun _ => 0)

def preserves_Scores_ScoresIdeal : Prop :=
  True

def algebraic_ScoresIdeal_ScoresRefIdeal_pre_experts_in_range [hScoresIdeal : Cert.ScoresIdeal.Facts] [hScoresRefIdeal : Cert.ScoresRefIdeal.Facts] [hPre_experts_in_range : Cert.Pre_experts_in_range.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresRefIdeal.nD Cert.ScoresRefIdeal.τ Cert.ScoresRefIdeal.sig) → Buf (Elt Ideal) ℓ) (g' : Dev Cert.ScoresRefIdeal.nD → PrngReg), Pre_ScoresIdeal_experts_in_range m →
    (∀ c : Dev Cert.ScoresIdeal.nD,
      m' ((c.tc : Thread Cert.ScoresRefIdeal.nD Cert.ScoresRefIdeal.τ).loc Cert.ScoresRefIdeal.main_arg0) = m ((c.tc : Thread Cert.ScoresIdeal.nD Cert.ScoresIdeal.τ).loc Cert.ScoresIdeal.main_arg0)
      ∧ m' ((c.tc : Thread Cert.ScoresRefIdeal.nD Cert.ScoresRefIdeal.τ).loc Cert.ScoresRefIdeal.main_arg1) = m ((c.tc : Thread Cert.ScoresIdeal.nD Cert.ScoresIdeal.τ).loc Cert.ScoresIdeal.main_arg1)
      ∧ m' ((c.tc : Thread Cert.ScoresRefIdeal.nD Cert.ScoresRefIdeal.τ).loc Cert.ScoresRefIdeal.main_arg2) = m ((c.tc : Thread Cert.ScoresIdeal.nD Cert.ScoresIdeal.τ).loc Cert.ScoresIdeal.main_arg2)) →
    ∃ (v0 : (c : Dev Cert.ScoresIdeal.nD) → Buf (Elt Ideal) ((c.tc : Thread Cert.ScoresIdeal.nD Cert.ScoresIdeal.τ).loc Cert.ScoresIdeal.main_v9)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v9) = v0 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ θ_run (Cert.ScoresRefIdeal.defs (F := Ideal)) (onTc (τ := Cert.ScoresRefIdeal.τ) (Cert.ScoresRefIdeal.main (F := Ideal))) ⟨m', fun _ => 0, g'⟩ (fun r => ∀ c : Dev Cert.ScoresRefIdeal.nD,
          r.2.mem ((c.tc : Thread Cert.ScoresRefIdeal.nD Cert.ScoresRefIdeal.τ).loc Cert.ScoresRefIdeal.main_v15) = v0 c
          ∧ r.2.mem ((c.tc : Thread Cert.ScoresRefIdeal.nD Cert.ScoresRefIdeal.τ).loc Cert.ScoresRefIdeal.main_arg0) = m' ((c.tc : Thread Cert.ScoresRefIdeal.nD Cert.ScoresRefIdeal.τ).loc Cert.ScoresRefIdeal.main_arg0)
          ∧ r.2.mem ((c.tc : Thread Cert.ScoresRefIdeal.nD Cert.ScoresRefIdeal.τ).loc Cert.ScoresRefIdeal.main_arg1) = m' ((c.tc : Thread Cert.ScoresRefIdeal.nD Cert.ScoresRefIdeal.τ).loc Cert.ScoresRefIdeal.main_arg1)
          ∧ r.2.mem ((c.tc : Thread Cert.ScoresRefIdeal.nD Cert.ScoresRefIdeal.τ).loc Cert.ScoresRefIdeal.main_arg2) = m' ((c.tc : Thread Cert.ScoresRefIdeal.nD Cert.ScoresRefIdeal.τ).loc Cert.ScoresRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v16)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v16) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v24) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v12_0)) (v1 : (c : Dev Cert.OutProjIdeal.nD) → Buf (Elt Ideal) ((c.tc : Thread Cert.OutProjIdeal.nD Cert.OutProjIdeal.τ).loc Cert.OutProjIdeal.main_v12_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v12_0) = v0 c
          ∧ r.2.mem ((c.tc : Thread Cert.OutProjIdeal.nD Cert.OutProjIdeal.τ).loc Cert.OutProjIdeal.main_v12_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v33) = v0 c
          ∧ r.2.mem ((c.tc : Thread Cert.OutProjRefIdeal.nD Cert.OutProjRefIdeal.τ).loc Cert.OutProjRefIdeal.main_v40) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8))

def preserves_Values_ValuesIdeal : Prop :=
  True

def algebraic_ValuesIdeal_ValuesRefIdeal_pre_chosen_and_finite [hValuesIdeal : Cert.ValuesIdeal.Facts] [hValuesRefIdeal : Cert.ValuesRefIdeal.Facts] [hPre_chosen_and_finite : Cert.Pre_chosen_and_finite.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.ValuesRefIdeal.nD Cert.ValuesRefIdeal.τ Cert.ValuesRefIdeal.sig) → Buf (Elt Ideal) ℓ) (g' : Dev Cert.ValuesRefIdeal.nD → PrngReg), Pre_ValuesIdeal_chosen_and_finite m →
    (∀ c : Dev Cert.ValuesIdeal.nD,
      m' ((c.tc : Thread Cert.ValuesRefIdeal.nD Cert.ValuesRefIdeal.τ).loc Cert.ValuesRefIdeal.main_arg0) = m ((c.tc : Thread Cert.ValuesIdeal.nD Cert.ValuesIdeal.τ).loc Cert.ValuesIdeal.main_arg0)
      ∧ m' ((c.tc : Thread Cert.ValuesRefIdeal.nD Cert.ValuesRefIdeal.τ).loc Cert.ValuesRefIdeal.main_arg1) = m ((c.tc : Thread Cert.ValuesIdeal.nD Cert.ValuesIdeal.τ).loc Cert.ValuesIdeal.main_arg1)
      ∧ m' ((c.tc : Thread Cert.ValuesRefIdeal.nD Cert.ValuesRefIdeal.τ).loc Cert.ValuesRefIdeal.main_arg2) = m ((c.tc : Thread Cert.ValuesIdeal.nD Cert.ValuesIdeal.τ).loc Cert.ValuesIdeal.main_arg2)
      ∧ m' ((c.tc : Thread Cert.ValuesRefIdeal.nD Cert.ValuesRefIdeal.τ).loc Cert.ValuesRefIdeal.main_arg3) = m ((c.tc : Thread Cert.ValuesIdeal.nD Cert.ValuesIdeal.τ).loc Cert.ValuesIdeal.main_arg3)
      ∧ m' ((c.tc : Thread Cert.ValuesRefIdeal.nD Cert.ValuesRefIdeal.τ).loc Cert.ValuesRefIdeal.main_arg4) = m ((c.tc : Thread Cert.ValuesIdeal.nD Cert.ValuesIdeal.τ).loc Cert.ValuesIdeal.main_arg4)
      ∧ m' ((c.tc : Thread Cert.ValuesRefIdeal.nD Cert.ValuesRefIdeal.τ).loc Cert.ValuesRefIdeal.main_arg5) = m ((c.tc : Thread Cert.ValuesIdeal.nD Cert.ValuesIdeal.τ).loc Cert.ValuesIdeal.main_arg5)
      ∧ m' ((c.tc : Thread Cert.ValuesRefIdeal.nD Cert.ValuesRefIdeal.τ).loc Cert.ValuesRefIdeal.main_arg6) = m ((c.tc : Thread Cert.ValuesIdeal.nD Cert.ValuesIdeal.τ).loc Cert.ValuesIdeal.main_arg6)
      ∧ m' ((c.tc : Thread Cert.ValuesRefIdeal.nD Cert.ValuesRefIdeal.τ).loc Cert.ValuesRefIdeal.main_arg7) = m ((c.tc : Thread Cert.ValuesIdeal.nD Cert.ValuesIdeal.τ).loc Cert.ValuesIdeal.main_arg7)) →
    ∃ (v0 : (c : Dev Cert.ValuesIdeal.nD) → Buf (Elt Ideal) ((c.tc : Thread Cert.ValuesIdeal.nD Cert.ValuesIdeal.τ).loc Cert.ValuesIdeal.main_v8)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          r.2.mem ((c.tc : Thread Cert.ValuesIdeal.nD Cert.ValuesIdeal.τ).loc Cert.ValuesIdeal.main_v8) = v0 c
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1)
          ∧ r.2.mem ((c.tc : Thread Cert.ValuesIdeal.nD Cert.ValuesIdeal.τ).loc Cert.ValuesIdeal.main_arg2) = m ((c.tc : Thread Cert.ValuesIdeal.nD Cert.ValuesIdeal.τ).loc Cert.ValuesIdeal.main_arg2)
          ∧ r.2.mem ((c.tc : Thread Cert.ValuesIdeal.nD Cert.ValuesIdeal.τ).loc Cert.ValuesIdeal.main_arg3) = m ((c.tc : Thread Cert.ValuesIdeal.nD Cert.ValuesIdeal.τ).loc Cert.ValuesIdeal.main_arg3)
          ∧ r.2.mem ((c.tc : Thread Cert.ValuesIdeal.nD Cert.ValuesIdeal.τ).loc Cert.ValuesIdeal.main_arg4) = m ((c.tc : Thread Cert.ValuesIdeal.nD Cert.ValuesIdeal.τ).loc Cert.ValuesIdeal.main_arg4)
          ∧ r.2.mem ((c.tc : Thread Cert.ValuesIdeal.nD Cert.ValuesIdeal.τ).loc Cert.ValuesIdeal.main_arg5) = m ((c.tc : Thread Cert.ValuesIdeal.nD Cert.ValuesIdeal.τ).loc Cert.ValuesIdeal.main_arg5)
          ∧ r.2.mem ((c.tc : Thread Cert.ValuesIdeal.nD Cert.ValuesIdeal.τ).loc Cert.ValuesIdeal.main_arg6) = m ((c.tc : Thread Cert.ValuesIdeal.nD Cert.ValuesIdeal.τ).loc Cert.ValuesIdeal.main_arg6)
          ∧ r.2.mem ((c.tc : Thread Cert.ValuesIdeal.nD Cert.ValuesIdeal.τ).loc Cert.ValuesIdeal.main_arg7) = m ((c.tc : Thread Cert.ValuesIdeal.nD Cert.ValuesIdeal.τ).loc Cert.ValuesIdeal.main_arg7))
      ∧ θ_run (Cert.ValuesRefIdeal.defs (F := Ideal)) (onTc (τ := Cert.ValuesRefIdeal.τ) (Cert.ValuesRefIdeal.main (F := Ideal))) ⟨m', fun _ => 0, g'⟩ (fun r => ∀ c : Dev Cert.ValuesRefIdeal.nD,
          r.2.mem ((c.tc : Thread Cert.ValuesRefIdeal.nD Cert.ValuesRefIdeal.τ).loc Cert.ValuesRefIdeal.main_v54) = v0 c
          ∧ r.2.mem ((c.tc : Thread Cert.ValuesRefIdeal.nD Cert.ValuesRefIdeal.τ).loc Cert.ValuesRefIdeal.main_arg0) = m' ((c.tc : Thread Cert.ValuesRefIdeal.nD Cert.ValuesRefIdeal.τ).loc Cert.ValuesRefIdeal.main_arg0)
          ∧ r.2.mem ((c.tc : Thread Cert.ValuesRefIdeal.nD Cert.ValuesRefIdeal.τ).loc Cert.ValuesRefIdeal.main_arg1) = m' ((c.tc : Thread Cert.ValuesRefIdeal.nD Cert.ValuesRefIdeal.τ).loc Cert.ValuesRefIdeal.main_arg1)
          ∧ r.2.mem ((c.tc : Thread Cert.ValuesRefIdeal.nD Cert.ValuesRefIdeal.τ).loc Cert.ValuesRefIdeal.main_arg2) = m' ((c.tc : Thread Cert.ValuesRefIdeal.nD Cert.ValuesRefIdeal.τ).loc Cert.ValuesRefIdeal.main_arg2)
          ∧ r.2.mem ((c.tc : Thread Cert.ValuesRefIdeal.nD Cert.ValuesRefIdeal.τ).loc Cert.ValuesRefIdeal.main_arg3) = m' ((c.tc : Thread Cert.ValuesRefIdeal.nD Cert.ValuesRefIdeal.τ).loc Cert.ValuesRefIdeal.main_arg3)
          ∧ r.2.mem ((c.tc : Thread Cert.ValuesRefIdeal.nD Cert.ValuesRefIdeal.τ).loc Cert.ValuesRefIdeal.main_arg4) = m' ((c.tc : Thread Cert.ValuesRefIdeal.nD Cert.ValuesRefIdeal.τ).loc Cert.ValuesRefIdeal.main_arg4)
          ∧ r.2.mem ((c.tc : Thread Cert.ValuesRefIdeal.nD Cert.ValuesRefIdeal.τ).loc Cert.ValuesRefIdeal.main_arg5) = m' ((c.tc : Thread Cert.ValuesRefIdeal.nD Cert.ValuesRefIdeal.τ).loc Cert.ValuesRefIdeal.main_arg5)
          ∧ r.2.mem ((c.tc : Thread Cert.ValuesRefIdeal.nD Cert.ValuesRefIdeal.τ).loc Cert.ValuesRefIdeal.main_arg6) = m' ((c.tc : Thread Cert.ValuesRefIdeal.nD Cert.ValuesRefIdeal.τ).loc Cert.ValuesRefIdeal.main_arg6)
          ∧ r.2.mem ((c.tc : Thread Cert.ValuesRefIdeal.nD Cert.ValuesRefIdeal.τ).loc Cert.ValuesRefIdeal.main_arg7) = m' ((c.tc : Thread Cert.ValuesRefIdeal.nD Cert.ValuesRefIdeal.τ).loc Cert.ValuesRefIdeal.main_arg7))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)
      ∧ m' ((c.tc : Thread Cert.ModulationRefIdeal.nD Cert.ModulationRefIdeal.τ).loc Cert.ModulationRefIdeal.main_arg3) = m ((c.tc : Thread Cert.ModulationIdeal.nD Cert.ModulationIdeal.τ).loc Cert.ModulationIdeal.main_arg3)) →
    ∃ (v0 : (c : Dev Cert.ModulationIdeal.nD) → Buf (Elt Ideal) ((c.tc : Thread Cert.ModulationIdeal.nD Cert.ModulationIdeal.τ).loc Cert.ModulationIdeal.main_v6)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v6) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v12) = v0 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2)
          ∧ r.2.mem ((c.tc : Thread Cert.ModulationRefIdeal.nD Cert.ModulationRefIdeal.τ).loc Cert.ModulationRefIdeal.main_arg3) = m' ((c.tc : Thread Cert.ModulationRefIdeal.nD Cert.ModulationRefIdeal.τ).loc Cert.ModulationRefIdeal.main_arg3))

def preserves_CtxProj_CtxProjIdeal : Prop :=
  True

def algebraic_CtxProjIdeal_CtxProjRefIdeal [hCtxProjIdeal : Cert.CtxProjIdeal.Facts] [hCtxProjRefIdeal : Cert.CtxProjRefIdeal.Facts] : Prop :=
  ∀ (m : (ℓ : Loc Cert.CtxProjIdeal.nD Cert.CtxProjIdeal.τ Cert.CtxProjIdeal.sig) → Buf (Elt Ideal) ℓ) (g : Dev Cert.CtxProjIdeal.nD → PrngReg)
    (m' : (ℓ : Loc Cert.CtxProjRefIdeal.nD Cert.CtxProjRefIdeal.τ Cert.CtxProjRefIdeal.sig) → Buf (Elt Ideal) ℓ) (g' : Dev Cert.CtxProjRefIdeal.nD → PrngReg), Pre_CtxProjIdeal m →
    (∀ c : Dev Cert.CtxProjIdeal.nD,
      m' ((c.tc : Thread Cert.CtxProjRefIdeal.nD Cert.CtxProjRefIdeal.τ).loc Cert.CtxProjRefIdeal.main_arg0) = m ((c.tc : Thread Cert.CtxProjIdeal.nD Cert.CtxProjIdeal.τ).loc Cert.CtxProjIdeal.main_arg0)
      ∧ m' ((c.tc : Thread Cert.CtxProjRefIdeal.nD Cert.CtxProjRefIdeal.τ).loc Cert.CtxProjRefIdeal.main_arg1) = m ((c.tc : Thread Cert.CtxProjIdeal.nD Cert.CtxProjIdeal.τ).loc Cert.CtxProjIdeal.main_arg1)
      ∧ m' ((c.tc : Thread Cert.CtxProjRefIdeal.nD Cert.CtxProjRefIdeal.τ).loc Cert.CtxProjRefIdeal.main_arg2) = m ((c.tc : Thread Cert.CtxProjIdeal.nD Cert.CtxProjIdeal.τ).loc Cert.CtxProjIdeal.main_arg2)
      ∧ m' ((c.tc : Thread Cert.CtxProjRefIdeal.nD Cert.CtxProjRefIdeal.τ).loc Cert.CtxProjRefIdeal.main_arg3) = m ((c.tc : Thread Cert.CtxProjIdeal.nD Cert.CtxProjIdeal.τ).loc Cert.CtxProjIdeal.main_arg3)) →
    ∃ (v0 : (c : Dev Cert.CtxProjIdeal.nD) → Buf (Elt Ideal) ((c.tc : Thread Cert.CtxProjIdeal.nD Cert.CtxProjIdeal.τ).loc Cert.CtxProjIdeal.main_v11)),
      θ_run (Cert.CtxProjIdeal.defs (F := Ideal)) (onTc (τ := Cert.CtxProjIdeal.τ) (Cert.CtxProjIdeal.main (F := Ideal))) ⟨m, fun _ => 0, g⟩ (fun r => ∀ c : Dev Cert.CtxProjIdeal.nD,
          r.2.mem ((c.tc : Thread Cert.CtxProjIdeal.nD Cert.CtxProjIdeal.τ).loc Cert.CtxProjIdeal.main_v11) = v0 c
          ∧ r.2.mem ((c.tc : Thread Cert.CtxProjIdeal.nD Cert.CtxProjIdeal.τ).loc Cert.CtxProjIdeal.main_arg0) = m ((c.tc : Thread Cert.CtxProjIdeal.nD Cert.CtxProjIdeal.τ).loc Cert.CtxProjIdeal.main_arg0)
          ∧ r.2.mem ((c.tc : Thread Cert.CtxProjIdeal.nD Cert.CtxProjIdeal.τ).loc Cert.CtxProjIdeal.main_arg1) = m ((c.tc : Thread Cert.CtxProjIdeal.nD Cert.CtxProjIdeal.τ).loc Cert.CtxProjIdeal.main_arg1)
          ∧ r.2.mem ((c.tc : Thread Cert.CtxProjIdeal.nD Cert.CtxProjIdeal.τ).loc Cert.CtxProjIdeal.main_arg2) = m ((c.tc : Thread Cert.CtxProjIdeal.nD Cert.CtxProjIdeal.τ).loc Cert.CtxProjIdeal.main_arg2)
          ∧ r.2.mem ((c.tc : Thread Cert.CtxProjIdeal.nD Cert.CtxProjIdeal.τ).loc Cert.CtxProjIdeal.main_arg3) = m ((c.tc : Thread Cert.CtxProjIdeal.nD Cert.CtxProjIdeal.τ).loc Cert.CtxProjIdeal.main_arg3))
      ∧ θ_run (Cert.CtxProjRefIdeal.defs (F := Ideal)) (onTc (τ := Cert.CtxProjRefIdeal.τ) (Cert.CtxProjRefIdeal.main (F := Ideal))) ⟨m', fun _ => 0, g'⟩ (fun r => ∀ c : Dev Cert.CtxProjRefIdeal.nD,
          r.2.mem ((c.tc : Thread Cert.CtxProjRefIdeal.nD Cert.CtxProjRefIdeal.τ).loc Cert.CtxProjRefIdeal.main_v17) = v0 c
          ∧ r.2.mem ((c.tc : Thread Cert.CtxProjRefIdeal.nD Cert.CtxProjRefIdeal.τ).loc Cert.CtxProjRefIdeal.main_arg0) = m' ((c.tc : Thread Cert.CtxProjRefIdeal.nD Cert.CtxProjRefIdeal.τ).loc Cert.CtxProjRefIdeal.main_arg0)
          ∧ r.2.mem ((c.tc : Thread Cert.CtxProjRefIdeal.nD Cert.CtxProjRefIdeal.τ).loc Cert.CtxProjRefIdeal.main_arg1) = m' ((c.tc : Thread Cert.CtxProjRefIdeal.nD Cert.CtxProjRefIdeal.τ).loc Cert.CtxProjRefIdeal.main_arg1)
          ∧ r.2.mem ((c.tc : Thread Cert.CtxProjRefIdeal.nD Cert.CtxProjRefIdeal.τ).loc Cert.CtxProjRefIdeal.main_arg2) = m' ((c.tc : Thread Cert.CtxProjRefIdeal.nD Cert.CtxProjRefIdeal.τ).loc Cert.CtxProjRefIdeal.main_arg2)
          ∧ r.2.mem ((c.tc : Thread Cert.CtxProjRefIdeal.nD Cert.CtxProjRefIdeal.τ).loc Cert.CtxProjRefIdeal.main_arg3) = m' ((c.tc : Thread Cert.CtxProjRefIdeal.nD Cert.CtxProjRefIdeal.τ).loc Cert.CtxProjRefIdeal.main_arg3))

def preserves_Filters_FiltersIdeal : Prop :=
  True

def algebraic_FiltersIdeal_FiltersRefIdeal_pre_finite_w3 [hFiltersIdeal : Cert.FiltersIdeal.Facts] [hFiltersRefIdeal : Cert.FiltersRefIdeal.Facts] [hPre_finite_w3 : Cert.Pre_finite_w3.Facts] : Prop :=
  ∀ (m : (ℓ : Loc Cert.FiltersIdeal.nD Cert.FiltersIdeal.τ Cert.FiltersIdeal.sig) → Buf (Elt Ideal) ℓ) (g : Dev Cert.FiltersIdeal.nD → PrngReg)
    (m' : (ℓ : Loc Cert.FiltersRefIdeal.nD Cert.FiltersRefIdeal.τ Cert.FiltersRefIdeal.sig) → Buf (Elt Ideal) ℓ) (g' : Dev Cert.FiltersRefIdeal.nD → PrngReg), Pre_FiltersIdeal_finite_w3 m →
    (∀ c : Dev Cert.FiltersIdeal.nD,
      m' ((c.tc : Thread Cert.FiltersRefIdeal.nD Cert.FiltersRefIdeal.τ).loc Cert.FiltersRefIdeal.main_arg0) = m ((c.tc : Thread Cert.FiltersIdeal.nD Cert.FiltersIdeal.τ).loc Cert.FiltersIdeal.main_arg0)
      ∧ m' ((c.tc : Thread Cert.FiltersRefIdeal.nD Cert.FiltersRefIdeal.τ).loc Cert.FiltersRefIdeal.main_arg1) = m ((c.tc : Thread Cert.FiltersIdeal.nD Cert.FiltersIdeal.τ).loc Cert.FiltersIdeal.main_arg1)
      ∧ m' ((c.tc : Thread Cert.FiltersRefIdeal.nD Cert.FiltersRefIdeal.τ).loc Cert.FiltersRefIdeal.main_arg2) = m ((c.tc : Thread Cert.FiltersIdeal.nD Cert.FiltersIdeal.τ).loc Cert.FiltersIdeal.main_arg2)
      ∧ m' ((c.tc : Thread Cert.FiltersRefIdeal.nD Cert.FiltersRefIdeal.τ).loc Cert.FiltersRefIdeal.main_arg3) = m ((c.tc : Thread Cert.FiltersIdeal.nD Cert.FiltersIdeal.τ).loc Cert.FiltersIdeal.main_arg3)
      ∧ m' ((c.tc : Thread Cert.FiltersRefIdeal.nD Cert.FiltersRefIdeal.τ).loc Cert.FiltersRefIdeal.main_arg4) = m ((c.tc : Thread Cert.FiltersIdeal.nD Cert.FiltersIdeal.τ).loc Cert.FiltersIdeal.main_arg4)
      ∧ m' ((c.tc : Thread Cert.FiltersRefIdeal.nD Cert.FiltersRefIdeal.τ).loc Cert.FiltersRefIdeal.main_arg5) = m ((c.tc : Thread Cert.FiltersIdeal.nD Cert.FiltersIdeal.τ).loc Cert.FiltersIdeal.main_arg5)
      ∧ m' ((c.tc : Thread Cert.FiltersRefIdeal.nD Cert.FiltersRefIdeal.τ).loc Cert.FiltersRefIdeal.main_arg6) = m ((c.tc : Thread Cert.FiltersIdeal.nD Cert.FiltersIdeal.τ).loc Cert.FiltersIdeal.main_arg6)
      ∧ m' ((c.tc : Thread Cert.FiltersRefIdeal.nD Cert.FiltersRefIdeal.τ).loc Cert.FiltersRefIdeal.main_arg7) = m ((c.tc : Thread Cert.FiltersIdeal.nD Cert.FiltersIdeal.τ).loc Cert.FiltersIdeal.main_arg7)) →
    ∃ (v0 : (c : Dev Cert.FiltersIdeal.nD) → Buf (Elt Ideal) ((c.tc : Thread Cert.FiltersIdeal.nD Cert.FiltersIdeal.τ).loc Cert.FiltersIdeal.main_v41)),
      θ_run (Cert.FiltersIdeal.defs (F := Ideal)) (onTc (τ := Cert.FiltersIdeal.τ) (Cert.FiltersIdeal.main (F := Ideal))) ⟨m, fun _ => 0, g⟩ (fun r => ∀ c : Dev Cert.FiltersIdeal.nD,
          r.2.mem ((c.tc : Thread Cert.FiltersIdeal.nD Cert.FiltersIdeal.τ).loc Cert.FiltersIdeal.main_v41) = v0 c
          ∧ r.2.mem ((c.tc : Thread Cert.FiltersIdeal.nD Cert.FiltersIdeal.τ).loc Cert.FiltersIdeal.main_arg0) = m ((c.tc : Thread Cert.FiltersIdeal.nD Cert.FiltersIdeal.τ).loc Cert.FiltersIdeal.main_arg0)
          ∧ r.2.mem ((c.tc : Thread Cert.FiltersIdeal.nD Cert.FiltersIdeal.τ).loc Cert.FiltersIdeal.main_arg1) = m ((c.tc : Thread Cert.FiltersIdeal.nD Cert.FiltersIdeal.τ).loc Cert.FiltersIdeal.main_arg1)
          ∧ r.2.mem ((c.tc : Thread Cert.FiltersIdeal.nD Cert.FiltersIdeal.τ).loc Cert.FiltersIdeal.main_arg2) = m ((c.tc : Thread Cert.FiltersIdeal.nD Cert.FiltersIdeal.τ).loc Cert.FiltersIdeal.main_arg2)
          ∧ r.2.mem ((c.tc : Thread Cert.FiltersIdeal.nD Cert.FiltersIdeal.τ).loc Cert.FiltersIdeal.main_arg3) = m ((c.tc : Thread Cert.FiltersIdeal.nD Cert.FiltersIdeal.τ).loc Cert.FiltersIdeal.main_arg3)
          ∧ r.2.mem ((c.tc : Thread Cert.FiltersIdeal.nD Cert.FiltersIdeal.τ).loc Cert.FiltersIdeal.main_arg4) = m ((c.tc : Thread Cert.FiltersIdeal.nD Cert.FiltersIdeal.τ).loc Cert.FiltersIdeal.main_arg4)
          ∧ r.2.mem ((c.tc : Thread Cert.FiltersIdeal.nD Cert.FiltersIdeal.τ).loc Cert.FiltersIdeal.main_arg5) = m ((c.tc : Thread Cert.FiltersIdeal.nD Cert.FiltersIdeal.τ).loc Cert.FiltersIdeal.main_arg5)
          ∧ r.2.mem ((c.tc : Thread Cert.FiltersIdeal.nD Cert.FiltersIdeal.τ).loc Cert.FiltersIdeal.main_arg6) = m ((c.tc : Thread Cert.FiltersIdeal.nD Cert.FiltersIdeal.τ).loc Cert.FiltersIdeal.main_arg6)
          ∧ r.2.mem ((c.tc : Thread Cert.FiltersIdeal.nD Cert.FiltersIdeal.τ).loc Cert.FiltersIdeal.main_arg7) = m ((c.tc : Thread Cert.FiltersIdeal.nD Cert.FiltersIdeal.τ).loc Cert.FiltersIdeal.main_arg7))
      ∧ θ_run (Cert.FiltersRefIdeal.defs (F := Ideal)) (onTc (τ := Cert.FiltersRefIdeal.τ) (Cert.FiltersRefIdeal.main (F := Ideal))) ⟨m', fun _ => 0, g'⟩ (fun r => ∀ c : Dev Cert.FiltersRefIdeal.nD,
          r.2.mem ((c.tc : Thread Cert.FiltersRefIdeal.nD Cert.FiltersRefIdeal.τ).loc Cert.FiltersRefIdeal.main_v62) = v0 c
          ∧ r.2.mem ((c.tc : Thread Cert.FiltersRefIdeal.nD Cert.FiltersRefIdeal.τ).loc Cert.FiltersRefIdeal.main_arg0) = m' ((c.tc : Thread Cert.FiltersRefIdeal.nD Cert.FiltersRefIdeal.τ).loc Cert.FiltersRefIdeal.main_arg0)
          ∧ r.2.mem ((c.tc : Thread Cert.FiltersRefIdeal.nD Cert.FiltersRefIdeal.τ).loc Cert.FiltersRefIdeal.main_arg1) = m' ((c.tc : Thread Cert.FiltersRefIdeal.nD Cert.FiltersRefIdeal.τ).loc Cert.FiltersRefIdeal.main_arg1)
          ∧ r.2.mem ((c.tc : Thread Cert.FiltersRefIdeal.nD Cert.FiltersRefIdeal.τ).loc Cert.FiltersRefIdeal.main_arg2) = m' ((c.tc : Thread Cert.FiltersRefIdeal.nD Cert.FiltersRefIdeal.τ).loc Cert.FiltersRefIdeal.main_arg2)
          ∧ r.2.mem ((c.tc : Thread Cert.FiltersRefIdeal.nD Cert.FiltersRefIdeal.τ).loc Cert.FiltersRefIdeal.main_arg3) = m' ((c.tc : Thread Cert.FiltersRefIdeal.nD Cert.FiltersRefIdeal.τ).loc Cert.FiltersRefIdeal.main_arg3)
          ∧ r.2.mem ((c.tc : Thread Cert.FiltersRefIdeal.nD Cert.FiltersRefIdeal.τ).loc Cert.FiltersRefIdeal.main_arg4) = m' ((c.tc : Thread Cert.FiltersRefIdeal.nD Cert.FiltersRefIdeal.τ).loc Cert.FiltersRefIdeal.main_arg4)
          ∧ r.2.mem ((c.tc : Thread Cert.FiltersRefIdeal.nD Cert.FiltersRefIdeal.τ).loc Cert.FiltersRefIdeal.main_arg5) = m' ((c.tc : Thread Cert.FiltersRefIdeal.nD Cert.FiltersRefIdeal.τ).loc Cert.FiltersRefIdeal.main_arg5)
          ∧ r.2.mem ((c.tc : Thread Cert.FiltersRefIdeal.nD Cert.FiltersRefIdeal.τ).loc Cert.FiltersRefIdeal.main_arg6) = m' ((c.tc : Thread Cert.FiltersRefIdeal.nD Cert.FiltersRefIdeal.τ).loc Cert.FiltersRefIdeal.main_arg6)
          ∧ r.2.mem ((c.tc : Thread Cert.FiltersRefIdeal.nD Cert.FiltersRefIdeal.τ).loc Cert.FiltersRefIdeal.main_arg7) = m' ((c.tc : Thread Cert.FiltersRefIdeal.nD Cert.FiltersRefIdeal.τ).loc Cert.FiltersRefIdeal.main_arg7))

def Claim : Prop :=
  ∃ (hScores : Cert.Scores.Facts) (hScoresIdeal : Cert.ScoresIdeal.Facts) (hScoresRefIdeal : Cert.ScoresRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hValues : Cert.Values.Facts) (hValuesIdeal : Cert.ValuesIdeal.Facts) (hValuesRefIdeal : Cert.ValuesRefIdeal.Facts) (hModulation : Cert.Modulation.Facts) (hModulationIdeal : Cert.ModulationIdeal.Facts) (hModulationRefIdeal : Cert.ModulationRefIdeal.Facts) (hCtxProj : Cert.CtxProj.Facts) (hCtxProjIdeal : Cert.CtxProjIdeal.Facts) (hCtxProjRefIdeal : Cert.CtxProjRefIdeal.Facts) (hFilters : Cert.Filters.Facts) (hFiltersIdeal : Cert.FiltersIdeal.Facts) (hFiltersRefIdeal : Cert.FiltersRefIdeal.Facts) (hPre_experts_in_range : Cert.Pre_experts_in_range.Facts) (hPre_chosen_and_finite : Cert.Pre_chosen_and_finite.Facts) (hPre_finite_w3 : Cert.Pre_finite_w3.Facts),
    quiescent_Scores (hScores := hScores)
    ∧ quiescent_ScoresIdeal (hScoresIdeal := hScoresIdeal)
    ∧ quiescent_ScoresIdeal_pre_experts_in_range (hScoresIdeal := hScoresIdeal) (hPre_experts_in_range := hPre_experts_in_range)
    ∧ quiescent_ScoresRefIdeal (hScoresRefIdeal := hScoresRefIdeal)
    ∧ quiescent_ScoresRefIdeal_pre_experts_in_range (hScoresRefIdeal := hScoresRefIdeal) (hPre_experts_in_range := hPre_experts_in_range)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Values (hValues := hValues)
    ∧ quiescent_ValuesIdeal (hValuesIdeal := hValuesIdeal)
    ∧ quiescent_ValuesIdeal_pre_chosen_and_finite (hValuesIdeal := hValuesIdeal) (hPre_chosen_and_finite := hPre_chosen_and_finite)
    ∧ quiescent_ValuesRefIdeal (hValuesRefIdeal := hValuesRefIdeal)
    ∧ quiescent_ValuesRefIdeal_pre_chosen_and_finite (hValuesRefIdeal := hValuesRefIdeal) (hPre_chosen_and_finite := hPre_chosen_and_finite)
    ∧ quiescent_Modulation (hModulation := hModulation)
    ∧ quiescent_ModulationIdeal (hModulationIdeal := hModulationIdeal)
    ∧ quiescent_ModulationRefIdeal (hModulationRefIdeal := hModulationRefIdeal)
    ∧ quiescent_CtxProj (hCtxProj := hCtxProj)
    ∧ quiescent_CtxProjIdeal (hCtxProjIdeal := hCtxProjIdeal)
    ∧ quiescent_CtxProjRefIdeal (hCtxProjRefIdeal := hCtxProjRefIdeal)
    ∧ quiescent_Filters (hFilters := hFilters)
    ∧ quiescent_FiltersIdeal (hFiltersIdeal := hFiltersIdeal)
    ∧ quiescent_FiltersIdeal_pre_finite_w3 (hFiltersIdeal := hFiltersIdeal) (hPre_finite_w3 := hPre_finite_w3)
    ∧ quiescent_FiltersRefIdeal (hFiltersRefIdeal := hFiltersRefIdeal)
    ∧ quiescent_FiltersRefIdeal_pre_finite_w3 (hFiltersRefIdeal := hFiltersRefIdeal) (hPre_finite_w3 := hPre_finite_w3)
    ∧ preserves_Scores_ScoresIdeal
    ∧ algebraic_ScoresIdeal_ScoresRefIdeal_pre_experts_in_range (hScoresIdeal := hScoresIdeal) (hScoresRefIdeal := hScoresRefIdeal) (hPre_experts_in_range := hPre_experts_in_range)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Values_ValuesIdeal
    ∧ algebraic_ValuesIdeal_ValuesRefIdeal_pre_chosen_and_finite (hValuesIdeal := hValuesIdeal) (hValuesRefIdeal := hValuesRefIdeal) (hPre_chosen_and_finite := hPre_chosen_and_finite)
    ∧ preserves_Modulation_ModulationIdeal
    ∧ algebraic_ModulationIdeal_ModulationRefIdeal (hModulationIdeal := hModulationIdeal) (hModulationRefIdeal := hModulationRefIdeal)
    ∧ preserves_CtxProj_CtxProjIdeal
    ∧ algebraic_CtxProjIdeal_CtxProjRefIdeal (hCtxProjIdeal := hCtxProjIdeal) (hCtxProjRefIdeal := hCtxProjRefIdeal)
    ∧ preserves_Filters_FiltersIdeal
    ∧ algebraic_FiltersIdeal_FiltersRefIdeal_pre_finite_w3 (hFiltersIdeal := hFiltersIdeal) (hFiltersRefIdeal := hFiltersRefIdeal) (hPre_finite_w3 := hPre_finite_w3)
-- ==== Pre_chosen_and_finite.lean ====
abbrev S2x16384x128 : Shape := ⟨3, ![2, 16384, 128]⟩
abbrev S16384x128 : Shape := ⟨2, ![16384, 128]⟩
abbrev S1x16384x1024 : Shape := ⟨3, ![1, 16384, 1024]⟩
abbrev S16384x1024 : Shape := ⟨2, ![16384, 1024]⟩
abbrev S4x1x1024 : Shape := ⟨3, ![4, 1, 1024]⟩
abbrev S1x1024 : Shape := ⟨2, ![1, 1024]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S2x16384x128 : S_.BroadcastsInDim S2x16384x128 (![] : Fin 0 → Fin S2x16384x128.rank)
  reducesTo_S2x16384x128_S_d0_1_2 : S2x16384x128.ReducesTo [0, 1, 2] S_
  bcast_S_S1x16384x1024 : S_.BroadcastsInDim S1x16384x1024 (![] : Fin 0 → Fin S1x16384x1024.rank)
  reducesTo_S1x16384x1024_S_d0_1_2 : S1x16384x1024.ReducesTo [0, 1, 2] S_

variable [Facts]

def fn_part1 {F : FTy → Type} [FloatOps F] (main_v15 : IVec S_ 1) (main_v16 : FVec F S1x16384x1024 .f32) : IVec S_ 1 :=
  let main_cst_5 : FVec F S_ .f32 := constant S_ .f32 0x7F800000#32
  let main_v17 : FVec F S1x16384x1024 .f32 := broadcastInDim S1x16384x1024 ![] bcast_S_S1x16384x1024 main_cst_5
  let main_v18 : IVec S1x16384x1024 1 := cmpf .olt main_v16 main_v17
  let main_c_6 : IVec S_ 1 := constantI S_ 1 1#1
  let main_v19 : IVec S_ 1 := (fun x v => Host.reduce IntOp.andi x v reducesTo_S1x16384x1024_S_d0_1_2 h_S_) main_v18 main_c_6
  let main_v20 : IVec S_ 1 := andi main_v15 main_v19
  main_v20

def fn {F : FTy → Type} [FloatOps F] (main_arg0 : FVec F S2x16384x128 .f32) (main_arg1 : IVec S16384x128 32) (main_arg2 : FVec F S16384x128 .f32) (main_arg3 : FVec F S1x16384x1024 .f32) (main_arg4 : FVec F S16384x1024 .f32) (main_arg5 : FVec F S4x1x1024 .f32) (main_arg6 : FVec F S1x1024 .f32) (main_arg7 : FVec F S1x1024 .f32) : IVec S_ 1 :=
  let main_c : IVec S_ 32 := constantI S_ 32 0#32
  let main_v0 : IVec S16384x128 32 := broadcastInDim S16384x128 ![] bcast_S_S16384x128 main_c
  let main_v1 : IVec S16384x128 1 := cmpi .sge main_arg1 main_v0
  let main_c_0 : IVec S_ 32 := constantI S_ 32 16384#32
  let main_v2 : IVec S16384x128 32 := broadcastInDim S16384x128 ![] bcast_S_S16384x128 main_c_0
  let main_v3 : IVec S16384x128 1 := cmpi .slt main_arg1 main_v2
  let main_v4 : IVec S16384x128 1 := andi main_v1 main_v3
  let main_c_1 : IVec S_ 1 := constantI S_ 1 1#1
  let main_v5 : IVec S_ 1 := (fun x v => Host.reduce IntOp.andi x v reducesTo_S16384x128_S_d0_1 h_S_) main_v4 main_c_1
  let main_v6 : FVec F S2x16384x128 .f32 := Host.absf main_arg0
  let main_cst : FVec F S_ .f32 := constant S_ .f32 0x7F800000#32
  let main_v7 : FVec F S2x16384x128 .f32 := broadcastInDim S2x16384x128 ![] bcast_S_S2x16384x128 main_cst
  let main_v8 : IVec S2x16384x128 1 := cmpf .olt main_v6 main_v7
  let main_c_2 : IVec S_ 1 := constantI S_ 1 1#1
  let main_v9 : IVec S_ 1 := (fun x v => Host.reduce IntOp.andi x v reducesTo_S2x16384x128_S_d0_1_2 h_S_) main_v8 main_c_2
  let main_v10 : IVec S_ 1 := andi main_v5 main_v9
  let main_v11 : FVec F S16384x128 .f32 := Host.absf main_arg2
  let main_cst_3 : FVec F S_ .f32 := constant S_ .f32 0x7F800000#32
  let main_v12 : FVec F S16384x128 .f32 := broadcastInDim S16384x128 ![] bcast_S_S16384x128 main_cst_3
  let main_v13 : IVec S16384x128 1 := cmpf .olt main_v11 main_v12
  let main_c_4 : IVec S_ 1 := constantI S_ 1 1#1
  let main_v14 : IVec S_ 1 := (fun x v => Host.reduce IntOp.andi x v reducesTo_S16384x128_S_d0_1 h_S_) main_v13 main_c_4
  let main_v15 : IVec S_ 1 := andi main_v10 main_v14
  let main_v16 : FVec F S1x16384x1024 .f32 := Host.absf main_arg3
  fn_part1 (F := F) main_v15 main_v16
-- ==== Pre_experts_in_range.lean ====
abbrev S16384x1024 : Shape := ⟨2, ![16384, 1024]⟩
abbrev S16384x128 : Shape := ⟨2, ![16384, 128]⟩
abbrev S1x16384x1024 : Shape := ⟨3, ![1, 16384, 1024]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x1024 .f32) (main_arg1 : IVec S16384x128 32) (main_arg2 : FVec F S1x16384x1024 .f32) : IVec S_ 1 :=
  let main_c : IVec S_ 32 := constantI S_ 32 0#32
  let main_v0 : IVec S16384x128 32 := broadcastInDim S16384x128 ![] bcast_S_S16384x128 main_c
  let main_v1 : IVec S16384x128 1 := cmpi .sge main_arg1 main_v0
  let main_c_0 : IVec S_ 32 := constantI S_ 32 16384#32
  let main_v2 : IVec S16384x128 32 := broadcastInDim S16384x128 ![] bcast_S_S16384x128 main_c_0
  let main_v3 : IVec S16384x128 1 := cmpi .slt main_arg1 main_v2
  let main_v4 : IVec S16384x128 1 := andi main_v1 main_v3
  let main_c_1 : IVec S_ 1 := constantI S_ 1 1#1
  let main_v5 : IVec S_ 1 := (fun x v => Host.reduce IntOp.andi x v reducesTo_S16384x128_S_d0_1 h_S_) main_v4 main_c_1
  main_v5
-- ==== Pre_finite_w3.lean ====
abbrev S1x17x64 : Shape := ⟨3, ![1, 17, 64]⟩
abbrev S1x64 : Shape := ⟨2, ![1, 64]⟩
abbrev S1x64x64 : Shape := ⟨3, ![1, 64, 64]⟩
abbrev S1x64x2048 : Shape := ⟨3, ![1, 64, 2048]⟩
abbrev S1x2048 : Shape := ⟨2, ![1, 2048]⟩
abbrev S_ : Shape := ⟨0, ![]⟩

class Facts : Prop where
  bcast_S_S1x64x2048 : S_.BroadcastsInDim S1x64x2048 (![] : Fin 0 → Fin S1x64x2048.rank)
  reducesTo_S1x64x2048_S_d0_1_2 : S1x64x2048.ReducesTo [0, 1, 2] S_
  h_S_ : 0 < S_.numel

variable [Facts]

def fn {F : FTy → Type} [FloatOps F] (main_arg0 : FVec F S1x17x64 .f32) (main_arg1 : FVec F S1x64 .f32) (main_arg2 : FVec F S1x64 .f32) (main_arg3 : FVec F S1x64x64 .f32) (main_arg4 : FVec F S1x64 .f32) (main_arg5 : FVec F S1x64 .f32) (main_arg6 : FVec F S1x64x2048 .f32) (main_arg7 : FVec F S1x2048 .f32) : IVec S_ 1 :=
  let main_v0 : FVec F S1x64x2048 .f32 := Host.absf main_arg6
  let main_cst : FVec F S_ .f32 := constant S_ .f32 0x7F800000#32
  let main_v1 : FVec F S1x64x2048 .f32 := broadcastInDim S1x64x2048 ![] bcast_S_S1x64x2048 main_cst
  let main_v2 : IVec S1x64x2048 1 := cmpf .olt main_v0 main_v1
  let main_c : IVec S_ 1 := constantI S_ 1 1#1
  let main_v3 : IVec S_ 1 := (fun x v => Host.reduce IntOp.andi x v reducesTo_S1x64x2048_S_d0_1_2 h_S_) main_v2 main_c
  main_v3
-- ==== Scores.lean ====
abbrev S16384x1024 : Shape := ⟨2, ![16384, 1024]⟩
abbrev S16384x128 : Shape := ⟨2, ![16384, 128]⟩
abbrev S1x16384x1024 : Shape := ⟨3, ![1, 16384, 1024]⟩
abbrev S_ : Shape := ⟨0, ![]⟩
abbrev S2x16384x128 : Shape := ⟨3, ![2, 16384, 128]⟩
abbrev S512x1024 : Shape := ⟨2, ![512, 1024]⟩
abbrev S512x128 : Shape := ⟨2, ![512, 128]⟩
abbrev S8192x1024 : Shape := ⟨2, ![8192, 1024]⟩
abbrev S1x512x128 : Shape := ⟨3, ![1, 512, 128]⟩
abbrev S512x8192 : Shape := ⟨2, ![512, 8192]⟩
abbrev S512x128x1 : Shape := ⟨3, ![512, 128, 1]⟩

abbrev nBuf : Space → Nat
  | .hbm => 15
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x128, .i32⟩
  | .hbm, ⟨2, _⟩ => ⟨S1x16384x1024, .f32⟩
  | .hbm, ⟨3, _⟩ => ⟨S_, .i32⟩
  | .hbm, ⟨4, _⟩ => ⟨S16384x128, .i32⟩
  | .hbm, ⟨5, _⟩ => ⟨S16384x128, .i32⟩
  | .hbm, ⟨6, _⟩ => ⟨S16384x128, .f32⟩
  | .hbm, ⟨7, _⟩ => ⟨S_, .i32⟩
  | .hbm, ⟨8, _⟩ => ⟨S16384x128, .i32⟩
  | .hbm, ⟨9, _⟩ => ⟨S16384x128, .i32⟩
  | .hbm, ⟨10, _⟩ => ⟨S16384x128, .f32⟩
  | .hbm, ⟨11, _⟩ => ⟨S16384x1024, .bf16⟩
  | .hbm, ⟨12, _⟩ => ⟨S16384x1024, .f32⟩
  | .hbm, ⟨13, _⟩ => ⟨S16384x1024, .bf16⟩
  | .hbm, ⟨14, _⟩ => ⟨S2x16384x128, .f32⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S8192x1024, .bf16⟩
  | .local _ .vmem, ⟨7, _⟩ => ⟨S8192x1024, .bf16⟩
  | .local _ .vmem, ⟨8, _⟩ => ⟨S1x512x128, .f32⟩
  | .local _ .vmem, ⟨9, _⟩ => ⟨S1x512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8192x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ScoresRefIdeal.lean ====
abbrev S16384x1024 : Shape := ⟨2, ![16384, 1024]⟩
abbrev S16384x128 : Shape := ⟨2, ![16384, 128]⟩
abbrev S1x16384x1024 : Shape := ⟨3, ![1, 16384, 1024]⟩
abbrev S_ : Shape := ⟨0, ![]⟩
abbrev S16384x128x1 : Shape := ⟨3, ![16384, 128, 1]⟩
abbrev S16384x128x1024 : Shape := ⟨3, ![16384, 128, 1024]⟩
abbrev S1x16384x128 : Shape := ⟨3, ![1, 16384, 128]⟩
abbrev S2x16384x128 : Shape := ⟨3, ![2, 16384, 128]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x128, .i32⟩
  | .hbm, ⟨2, _⟩ => ⟨S1x16384x1024, .f32⟩
  | .hbm, ⟨3, _⟩ => ⟨S16384x1024, .f32⟩
  | .hbm, ⟨4, _⟩ => ⟨S_, .i32⟩
  | .hbm, ⟨5, _⟩ => ⟨S16384x128, .i32⟩
  | .hbm, ⟨6, _⟩ => ⟨S16384x128, .i1⟩
  | .hbm, ⟨7, _⟩ => ⟨S_, .i32⟩
  | .hbm, ⟨8, _⟩ => ⟨S16384x128, .i32⟩
  | .hbm, ⟨9, _⟩ => ⟨S16384x128, .i32⟩
  | .hbm, ⟨10, _⟩ => ⟨S16384x128, .i32⟩
  | .hbm, ⟨11, _⟩ => ⟨S16384x128x1, .i32⟩
  | .hbm, ⟨12, _⟩ => ⟨S16384x128x1024, .f32⟩
  | .hbm, ⟨13, _⟩ => ⟨S16384x128, .f32⟩
  | .hbm, ⟨14, _⟩ => ⟨S_, .i32⟩
  | .hbm, ⟨15, _⟩ => ⟨S16384x128, .i32⟩
  | .hbm, ⟨16, _⟩ => ⟨S16384x128, .i1⟩
  | .hbm, ⟨17, _⟩ => ⟨S_, .f32⟩
  | .hbm, ⟨18, _⟩ => ⟨S_, .f32⟩
  | .hbm, ⟨19, _⟩ => ⟨S16384x128, .f32⟩
  | .hbm, ⟨20, _⟩ => ⟨S16384x128, .f32⟩
  | .hbm, ⟨21, _⟩ => ⟨S_, .f32⟩
  | .hbm, ⟨22, _⟩ => ⟨S_, .f32⟩
  | .hbm, ⟨23, _⟩ => ⟨S16384x128, .f32⟩
  | .hbm, ⟨24, _⟩ => ⟨S16384x128, .f32⟩
  | .hbm, ⟨25, _⟩ => ⟨S1x16384x128, .f32⟩
  | .hbm, ⟨26, _⟩ => ⟨S1x16384x128, .f32⟩
  | .hbm, ⟨27, _⟩ => ⟨S2x16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_cst_2 : Ref sig .tc := ⟨.hbm, 21, rfl⟩
abbrev main_call1_v0 : Ref sig .tc := ⟨.hbm, 22, rfl⟩
abbrev main_call1_v1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== InProj.lean ====
abbrev S4x4096x1024 : Shape := ⟨3, ![4, 4096, 1024]⟩
abbrev S4x1x1024 : Shape := ⟨3, ![4, 1, 1024]⟩
abbrev S1x1024x2304 : Shape := ⟨3, ![1, 1024, 2304]⟩
abbrev S1024x2304 : Shape := ⟨2, ![1024, 2304]⟩
abbrev S1024x512 : Shape := ⟨2, ![1024, 512]⟩
abbrev S1024x8x64 : Shape := ⟨3, ![1024, 8, 64]⟩
abbrev S_ : Shape := ⟨0, ![]⟩
abbrev S1024x8x128 : Shape := ⟨3, ![1024, 8, 128]⟩
abbrev S1024x1024 : Shape := ⟨2, ![1024, 1024]⟩
abbrev S1024x128 : Shape := ⟨2, ![1024, 128]⟩
abbrev S1024x2x64 : Shape := ⟨3, ![1024, 2, 64]⟩
abbrev S1024x2x128 : Shape := ⟨3, ![1024, 2, 128]⟩
abbrev S1024x256 : Shape := ⟨2, ![1024, 256]⟩
abbrev S1024x1536 : Shape := ⟨2, ![1024, 1536]⟩
abbrev S1024x3072 : Shape := ⟨2, ![1024, 3072]⟩
abbrev S4x4096x3072 : Shape := ⟨3, ![4, 4096, 3072]⟩
abbrev S1x512x1024 : Shape := ⟨3, ![1, 512, 1024]⟩
abbrev S1x1x1024 : Shape := ⟨3, ![1, 1, 1024]⟩
abbrev S1x512x3072 : Shape := ⟨3, ![1, 512, 3072]⟩
abbrev S512x1024 : Shape := ⟨2, ![512, 1024]⟩
abbrev S1x1024 : Shape := ⟨2, ![1, 1024]⟩
abbrev S512x3072 : Shape := ⟨2, ![512, 3072]⟩

abbrev nBuf : Space → Nat
  | .hbm => 27
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1x1024x2304, .f32⟩
  | .hbm, ⟨4, _⟩ => ⟨S1024x2304, .f32⟩
  | .hbm, ⟨5, _⟩ => ⟨S1024x512, .f32⟩
  | .hbm, ⟨6, _⟩ => ⟨S1024x8x64, .f32⟩
  | .hbm, ⟨7, _⟩ => ⟨S_, .i32⟩
  | .hbm, ⟨8, _⟩ => ⟨S_, .f32⟩
  | .hbm, ⟨9, _⟩ => ⟨S1024x8x128, .f32⟩
  | .hbm, ⟨10, _⟩ => ⟨S1024x1024, .f32⟩
  | .hbm, ⟨11, _⟩ => ⟨S1024x128, .f32⟩
  | .hbm, ⟨12, _⟩ => ⟨S1024x2x64, .f32⟩
  | .hbm, ⟨13, _⟩ => ⟨S_, .i32⟩
  | .hbm, ⟨14, _⟩ => ⟨S_, .f32⟩
  | .hbm, ⟨15, _⟩ => ⟨S1024x2x128, .f32⟩
  | .hbm, ⟨16, _⟩ => ⟨S1024x256, .f32⟩
  | .hbm, ⟨17, _⟩ => ⟨S1024x128, .f32⟩
  | .hbm, ⟨18, _⟩ => ⟨S1024x2x64, .f32⟩
  | .hbm, ⟨19, _⟩ => ⟨S_, .i32⟩
  | .hbm, ⟨20, _⟩ => ⟨S_, .f32⟩
  | .hbm, ⟨21, _⟩ => ⟨S1024x2x128, .f32⟩
  | .hbm, ⟨22, _⟩ => ⟨S1024x256, .f32⟩
  | .hbm, ⟨23, _⟩ => ⟨S1024x1536, .f32⟩
  | .hbm, ⟨24, _⟩ => ⟨S1024x3072, .f32⟩
  | .hbm, ⟨25, _⟩ => ⟨S1024x3072, .bf16⟩
  | .hbm, ⟨26, _⟩ => ⟨S4x4096x3072, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3072, .bf16⟩
  | .local _ .vmem, ⟨7, _⟩ => ⟨S1x512x3072, .f32⟩
  | .local _ .vmem, ⟨8, _⟩ => ⟨S1x512x3072, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_call2_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S4x4096x1024 : Shape := ⟨3, ![4, 4096, 1024]⟩
abbrev S4x1x1024 : Shape := ⟨3, ![4, 1, 1024]⟩
abbrev S1x1024x2304 : Shape := ⟨3, ![1, 1024, 2304]⟩
abbrev S_ : Shape := ⟨0, ![]⟩
abbrev S1024x2304 : Shape := ⟨2, ![1024, 2304]⟩
abbrev S1024x1536 : Shape := ⟨2, ![1024, 1536]⟩
abbrev S4x4096x1536 : Shape := ⟨3, ![4, 4096, 1536]⟩
abbrev S1024x512 : Shape := ⟨2, ![1024, 512]⟩
abbrev S4x4096x512 : Shape := ⟨3, ![4, 4096, 512]⟩
abbrev S4x4096x8x64 : Shape := ⟨4, ![4, 4096, 8, 64]⟩
abbrev S4x4096x8x128 : Shape := ⟨4, ![4, 4096, 8, 128]⟩
abbrev S1024x128 : Shape := ⟨2, ![1024, 128]⟩
abbrev S4x4096x128 : Shape := ⟨3, ![4, 4096, 128]⟩
abbrev S4x4096x2x64 : Shape := ⟨4, ![4, 4096, 2, 64]⟩
abbrev S4x4096x2x128 : Shape := ⟨4, ![4, 4096, 2, 128]⟩
abbrev S4x4096x256 : Shape := ⟨3, ![4, 4096, 256]⟩
abbrev S4x4096x3072 : Shape := ⟨3, ![4, 4096, 3072]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1x1024x2304, .f32⟩
  | .hbm, ⟨4, _⟩ => ⟨S_, .f32⟩
  | .hbm, ⟨5, _⟩ => ⟨S4x1x1024, .f32⟩
  | .hbm, ⟨6, _⟩ => ⟨S4x1x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S1024x2304, .f32⟩
  | .hbm, ⟨12, _⟩ => ⟨S1024x1536, .f32⟩
  | .hbm, ⟨13, _⟩ => ⟨S4x4096x1536, .f32⟩
  | .hbm, ⟨14, _⟩ => ⟨S1024x512, .f32⟩
  | .hbm, ⟨15, _⟩ => ⟨S4x4096x512, .f32⟩
  | .hbm, ⟨16, _⟩ => ⟨S4x4096x8x64, .f32⟩
  | .hbm, ⟨17, _⟩ => ⟨S_, .i32⟩
  | .hbm, ⟨18, _⟩ => ⟨S_, .f32⟩
  | .hbm, ⟨19, _⟩ => ⟨S4x4096x8x128, .f32⟩
  | .hbm, ⟨20, _⟩ => ⟨S4x4096x1024, .f32⟩
  | .hbm, ⟨21, _⟩ => ⟨S1024x128, .f32⟩
  | .hbm, ⟨22, _⟩ => ⟨S4x4096x128, .f32⟩
  | .hbm, ⟨23, _⟩ => ⟨S4x4096x2x64, .f32⟩
  | .hbm, ⟨24, _⟩ => ⟨S_, .i32⟩
  | .hbm, ⟨25, _⟩ => ⟨S_, .f32⟩
  | .hbm, ⟨26, _⟩ => ⟨S4x4096x2x128, .f32⟩
  | .hbm, ⟨27, _⟩ => ⟨S4x4096x256, .f32⟩
  | .hbm, ⟨28, _⟩ => ⟨S1024x128, .f32⟩
  | .hbm, ⟨29, _⟩ => ⟨S4x4096x128, .f32⟩
  | .hbm, ⟨30, _⟩ => ⟨S4x4096x2x64, .f32⟩
  | .hbm, ⟨31, _⟩ => ⟨S_, .i32⟩
  | .hbm, ⟨32, _⟩ => ⟨S_, .f32⟩
  | .hbm, ⟨33, _⟩ => ⟨S4x4096x2x128, .f32⟩
  | .hbm, ⟨34, _⟩ => ⟨S4x4096x256, .f32⟩
  | .hbm, ⟨35, _⟩ => ⟨S4x4096x3072, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_call1_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_1 : Ref sig .tc := ⟨.hbm, 31, rfl⟩
abbrev main_call2_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== OutProj.lean ====
abbrev S4x4096x512 : Shape := ⟨3, ![4, 4096, 512]⟩
abbrev S4x4096x1024 : Shape := ⟨3, ![4, 4096, 1024]⟩
abbrev S1x1024x1024 : Shape := ⟨3, ![1, 1024, 1024]⟩
abbrev S4x1x1024 : Shape := ⟨3, ![4, 1, 1024]⟩
abbrev S1x1024 : Shape := ⟨2, ![1, 1024]⟩
abbrev S1024x1024 : Shape := ⟨2, ![1024, 1024]⟩
abbrev S512x1024 : Shape := ⟨2, ![512, 1024]⟩
abbrev S8x64x1024 : Shape := ⟨3, ![8, 64, 1024]⟩
abbrev S_ : Shape := ⟨0, ![]⟩
abbrev S8x128x1024 : Shape := ⟨3, ![8, 128, 1024]⟩
abbrev S4x4096x8x64 : Shape := ⟨4, ![4, 4096, 8, 64]⟩
abbrev S4x4096x8x128 : Shape := ⟨4, ![4, 4096, 8, 128]⟩
abbrev S1x512x512 : Shape := ⟨3, ![1, 512, 512]⟩
abbrev S1x512x1024 : Shape := ⟨3, ![1, 512, 1024]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩

abbrev nBuf : Space → Nat
  | .hbm => 27
  | .vmem => 20
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x1024, .f32⟩
  | .hbm, ⟨3, _⟩ => ⟨S1x1024x1024, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S1x1024, .f32⟩
  | .hbm, ⟨8, _⟩ => ⟨S1x1024, .f32⟩
  | .hbm, ⟨9, _⟩ => ⟨S1024x1024, .f32⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S8x64x1024, .f32⟩
  | .hbm, ⟨14, _⟩ => ⟨S_, .i32⟩
  | .hbm, ⟨15, _⟩ => ⟨S_, .f32⟩
  | .hbm, ⟨16, _⟩ => ⟨S8x128x1024, .f32⟩
  | .hbm, ⟨17, _⟩ => ⟨S1024x1024, .f32⟩
  | .hbm, ⟨18, _⟩ => ⟨S1024x1024, .bf16⟩
  | .hbm, ⟨19, _⟩ => ⟨S4x4096x8x64, .f32⟩
  | .hbm, ⟨20, _⟩ => ⟨S_, .i32⟩
  | .hbm, ⟨21, _⟩ => ⟨S_, .f32⟩
  | .hbm, ⟨22, _⟩ => ⟨S4x4096x8x128, .f32⟩
  | .hbm, ⟨23, _⟩ => ⟨S4x4096x1024, .f32⟩
  | .hbm, ⟨24, _⟩ => ⟨S4x4096x1024, .bf16⟩
  | .hbm, ⟨25, _⟩ => ⟨S4x4096x1024, .f32⟩
  | .hbm, ⟨26, _⟩ => ⟨S4x4096x1024, .bf16⟩
  | .local _ .vmem, ⟨0, _⟩ => ⟨S1x512x512, .f32⟩
  | .local _ .vmem, ⟨1, _⟩ => ⟨S1x512x512, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .f32⟩
  | .local _ .vmem, ⟨5, _⟩ => ⟨S1x512x1024, .f32⟩
  | .local _ .vmem, ⟨6, _⟩ => ⟨S512x1024, .bf16⟩
  | .local _ .vmem, ⟨7, _⟩ => ⟨S1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .bf16⟩
  | .local _ .vmem, ⟨19, _⟩ => ⟨S1x512x1024, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== OutProjRefIdeal.lean ====
abbrev S4x4096x512 : Shape := ⟨3, ![4, 4096, 512]⟩
abbrev S4x4096x1024 : Shape := ⟨3, ![4, 4096, 1024]⟩
abbrev S1x1024x1024 : Shape := ⟨3, ![1, 1024, 1024]⟩
abbrev S4x1x1024 : Shape := ⟨3, ![4, 1, 1024]⟩
abbrev S1x1024 : Shape := ⟨2, ![1, 1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x1024, .f32⟩
  | .hbm, ⟨3, _⟩ => ⟨S1x1024x1024, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S1x1024, .f32⟩
  | .hbm, ⟨8, _⟩ => ⟨S1x1024, .f32⟩
  | .hbm, ⟨9, _⟩ => ⟨S4x4096x1024, .f32⟩
  | .hbm, ⟨10, _⟩ => ⟨S1024x1024, .f32⟩
  | .hbm, ⟨11, _⟩ => ⟨S4x4096x1024, .f32⟩
  | .hbm, ⟨12, _⟩ => ⟨S_, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S4x4096x1024, .f32⟩
  | .hbm, ⟨34, _⟩ => ⟨S4x4096x1024, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x1, .f32⟩
  | .hbm, ⟨39, _⟩ => ⟨S4x4096x1024, .f32⟩
  | .hbm, ⟨40, _⟩ => ⟨S4x4096x1024, .f32⟩
  | .hbm, ⟨41, _⟩ => ⟨S1024, .f32⟩
  | .hbm, ⟨42, _⟩ => ⟨S1x1x1024, .f32⟩
  | .hbm, ⟨43, _⟩ => ⟨S4x4096x1024, .f32⟩
  | .hbm, ⟨44, _⟩ => ⟨S4x4096x1024, .f32⟩
  | .hbm, ⟨45, _⟩ => ⟨S1024, .f32⟩
  | .hbm, ⟨46, _⟩ => ⟨S1x1x1024, .f32⟩
  | .hbm, ⟨47, _⟩ => ⟨S4x4096x1024, .f32⟩
  | .hbm, ⟨48, _⟩ => ⟨S4x4096x1024, .f32⟩
  | .hbm, ⟨49, _⟩ => ⟨S_, .f32⟩
  | .hbm, ⟨50, _⟩ => ⟨S4x1x1024, .f32⟩
  | .hbm, ⟨51, _⟩ => ⟨S4x1x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S4x4096x1024, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Values.lean ====
abbrev S2x16384x128 : Shape := ⟨3, ![2, 16384, 128]⟩
abbrev S16384x128 : Shape := ⟨2, ![16384, 128]⟩
abbrev S1x16384x1024 : Shape := ⟨3, ![1, 16384, 1024]⟩
abbrev S16384x1024 : Shape := ⟨2, ![16384, 1024]⟩
abbrev S4x1x1024 : Shape := ⟨3, ![4, 1, 1024]⟩
abbrev S1x1024 : Shape := ⟨2, ![1, 1024]⟩
abbrev S_ : Shape := ⟨0, ![]⟩
abbrev S2x512x128 : Shape := ⟨3, ![2, 512, 128]⟩
abbrev S512x128 : Shape := ⟨2, ![512, 128]⟩
abbrev S2048x1024 : Shape := ⟨2, ![2048, 1024]⟩
abbrev S512x1024 : Shape := ⟨2, ![512, 1024]⟩
abbrev S1x1x1024 : Shape := ⟨3, ![1, 1, 1024]⟩
abbrev S69632x128 : Shape := ⟨2, ![69632, 128]⟩
abbrev S128x128 : Shape := ⟨2, ![128, 128]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩

abbrev nBuf : Space → Nat
  | .hbm => 19
  | .vmem => 20
  | .smem => 0
  | _ => 0

abbrev bufTy : (tb : Table) → Fin (tcTables nBuf tb) → BufTy
  | .hbm, ⟨0, _⟩ => ⟨S2x16384x128, .f32⟩
  | .hbm, ⟨1, _⟩ => ⟨S16384x128, .i32⟩
  | .hbm, ⟨2, _⟩ => ⟨S16384x128, .f32⟩
  | .hbm, ⟨3, _⟩ => ⟨S1x16384x1024, .f32⟩
  | .hbm, ⟨4, _⟩ => ⟨S16384x1024, .f32⟩
  | .hbm, ⟨5, _⟩ => ⟨S4x1x1024, .f32⟩
  | .hbm, ⟨6, _⟩ => ⟨S1x1024, .f32⟩
  | .hbm, ⟨7, _⟩ => ⟨S1x1024, .f32⟩
  | .hbm, ⟨8, _⟩ => ⟨S_, .i32⟩
  | .hbm, ⟨9, _⟩ => ⟨S16384x128, .i32⟩
  | .hbm, ⟨10, _⟩ => ⟨S16384x128, .i32⟩
  | .hbm, ⟨11, _⟩ => ⟨S16384x128, .f32⟩
  | .hbm, ⟨12, _⟩ => ⟨S_, .i32⟩
  | .hbm, ⟨13, _⟩ => ⟨S16384x128, .i32⟩
  | .hbm, ⟨14, _⟩ => ⟨S16384x128, .i32⟩
  | .hbm, ⟨15, _⟩ => ⟨S16384x128, .f32⟩
  | .hbm, ⟨16, _⟩ => ⟨S16384x1024, .f32⟩
  | .hbm, ⟨17, _⟩ => ⟨S16384x1024, .bf16⟩
  | .hbm, ⟨18, _⟩ => ⟨S16384x1024, .f32⟩
  | .local _ .vmem, ⟨0, _⟩ => ⟨S2x512x128, .f32⟩
  | .local _ .vmem, ⟨1, _⟩ => ⟨S2x512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S2048x1024, .bf16⟩
  | .local _ .vmem, ⟨9, _⟩ => ⟨S2048x1024, .bf16⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x128, .f32⟩
  | .local _ .vmem, ⟨18, _⟩ => ⟨S69632x128, .f32⟩
  | .local _ .vmem, ⟨19, _⟩ => ⟨S512x1024, .f32⟩
  | _, _ => ⟨S2x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_36 : BitVec 32 := 0#32
  let c512_i32 : BitVec 32 := 512#32
  let v97 : BitVec 32 := Scalar.addi c0_i32_36 c512_i32
  let c1_i32_37 : BitVec 32 := 1#32
  ⟨c0_i32_36, v97, c1_i32_37⟩
def k0_off1 (k0_t1 : Fin k0_t1_loop.trips) : Fin 2 → Nat :=
  let c0_i32_36 : BitVec 32 := 0#32
  let c1_i32_37 : BitVec 32 := 1#32
  let arg15 : BitVec 32 := Scf.iv c0_i32_36 c1_i32_37 k0_t1
  let v102 : Index := Scalar.indexCast arg15
  let c0_42 : Index := 0#32
  ![v102.toNat, 0]
def k0_mult1 (k0_t1 : Fin k0_t1_loop.trips) : BitVec 32 :=
  let c0_i32_36 : BitVec 32 := 0#32
  let c1_i32_37 : BitVec 32 := 1#32
  let arg15 : BitVec 32 := Scf.iv c0_i32_36 c1_i32_37 k0_t1
  let c136_i32 : BitVec 32 := 136#32
  let v124 : BitVec 32 := Scalar.muli arg15 c136_i32
  v124
def k0_off2 (k0_t1 : Fin k0_t1_loop.trips) : Fin 2 → Nat :=
  let c0_i32_36 : BitVec 32 := 0#32
  let c1_i32_37 : BitVec 32 := 1#32
  let arg15 : BitVec 32 := Scf.iv c0_i32_36 c1_i32_37 k0_t1
  let c136_i32 : BitVec 32 := 136#32
  let v124 : BitVec 32 := Scalar.muli arg15 c136_i32
  let v125 : BitVec 32 := v124
  let v126 : Index := Scalar.indexCast v125
  let c0_49 : Index := 0#32
  ![v126.toNat, 0]
def k0_off3 (i : grid0.Coords) (c0_i32_1 : BitVec 32) : Fin 2 → Nat :=
  let arg1 : BitVec 32 := BitVec.ofNat 32 (i 1).val
  let c16_i32 : BitVec 32 := 16#32
  let v3 : BitVec 32 := Scalar.muli arg1 c16_i32
  let v4 : BitVec 32 := Scalar.addi v3 c0_i32_1
  let v5 : Index := Scalar.indexCast v4
  let c0 : Index := 0#32
  ![v5.toNat, 0]
def k0_cond2 (i : grid0.Coords) : BitVec 1 :=
  let arg1 : BitVec 32 := BitVec.ofNat 32 (i 1).val
  let c7_i32_23 : BitVec 32 := 7#32
  let v77 : BitVec 1 := Scalar.cmpi .eq arg1 c7_i32_23
  let v78 : BitVec 32 := Scalar.extui v77
  let c0_i32_24 : BitVec 32 := 0#32
  let v79 : BitVec 1 := Scalar.cmpi .ne v78 c0_i32_24
  v79

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== ValuesRefIdeal.lean ====
abbrev S2x16384x128 : Shape := ⟨3, ![2, 16384, 128]⟩
abbrev S16384x128 : Shape := ⟨2, ![16384, 128]⟩
abbrev S1x16384x1024 : Shape := ⟨3, ![1, 16384, 1024]⟩
abbrev S16384x1024 : Shape := ⟨2, ![16384, 1024]⟩
abbrev S4x1x1024 : Shape := ⟨3, ![4, 1, 1024]⟩
abbrev S1x1024 : Shape := ⟨2, ![1, 1024]⟩
abbrev S1x16384x128 : Shape := ⟨3, ![1, 16384, 128]⟩
abbrev S_ : Shape := ⟨0, ![]⟩
abbrev S16384x128x1 : Shape := ⟨3, ![16384, 128, 1]⟩
abbrev S16384x128x1024 : Shape := ⟨3, ![16384, 128, 1024]⟩
abbrev S4x4096x1024 : Shape := ⟨3, ![4, 4096, 1024]⟩
abbrev S16384 : Shape := ⟨1, ![16384]⟩
abbrev S16384x1 : Shape := ⟨2, ![16384, 1]⟩
abbrev S1024 : Shape := ⟨1, ![1024]⟩

abbrev nBuf : Space → Nat
  | .hbm => 74
  | .vmem => 0
  | .smem => 0
  | _ => 0

abbrev bufTy : (tb : Table) → Fin (tcTables nBuf tb) → BufTy
  | .hbm, ⟨0, _⟩ => ⟨S2x16384x128, .f32⟩
  | .hbm, ⟨1, _⟩ => ⟨S16384x128, .i32⟩
  | .hbm, ⟨2, _⟩ => ⟨S16384x128, .f32⟩
  | .hbm, ⟨3, _⟩ => ⟨S1x16384x1024, .f32⟩
  | .hbm, ⟨4, _⟩ => ⟨S16384x1024, .f32⟩
  | .hbm, ⟨5, _⟩ => ⟨S4x1x1024, .f32⟩
  | .hbm, ⟨6, _⟩ => ⟨S1x1024, .f32⟩
  | .hbm, ⟨7, _⟩ => ⟨S1x1024, .f32⟩
  | .hbm, ⟨8, _⟩ => ⟨S1x16384x128, .f32⟩
  | .hbm, ⟨9, _⟩ => ⟨S16384x128, .f32⟩
  | .hbm, ⟨10, _⟩ => ⟨S1x16384x128, .f32⟩
  | .hbm, ⟨11, _⟩ => ⟨S16384x128, .f32⟩
  | .hbm, ⟨12, _⟩ => ⟨S16384x128, .f32⟩
  | .hbm, ⟨13, _⟩ => ⟨S_, .f32⟩
  | .hbm, ⟨14, _⟩ => ⟨S16384x128, .f32⟩
  | .hbm, ⟨15, _⟩ => ⟨S16384x128, .f32⟩
  | .hbm, ⟨16, _⟩ => ⟨S_, .f32⟩
  | .hbm, ⟨17, _⟩ => ⟨S16384x128, .f32⟩
  | .hbm, ⟨18, _⟩ => ⟨S16384x128, .f32⟩
  | .hbm, ⟨19, _⟩ => ⟨S16384x128, .f32⟩
  | .hbm, ⟨20, _⟩ => ⟨S_, .f32⟩
  | .hbm, ⟨21, _⟩ => ⟨S16384x128, .f32⟩
  | .hbm, ⟨22, _⟩ => ⟨S16384x128, .f32⟩
  | .hbm, ⟨23, _⟩ => ⟨S16384x128, .f32⟩
  | .hbm, ⟨24, _⟩ => ⟨S16384x128, .f32⟩
  | .hbm, ⟨25, _⟩ => ⟨S16384x1024, .f32⟩
  | .hbm, ⟨26, _⟩ => ⟨S_, .i32⟩
  | .hbm, ⟨27, _⟩ => ⟨S16384x128, .i32⟩
  | .hbm, ⟨28, _⟩ => ⟨S16384x128, .i1⟩
  | .hbm, ⟨29, _⟩ => ⟨S_, .i32⟩
  | .hbm, ⟨30, _⟩ => ⟨S16384x128, .i32⟩
  | .hbm, ⟨31, _⟩ => ⟨S16384x128, .i32⟩
  | .hbm, ⟨32, _⟩ => ⟨S16384x128, .i32⟩
  | .hbm, ⟨33, _⟩ => ⟨S16384x128x1, .i32⟩
  | .hbm, ⟨34, _⟩ => ⟨S16384x128x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S4x4096x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S16384x1024, .f32⟩
  | .hbm, ⟨65, _⟩ => ⟨S16384x1024, .f32⟩
  | .hbm, ⟨66, _⟩ => ⟨S1024, .f32⟩
  | .hbm, ⟨67, _⟩ => ⟨S1x1024, .f32⟩
  | .hbm, ⟨68, _⟩ => ⟨S16384x1024, .f32⟩
  | .hbm, ⟨69, _⟩ => ⟨S16384x1024, .f32⟩
  | .hbm, ⟨70, _⟩ => ⟨S1024, .f32⟩
  | .hbm, ⟨71, _⟩ => ⟨S1x1024, .f32⟩
  | .hbm, ⟨72, _⟩ => ⟨S16384x1024, .f32⟩
  | .hbm, ⟨73, _⟩ => ⟨S16384x1024, .f32⟩
  | _, _ => ⟨S2x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Modulation.lean ====
abbrev S4x1024 : Shape := ⟨2, ![4, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1024x6144 : Shape := ⟨2, ![1024, 6144]⟩
abbrev S6144 : Shape := ⟨1, ![6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 12
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S1024x6144, .f32⟩
  | .hbm, ⟨9, _⟩ => ⟨S6144, .f32⟩
  | .hbm, ⟨10, _⟩ => ⟨S1x6144, .f32⟩
  | .hbm, ⟨11, _⟩ => ⟨S8x6144, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulationRefIdeal.lean ====
abbrev S4x1024 : Shape := ⟨2, ![4, 1024]⟩
abbrev S1024 : Shape := ⟨1, ![1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S_ : Shape := ⟨0, ![]⟩
abbrev S4x6144 : Shape := ⟨2, ![4, 6144]⟩
abbrev S3x6144 : Shape := ⟨2, ![3, 6144]⟩
abbrev S8x6144 : Shape := ⟨2, ![8, 6144]⟩

abbrev nBuf : Space → Nat
  | .hbm => 33
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S1024x6144, .f32⟩
  | .hbm, ⟨5, _⟩ => ⟨S6144, .f32⟩
  | .hbm, ⟨6, _⟩ => ⟨S4x1024, .f32⟩
  | .hbm, ⟨7, _⟩ => ⟨S4x1024, .f32⟩
  | .hbm, ⟨8, _⟩ => ⟨S_, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x6144, .f32⟩
  | .hbm, ⟨16, _⟩ => ⟨S1x6144, .f32⟩
  | .hbm, ⟨17, _⟩ => ⟨S4x6144, .f32⟩
  | .hbm, ⟨18, _⟩ => ⟨S4x6144, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S6144, .f32⟩
  | .hbm, ⟨29, _⟩ => ⟨S6144, .f32⟩
  | .hbm, ⟨30, _⟩ => ⟨S1x6144, .f32⟩
  | .hbm, ⟨31, _⟩ => ⟨S3x6144, .f32⟩
  | .hbm, ⟨32, _⟩ => ⟨S8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== CtxProj.lean ====
abbrev S4x256x1024 : Shape := ⟨3, ![4, 256, 1024]⟩
abbrev S1x1x1024 : Shape := ⟨3, ![1, 1, 1024]⟩
abbrev S1x1024x2304 : Shape := ⟨3, ![1, 1024, 2304]⟩
abbrev S1024x2304 : Shape := ⟨2, ![1024, 2304]⟩
abbrev S1024x128 : Shape := ⟨2, ![1024, 128]⟩
abbrev S1024x2x64 : Shape := ⟨3, ![1024, 2, 64]⟩
abbrev S_ : Shape := ⟨0, ![]⟩
abbrev S1024x2x128 : Shape := ⟨3, ![1024, 2, 128]⟩
abbrev S1024x256 : Shape := ⟨2, ![1024, 256]⟩
abbrev S1024x512 : Shape := ⟨2, ![1024, 512]⟩
abbrev S4x256x512 : Shape := ⟨3, ![4, 256, 512]⟩
abbrev S1x256x1024 : Shape := ⟨3, ![1, 256, 1024]⟩
abbrev S1x256x512 : Shape := ⟨3, ![1, 256, 512]⟩
abbrev S256x1024 : Shape := ⟨2, ![256, 1024]⟩
abbrev S1x1024 : Shape := ⟨2, ![1, 1024]⟩
abbrev S256x512 : Shape := ⟨2, ![256, 512]⟩

abbrev nBuf : Space → Nat
  | .hbm => 20
  | .vmem => 7
  | .smem => 0
  | _ => 0

abbrev bufTy : (tb : Table) → Fin (tcTables nBuf tb) → BufTy
  | .hbm, ⟨0, _⟩ => ⟨S4x256x1024, .f32⟩
  | .hbm, ⟨1, _⟩ => ⟨S1x1x1024, .f32⟩
  | .hbm, ⟨2, _⟩ => ⟨S1x1x1024, .f32⟩
  | .hbm, ⟨3, _⟩ => ⟨S1x1024x2304, .f32⟩
  | .hbm, ⟨4, _⟩ => ⟨S1024x2304, .f32⟩
  | .hbm, ⟨5, _⟩ => ⟨S1024x128, .f32⟩
  | .hbm, ⟨6, _⟩ => ⟨S1024x2x64, .f32⟩
  | .hbm, ⟨7, _⟩ => ⟨S_, .i32⟩
  | .hbm, ⟨8, _⟩ => ⟨S_, .f32⟩
  | .hbm, ⟨9, _⟩ => ⟨S1024x2x128, .f32⟩
  | .hbm, ⟨10, _⟩ => ⟨S1024x256, .f32⟩
  | .hbm, ⟨11, _⟩ => ⟨S1024x128, .f32⟩
  | .hbm, ⟨12, _⟩ => ⟨S1024x2x64, .f32⟩
  | .hbm, ⟨13, _⟩ => ⟨S_, .i32⟩
  | .hbm, ⟨14, _⟩ => ⟨S_, .f32⟩
  | .hbm, ⟨15, _⟩ => ⟨S1024x2x128, .f32⟩
  | .hbm, ⟨16, _⟩ => ⟨S1024x256, .f32⟩
  | .hbm, ⟨17, _⟩ => ⟨S1024x512, .f32⟩
  | .hbm, ⟨18, _⟩ => ⟨S1024x512, .bf16⟩
  | .hbm, ⟨19, _⟩ => ⟨S4x256x512, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1024x512, .bf16⟩
  | .local _ .vmem, ⟨5, _⟩ => ⟨S1x256x512, .f32⟩
  | .local _ .vmem, ⟨6, _⟩ => ⟨S1x256x512, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CtxProjRefIdeal.lean ====
abbrev S4x256x1024 : Shape := ⟨3, ![4, 256, 1024]⟩
abbrev S1x1x1024 : Shape := ⟨3, ![1, 1, 1024]⟩
abbrev S1x1024x2304 : Shape := ⟨3, ![1, 1024, 2304]⟩
abbrev S_ : Shape := ⟨0, ![]⟩
abbrev S1024x2304 : Shape := ⟨2, ![1024, 2304]⟩
abbrev S1024x128 : Shape := ⟨2, ![1024, 128]⟩
abbrev S4x256x128 : Shape := ⟨3, ![4, 256, 128]⟩
abbrev S4x256x2x64 : Shape := ⟨4, ![4, 256, 2, 64]⟩
abbrev S4x256x2x128 : Shape := ⟨4, ![4, 256, 2, 128]⟩
abbrev S4x256x256 : Shape := ⟨3, ![4, 256, 256]⟩
abbrev S4x256x512 : Shape := ⟨3, ![4, 256, 512]⟩

abbrev nBuf : Space → Nat
  | .hbm => 27
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1x1024, .f32⟩
  | .hbm, ⟨2, _⟩ => ⟨S1x1x1024, .f32⟩
  | .hbm, ⟨3, _⟩ => ⟨S1x1024x2304, .f32⟩
  | .hbm, ⟨4, _⟩ => ⟨S_, .f32⟩
  | .hbm, ⟨5, _⟩ => ⟨S1x1x1024, .f32⟩
  | .hbm, ⟨6, _⟩ => ⟨S1x1x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S1024x2304, .f32⟩
  | .hbm, ⟨12, _⟩ => ⟨S1024x128, .f32⟩
  | .hbm, ⟨13, _⟩ => ⟨S4x256x128, .f32⟩
  | .hbm, ⟨14, _⟩ => ⟨S4x256x2x64, .f32⟩
  | .hbm, ⟨15, _⟩ => ⟨S_, .i32⟩
  | .hbm, ⟨16, _⟩ => ⟨S_, .f32⟩
  | .hbm, ⟨17, _⟩ => ⟨S4x256x2x128, .f32⟩
  | .hbm, ⟨18, _⟩ => ⟨S4x256x256, .f32⟩
  | .hbm, ⟨19, _⟩ => ⟨S1024x128, .f32⟩
  | .hbm, ⟨20, _⟩ => ⟨S4x256x128, .f32⟩
  | .hbm, ⟨21, _⟩ => ⟨S4x256x2x64, .f32⟩
  | .hbm, ⟨22, _⟩ => ⟨S_, .i32⟩
  | .hbm, ⟨23, _⟩ => ⟨S_, .f32⟩
  | .hbm, ⟨24, _⟩ => ⟨S4x256x2x128, .f32⟩
  | .hbm, ⟨25, _⟩ => ⟨S4x256x256, .f32⟩
  | .hbm, ⟨26, _⟩ => ⟨S4x256x512, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_call1_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Filters.lean ====
abbrev S1x17x64 : Shape := ⟨3, ![1, 17, 64]⟩
abbrev S1x64 : Shape := ⟨2, ![1, 64]⟩
abbrev S1x64x64 : Shape := ⟨3, ![1, 64, 64]⟩
abbrev S1x64x2048 : Shape := ⟨3, ![1, 64, 2048]⟩
abbrev S1x2048 : Shape := ⟨2, ![1, 2048]⟩
abbrev S17x64 : Shape := ⟨2, ![17, 64]⟩
abbrev S64 : Shape := ⟨1, ![64]⟩
abbrev S64x64 : Shape := ⟨2, ![64, 64]⟩
abbrev S64x2048 : Shape := ⟨2, ![64, 2048]⟩
abbrev S2048 : Shape := ⟨1, ![2048]⟩
abbrev S_ : Shape := ⟨0, ![]⟩
abbrev S4095 : Shape := ⟨1, ![4095]⟩
abbrev S1 : Shape := ⟨1, ![1]⟩
abbrev S4096 : Shape := ⟨1, ![4096]⟩
abbrev S4096x1 : Shape := ⟨2, ![4096, 1]⟩
abbrev S7 : Shape := ⟨1, ![7]⟩
abbrev S8 : Shape := ⟨1, ![8]⟩
abbrev S1x8 : Shape := ⟨2, ![1, 8]⟩
abbrev S4096x8 : Shape := ⟨2, ![4096, 8]⟩
abbrev S4096x17 : Shape := ⟨2, ![4096, 17]⟩
abbrev S4096x32 : Shape := ⟨2, ![4096, 32]⟩
abbrev S32x64 : Shape := ⟨2, ![32, 64]⟩
abbrev S511 : Shape := ⟨1, ![511]⟩
abbrev S512 : Shape := ⟨1, ![512]⟩
abbrev S1x512 : Shape := ⟨2, ![1, 512]⟩
abbrev S4x512 : Shape := ⟨2, ![4, 512]⟩
abbrev S4096x2048 : Shape := ⟨2, ![4096, 2048]⟩
abbrev S512x32 : Shape := ⟨2, ![512, 32]⟩
abbrev S512x2048 : Shape := ⟨2, ![512, 2048]⟩
abbrev S512x64 : Shape := ⟨2, ![512, 64]⟩
abbrev S512x1 : Shape := ⟨2, ![512, 1]⟩

abbrev nBuf : Space → Nat
  | .hbm => 122
  | .vmem => 13
  | .smem => 0
  | _ => 0

abbrev bufTy : (tb : Table) → Fin (tcTables nBuf tb) → BufTy
  | .hbm, ⟨0, _⟩ => ⟨S1x17x64, .f32⟩
  | .hbm, ⟨1, _⟩ => ⟨S1x64, .f32⟩
  | .hbm, ⟨2, _⟩ => ⟨S1x64, .f32⟩
  | .hbm, ⟨3, _⟩ => ⟨S1x64x64, .f32⟩
  | .hbm, ⟨4, _⟩ => ⟨S1x64, .f32⟩
  | .hbm, ⟨5, _⟩ => ⟨S1x64, .f32⟩
  | .hbm, ⟨6, _⟩ => ⟨S1x64x2048, .f32⟩
  | .hbm, ⟨7, _⟩ => ⟨S1x2048, .f32⟩
  | .hbm, ⟨8, _⟩ => ⟨S17x64, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64x2048, .f32⟩
  | .hbm, ⟨15, _⟩ => ⟨S2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4095, .f32⟩
  | .hbm, ⟨24, _⟩ => ⟨S_, .f32⟩
  | .hbm, ⟨25, _⟩ => ⟨S4095, .f32⟩
  | .hbm, ⟨26, _⟩ => ⟨S4095, .f32⟩
  | .hbm, ⟨27, _⟩ => ⟨S1, .f32⟩
  | .hbm, ⟨28, _⟩ => ⟨S_, .f32⟩
  | .hbm, ⟨29, _⟩ => ⟨S4095, .f32⟩
  | .hbm, ⟨30, _⟩ => ⟨S4095, .f32⟩
  | .hbm, ⟨31, _⟩ => ⟨S4095, .f32⟩
  | .hbm, ⟨32, _⟩ => ⟨S4095, .f32⟩
  | .hbm, ⟨33, _⟩ => ⟨S1, .f32⟩
  | .hbm, ⟨34, _⟩ => ⟨S4095, .f32⟩
  | .hbm, ⟨35, _⟩ => ⟨S4095, .f32⟩
  | .hbm, ⟨36, _⟩ => ⟨S4095, .f32⟩
  | .hbm, ⟨37, _⟩ => ⟨S1, .f32⟩
  | .hbm, ⟨38, _⟩ => ⟨S4096, .f32⟩
  | .hbm, ⟨39, _⟩ => ⟨S4096x1, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S_, .i32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S7, .f32⟩
  | .hbm, ⟨56, _⟩ => ⟨S_, .f32⟩
  | .hbm, ⟨57, _⟩ => ⟨S7, .f32⟩
  | .hbm, ⟨58, _⟩ => ⟨S7, .f32⟩
  | .hbm, ⟨59, _⟩ => ⟨S1, .f32⟩
  | .hbm, ⟨60, _⟩ => ⟨S_, .f32⟩
  | .hbm, ⟨61, _⟩ => ⟨S7, .f32⟩
  | .hbm, ⟨62, _⟩ => ⟨S7, .f32⟩
  | .hbm, ⟨63, _⟩ => ⟨S7, .f32⟩
  | .hbm, ⟨64, _⟩ => ⟨S7, .f32⟩
  | .hbm, ⟨65, _⟩ => ⟨S1, .f32⟩
  | .hbm, ⟨66, _⟩ => ⟨S7, .f32⟩
  | .hbm, ⟨67, _⟩ => ⟨S7, .f32⟩
  | .hbm, ⟨68, _⟩ => ⟨S7, .f32⟩
  | .hbm, ⟨69, _⟩ => ⟨S1, .f32⟩
  | .hbm, ⟨70, _⟩ => ⟨S8, .f32⟩
  | .hbm, ⟨71, _⟩ => ⟨S1x8, .f32⟩
  | .hbm, ⟨72, _⟩ => ⟨S4096x8, .f32⟩
  | .hbm, ⟨73, _⟩ => ⟨S4096x8, .f32⟩
  | .hbm, ⟨74, _⟩ => ⟨S4096x8, .f32⟩
  | .hbm, ⟨75, _⟩ => ⟨S4096x8, .f32⟩
  | .hbm, ⟨76, _⟩ => ⟨S4096x8, .f32⟩
  | .hbm, ⟨77, _⟩ => ⟨S4096x8, .f32⟩
  | .hbm, ⟨78, _⟩ => ⟨S4096x8, .f32⟩
  | .hbm, ⟨79, _⟩ => ⟨S4096x8, .f32⟩
  | .hbm, ⟨80, _⟩ => ⟨S4096x8, .f32⟩
  | .hbm, ⟨81, _⟩ => ⟨S4096x17, .f32⟩
  | .hbm, ⟨82, _⟩ => ⟨S_, .i32⟩
  | .hbm, ⟨83, _⟩ => ⟨S_, .f32⟩
  | .hbm, ⟨84, _⟩ => ⟨S4096x32, .f32⟩
  | .hbm, ⟨85, _⟩ => ⟨S_, .i32⟩
  | .hbm, ⟨86, _⟩ => ⟨S_, .f32⟩
  | .hbm, ⟨87, _⟩ => ⟨S32x64, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S511, .f32⟩
  | .hbm, ⟨96, _⟩ => ⟨S_, .f32⟩
  | .hbm, ⟨97, _⟩ => ⟨S511, .f32⟩
  | .hbm, ⟨98, _⟩ => ⟨S511, .f32⟩
  | .hbm, ⟨99, _⟩ => ⟨S1, .f32⟩
  | .hbm, ⟨100, _⟩ => ⟨S_, .f32⟩
  | .hbm, ⟨101, _⟩ => ⟨S511, .f32⟩
  | .hbm, ⟨102, _⟩ => ⟨S511, .f32⟩
  | .hbm, ⟨103, _⟩ => ⟨S511, .f32⟩
  | .hbm, ⟨104, _⟩ => ⟨S511, .f32⟩
  | .hbm, ⟨105, _⟩ => ⟨S1, .f32⟩
  | .hbm, ⟨106, _⟩ => ⟨S511, .f32⟩
  | .hbm, ⟨107, _⟩ => ⟨S511, .f32⟩
  | .hbm, ⟨108, _⟩ => ⟨S511, .f32⟩
  | .hbm, ⟨109, _⟩ => ⟨S1, .f32⟩
  | .hbm, ⟨110, _⟩ => ⟨S512, .f32⟩
  | .hbm, ⟨111, _⟩ => ⟨S512, .f32⟩
  | .hbm, ⟨112, _⟩ => ⟨S1x512, .f32⟩
  | .hbm, ⟨113, _⟩ => ⟨S4x512, .f32⟩
  | .hbm, ⟨114, _⟩ => ⟨S2048, .f32⟩
  | .hbm, ⟨115, _⟩ => ⟨S1x2048, .f32⟩
  | .hbm, ⟨116, _⟩ => ⟨S1x64, .f32⟩
  | .hbm, ⟨117, _⟩ => ⟨S1x64, .f32⟩
  | .hbm, ⟨118, _⟩ => ⟨S1x64, .f32⟩
  | .hbm, ⟨119, _⟩ => ⟨S1x64, .f32⟩
  | .hbm, ⟨120, _⟩ => ⟨S1x2048, .f32⟩
  | .hbm, ⟨121, _⟩ => ⟨S4096x2048, .f32⟩
  | .local _ .vmem, ⟨0, _⟩ => ⟨S512x32, .f32⟩
  | .local _ .vmem, ⟨1, _⟩ => ⟨S512x32, .f32⟩
  | .local _ .vmem, ⟨2, _⟩ => ⟨S32x64, .f32⟩
  | .local _ .vmem, ⟨3, _⟩ => ⟨S1x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S1x64, .f32⟩
  | .local _ .vmem, ⟨8, _⟩ => ⟨S64x2048, .f32⟩
  | .local _ .vmem, ⟨9, _⟩ => ⟨S1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S1x17x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_cst : Ref sig .tc := ⟨.hbm, 21, rfl⟩
abbrev main_call0_v3 : Ref sig .tc := ⟨.hbm, 22, rfl⟩
abbrev main_call0_v4 : Ref sig .tc := ⟨.hbm, 23, rfl⟩
abbrev main_call0_cst_0 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_v15 : Ref sig .tc := ⟨.hbm, 36, rfl⟩
abbrev main_call0_v16 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_1 : Ref sig .tc := ⟨.hbm, 42, rfl⟩
abbrev main_v12 : Ref sig .tc := ⟨.hbm, 43, rfl⟩
abbrev main_v13 : Ref sig .tc := ⟨.hbm, 44, rfl⟩
abbrev main_cst_2 : Ref sig .tc := ⟨.hbm, 45, rfl⟩
abbrev main_v14 : Ref sig .tc := ⟨.hbm, 46, rfl⟩
abbrev main_v15 : Ref sig .tc := ⟨.hbm, 47, rfl⟩
abbrev main_cst_3 : Ref sig .tc := ⟨.hbm, 48, rfl⟩
abbrev main_c : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_cst : Ref sig .tc := ⟨.hbm, 53, rfl⟩
abbrev main_call1_v3 : Ref sig .tc := ⟨.hbm, 54, rfl⟩
abbrev main_call1_v4 : Ref sig .tc := ⟨.hbm, 55, rfl⟩
abbrev main_call1_cst_0 : Ref sig .tc := ⟨.hbm, 56, rfl⟩
abbrev main_call1_v5 : Ref sig .tc := ⟨.hbm, 57, rfl⟩
abbrev main_call1_v6 : Ref sig .tc := ⟨.hbm, 58, rfl⟩
abbrev main_call1_v7 : Ref sig .tc := ⟨.hbm, 59, rfl⟩
abbrev main_call1_cst_1 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_v15 : Ref sig .tc := ⟨.hbm, 68, rfl⟩
abbrev main_call1_v16 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_c_4 : Ref sig .tc := ⟨.hbm, 82, rfl⟩
abbrev main_call2_v0 : Ref sig .tc := ⟨.hbm, 83, rfl⟩
abbrev main_v28 : Ref sig .tc := ⟨.hbm, 84, rfl⟩
abbrev main_c_5 : Ref sig .tc := ⟨.hbm, 85, rfl⟩
abbrev main_call3_v0 : Ref sig .tc := ⟨.hbm, 86, rfl⟩
abbrev main_v29 : Ref sig .tc := ⟨.hbm, 87, rfl⟩
abbrev main_cst_6 : Ref sig .tc := ⟨.hbm, 88, rfl⟩
abbrev main_cst_7 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_call4_cst : Ref sig .tc := ⟨.hbm, 93, rfl⟩
abbrev main_call4_v3 : Ref sig .tc := ⟨.hbm, 94, rfl⟩
abbrev main_call4_v4 : Ref sig .tc := ⟨.hbm, 95, rfl⟩
abbrev main_call4_cst_0 : Ref sig .tc := ⟨.hbm, 96, rfl⟩
abbrev main_call4_v5 : Ref sig .tc := ⟨.hbm, 97, rfl⟩
abbrev main_call4_v6 : Ref sig .tc := ⟨.hbm, 98, rfl⟩
abbrev main_call4_v7 : Ref sig .tc := ⟨.hbm, 99, rfl⟩
abbrev main_call4_cst_1 : Ref sig .tc := ⟨.hbm, 100, rfl⟩
abbrev main_call4_v8 : Ref sig .tc := ⟨.hbm, 101, rfl⟩
abbrev main_call4_v9 : Ref sig .tc := ⟨.hbm, 102, rfl⟩
abbrev main_call4_v10 : Ref sig .tc := ⟨.hbm, 103, rfl⟩
abbrev main_call4_v11 : Ref sig .tc := ⟨.hbm, 104, rfl⟩
abbrev main_call4_v12 : Ref sig .tc := ⟨.hbm, 105, rfl⟩
abbrev main_call4_v13 : Ref sig .tc := ⟨.hbm, 106, rfl⟩
abbrev main_call4_v14 : Ref sig .tc := ⟨.hbm, 107, rfl⟩
abbrev main_call4_v15 : Ref sig .tc := ⟨.hbm, 108, rfl⟩
abbrev main_call4_v16 : Ref sig .tc := ⟨.hbm, 109, rfl⟩
abbrev main_v30 : Ref sig .tc := ⟨.hbm, 110, rfl⟩
abbrev main_v31 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_v35 : Ref sig .tc := ⟨.hbm, 115, rfl⟩
abbrev main_v36 : Ref sig .tc := ⟨.hbm, 116, rfl⟩
abbrev main_v37 : Ref sig .tc := ⟨.hbm, 117, rfl⟩
abbrev main_v38 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FiltersRefIdeal.lean ====
abbrev S1x17x64 : Shape := ⟨3, ![1, 17, 64]⟩
abbrev S1x64 : Shape := ⟨2, ![1, 64]⟩
abbrev S1x64x64 : Shape := ⟨3, ![1, 64, 64]⟩
abbrev S1x64x2048 : Shape := ⟨3, ![1, 64, 2048]⟩
abbrev S1x2048 : Shape := ⟨2, ![1, 2048]⟩
abbrev S_ : Shape := ⟨0, ![]⟩
abbrev S4095 : Shape := ⟨1, ![4095]⟩
abbrev S1 : Shape := ⟨1, ![1]⟩
abbrev S4096 : Shape := ⟨1, ![4096]⟩
abbrev S4096x1 : Shape := ⟨2, ![4096, 1]⟩
abbrev S7 : Shape := ⟨1, ![7]⟩
abbrev S8 : Shape := ⟨1, ![8]⟩
abbrev S1x8 : Shape := ⟨2, ![1, 8]⟩
abbrev S4096x8 : Shape := ⟨2, ![4096, 8]⟩
abbrev S4096x17 : Shape := ⟨2, ![4096, 17]⟩
abbrev S64 : Shape := ⟨1, ![64]⟩
abbrev S17x64 : Shape := ⟨2, ![17, 64]⟩
abbrev S4096x64 : Shape := ⟨2, ![4096, 64]⟩
abbrev S64x64 : Shape := ⟨2, ![64, 64]⟩
abbrev S64x2048 : Shape := ⟨2, ![64, 2048]⟩
abbrev S4096x2048 : Shape := ⟨2, ![4096, 2048]⟩
abbrev S2048 : Shape := ⟨1, ![2048]⟩
abbrev S4096x2x2x512 : Shape := ⟨4, ![4096, 2, 2, 512]⟩
abbrev S511 : Shape := ⟨1, ![511]⟩
abbrev S512 : Shape := ⟨1, ![512]⟩
abbrev S1x512 : Shape := ⟨2, ![1, 512]⟩
abbrev S4096x512 : Shape := ⟨2, ![4096, 512]⟩
abbrev S4096x1x1x512 : Shape := ⟨4, ![4096, 1, 1, 512]⟩

abbrev nBuf : Space → Nat
  | .hbm => 140
  | .vmem => 0
  | .smem => 0
  | _ => 0

abbrev hbmTy0_0 (i : Nat) : BufTy := match i % 128 with
  | 0 => ⟨S1x17x64, .f32⟩
  | 1 => ⟨S1x64, .f32⟩
  | 2 => ⟨S1x64, .f32⟩
  | 3 => ⟨S1x64x64, .f32⟩
  | 4 => ⟨S1x64, .f32⟩
  | 5 => ⟨S1x64, .f32⟩
  | 6 => ⟨S1x64x2048, .f32⟩
  | 7 => ⟨S1x2048, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S4095, .f32⟩
  | 16 => ⟨S_, .f32⟩
  | 17 => ⟨S4095, .f32⟩
  | 18 => ⟨S4095, .f32⟩
  | 19 => ⟨S1, .f32⟩
  | 20 => ⟨S_, .f32⟩
  | 21 => ⟨S4095, .f32⟩
  | 22 => ⟨S4095, .f32⟩
  | 23 => ⟨S4095, .f32⟩
  | 24 => ⟨S4095, .f32⟩
  | 25 => ⟨S1, .f32⟩
  | 26 => ⟨S4095, .f32⟩
  | 27 => ⟨S4095, .f32⟩
  | 28 => ⟨S4095, .f32⟩
  | 29 => ⟨S1, .f32⟩
  | 30 => ⟨S4096, .f32⟩
  | 31 => ⟨S4096x1, .f32⟩
  | 32 => ⟨S4096, .f32⟩
  | 33 => ⟨S4096x1, .f32⟩
  | 34 => ⟨S_, .f32⟩
  | 35 => ⟨S4096x1, .f32⟩
  | 36 => ⟨S4096x1, .f32⟩
  | 37 => ⟨S_, .f32⟩
  | 38 => ⟨S4096x1, .f32⟩
  | 39 => ⟨S4096x1, .f32⟩
  | 40 => ⟨S_, .f32⟩
  | 41 => ⟨S_, .i32⟩
  | 42 => ⟨S_, .f32⟩
  | 43 => ⟨S_, .f32⟩
  | 44 => ⟨S_, .f32⟩
  | 45 => ⟨S_, .f32⟩
  | 46 => ⟨S_, .f32⟩
  | 47 => ⟨S7, .f32⟩
  | 48 => ⟨S_, .f32⟩
  | 49 => ⟨S7, .f32⟩
  | 50 => ⟨S7, .f32⟩
  | 51 => ⟨S1, .f32⟩
  | 52 => ⟨S_, .f32⟩
  | 53 => ⟨S7, .f32⟩
  | 54 => ⟨S7, .f32⟩
  | 55 => ⟨S7, .f32⟩
  | 56 => ⟨S7, .f32⟩
  | 57 => ⟨S1, .f32⟩
  | 58 => ⟨S7, .f32⟩
  | 59 => ⟨S7, .f32⟩
  | 60 => ⟨S7, .f32⟩
  | 61 => ⟨S1, .f32⟩
  | 62 => ⟨S8, .f32⟩
  | 63 => ⟨S1x8, .f32⟩
  | 64 => ⟨S4096x8, .f32⟩
  | 65 => ⟨S4096x8, .f32⟩
  | 66 => ⟨S4096x8, .f32⟩
  | 67 => ⟨S4096x8, .f32⟩
  | 68 => ⟨S4096x8, .f32⟩
  | 69 => ⟨S4096x8, .f32⟩
  | 70 => ⟨S4096x8, .f32⟩
  | 71 => ⟨S4096x8, .f32⟩
  | 72 => ⟨S4096x8, .f32⟩
  | 73 => ⟨S4096x17, .f32⟩
  | 74 => ⟨S64, .f32⟩
  | 75 => ⟨S17x64, .f32⟩
  | 76 => ⟨S4096x64, .f32⟩
  | 77 => ⟨S64, .f32⟩
  | 78 => ⟨S1x64, .f32⟩
  | 79 => ⟨S4096x64, .f32⟩
  | 80 => ⟨S4096x64, .f32⟩
  | 81 => ⟨S1x64, .f32⟩
  | 82 => ⟨S4096x64, .f32⟩
  | 83 => ⟨S4096x64, .f32⟩
  | 84 => ⟨S4096x64, .f32⟩
  | 85 => ⟨S64, .f32⟩
  | 86 => ⟨S64x64, .f32⟩
  | 87 => ⟨S4096x64, .f32⟩
  | 88 => ⟨S64, .f32⟩
  | 89 => ⟨S1x64, .f32⟩
  | 90 => ⟨S4096x64, .f32⟩
  | 91 => ⟨S4096x64, .f32⟩
  | 92 => ⟨S1x64, .f32⟩
  | 93 => ⟨S4096x64, .f32⟩
  | 94 => ⟨S4096x64, .f32⟩
  | 95 => ⟨S4096x64, .f32⟩
  | 96 => ⟨S64x2048, .f32⟩
  | 97 => ⟨S4096x2048, .f32⟩
  | 98 => ⟨S2048, .f32⟩
  | 99 => ⟨S1x2048, .f32⟩
  | 100 => ⟨S4096x2048, .f32⟩
  | 101 => ⟨S4096x2048, .f32⟩
  | 102 => ⟨S4096x2x2x512, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S511, .f32⟩
  | 111 => ⟨S_, .f32⟩
  | 112 => ⟨S511, .f32⟩
  | 113 => ⟨S511, .f32⟩
  | 114 => ⟨S1, .f32⟩
  | 115 => ⟨S_, .f32⟩
  | 116 => ⟨S511, .f32⟩
  | 117 => ⟨S511, .f32⟩
  | 118 => ⟨S511, .f32⟩
  | 119 => ⟨S511, .f32⟩
  | 120 => ⟨S1, .f32⟩
  | 121 => ⟨S511, .f32⟩
  | 122 => ⟨S511, .f32⟩
  | 123 => ⟨S511, .f32⟩
  | 124 => ⟨S1, .f32⟩
  | 125 => ⟨S512, .f32⟩
  | 126 => ⟨S512, .f32⟩
  | 127 => ⟨S4096x1, .f32⟩
  | _ => ⟨S1x17x64, .f32⟩

abbrev hbmTy0_1 (i : Nat) : BufTy := match i % 128 with
  | 0 => ⟨S1x512, .f32⟩
  | 1 => ⟨S4096x512, .f32⟩
  | 2 => ⟨S4096x512, .f32⟩
  | 3 => ⟨S4096x512, .f32⟩
  | 4 => ⟨S4096x512, .f32⟩
  | 5 => ⟨S4096x1x1x512, .f32⟩
  | 6 => ⟨S_, .f32⟩
  | 7 => ⟨S4096x1x1x512, .f32⟩
  | 8 => ⟨S4096x1x1x512, .f32⟩
  | 9 => ⟨S4096x2x2x512, .f32⟩
  | 10 => ⟨S4096x2x2x512, .f32⟩
  | 11 => ⟨S4096x2048, .f32⟩
  | _ => ⟨S1x17x64, .f32⟩

abbrev hbmTy (i : Nat) : BufTy := match i / 128 with
  | 0 => hbmTy0_0 i
  | 1 => hbmTy0_1 i
  | _ => ⟨S1x17x64, .f32⟩

abbrev bufTy : (tb : Table) → Fin (tcTables nBuf tb) → BufTy
  | .hbm, ⟨i, _⟩ => hbmTy i
  | _, _ => ⟨S1x17x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst_1 : Ref sig .tc := ⟨.hbm, 34, rfl⟩
abbrev main_v4 : Ref sig .tc := ⟨.hbm, 35, rfl⟩
abbrev main_v5 : Ref sig .tc := ⟨.hbm, 36, rfl⟩
abbrev main_cst_2 : Ref sig .tc := ⟨.hbm, 37, rfl⟩
abbrev main_v6 : Ref sig .tc := ⟨.hbm, 38, rfl⟩
abbrev main_v7 : Ref sig .tc := ⟨.hbm, 39, rfl⟩
abbrev main_cst_3 : Ref sig .tc := ⟨.hbm, 40, rfl⟩
abbrev main_c : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_cst : Ref sig .tc := ⟨.hbm, 45, rfl⟩
abbrev main_call1_v3 : Ref sig .tc := ⟨.hbm, 46, rfl⟩
abbrev main_call1_v4 : Ref sig .tc := ⟨.hbm, 47, rfl⟩
abbrev main_call1_cst_0 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_cst_1 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_v15 : Ref sig .tc := ⟨.hbm, 60, rfl⟩
abbrev main_call1_v16 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_cst_4 : Ref sig .tc := ⟨.hbm, 103, rfl⟩
abbrev main_cst_5 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_call2_cst : Ref sig .tc := ⟨.hbm, 108, rfl⟩
abbrev main_call2_v3 : Ref sig .tc := ⟨.hbm, 109, rfl⟩
abbrev main_call2_v4 : Ref sig .tc := ⟨.hbm, 110, rfl⟩
abbrev main_call2_cst_0 : Ref sig .tc := ⟨.hbm, 111, rfl⟩
abbrev main_call2_v5 : Ref sig .tc := ⟨.hbm, 112, rfl⟩
abbrev main_call2_v6 : Ref sig .tc := ⟨.hbm, 113, rfl⟩
abbrev main_call2_v7 : Ref sig .tc := ⟨.hbm, 114, rfl⟩
abbrev main_call2_cst_1 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_v12 : Ref sig .tc := ⟨.hbm, 120, rfl⟩
abbrev main_call2_v13 : Ref sig .tc := ⟨.hbm, 121, rfl⟩
abbrev main_call2_v14 : Ref sig .tc := ⟨.hbm, 122, rfl⟩
abbrev main_call2_v15 : Ref sig .tc := ⟨.hbm, 123, rfl⟩
abbrev main_call2_v16 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_cst_6 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩

abbrev nD : Nat := 1
abbrev τ : Topo := Topo.v7x

variable {F : FTy → Type} [FloatOps F]
-- ==== Proof.Kit.lean ====
/- Small facts the calls share: a row of heads padded to 128 lanes each, read at an index; a one-axis contraction as a
   sum over its coordinate. -/
module

public import Idealize.ShloMosaic.Lib.Pipeline.Value
public import Idealize.ShloMosaic.Lib.KernelVsHost
public import Idealize.ShloMosaic.Lib.ValueIdx
public import Idealize.ShloMosaic.PureOps.Ideal.Laws

@[expose] public section

noncomputable section

namespace Cert.Kit

open Idealize.ShloMosaic Idealize.ShloMosaic.ValueIdx

variable {α : Type}

/-- `n` heads of 64 lanes, each padded to 128 lanes, laid side by side again: lane `c` is lane `c % 128` of head `c / 128`
    where that is below 64, and the padding value elsewhere. -/
theorem padHeads2 {R n m M : Nat} (hm : m = n * 64) (hM : M = n * 128) {u : Shape}
    (x : (⟨2, ![R, m]⟩ : Shape).Idx → α) (v : u.Idx → α)
    (h1 : (⟨2, ![R, m]⟩ : Shape).ShapeCasts ⟨3, ![R, n, 64]⟩)
    (h2 : (⟨3, ![R, n, 64]⟩ : Shape).Pads ![0, 0, 0] ![0, 0, 64] ![0, 0, 0] ⟨3, ![R, n, 128]⟩) (hu : 0 < u.numel)
    (h3 : (⟨3, ![R, n, 128]⟩ : Shape).ShapeCasts ⟨2, ![R, M]⟩) (r : Fin R) (c : Fin M) :
    shapeCast ⟨2, ![R, M]⟩ (pad ⟨3, ![R, n, 128]⟩ ![0, 0, 0] ![0, 0, 64] ![0, 0, 0] (shapeCast ⟨3, ![R, n, 64]⟩ x h1) v h2 hu) h3
        (ix2 r c)
      = if h : c.val % 128 < 64 then x (ix2 r ⟨c.val / 128 * 64 + c.val % 128, by have := c.isLt; omega⟩)
        else v (Shape.Idx.first hu) := by
  subst hm hM
  have hc := c.isLt
  have hq : c.val / 128 < n := by omega
  rw [shapeCast_apply _ h3 (ix2 r c) (ix3 r ⟨c.val / 128, hq⟩ ⟨c.val % 128, by omega⟩) (by
    rewrite [Shape.rowMajor_val_two, Shape.rowMajor_val_three]
    show (r.val * n + c.val / 128) * 128 + c.val % 128 = r.val * (n * 128) + c.val
    have e : (r.val * n + c.val / 128) * 128 = r.val * (n * 128) + c.val / 128 * 128 := by ring
    omega)]
  split
  · rename_i h
    rw [pad_apply_of_inside (k := ix3 r ⟨c.val / 128, hq⟩ ⟨c.val % 128, h⟩)]
    · refine shapeCast_apply _ h1 _ _ ?_
      rewrite [Shape.rowMajor_val_two, Shape.rowMajor_val_three]
      show r.val * (n * 64) + (c.val / 128 * 64 + c.val % 128) = (r.val * n + c.val / 128) * 64 + c.val % 128
      ring
    · intro a
      match a with
      | ⟨0, _⟩ => show r.val = 0 + r.val * (0 + 1); omega
      | ⟨1, _⟩ => show c.val / 128 = 0 + c.val / 128 * (0 + 1); omega
      | ⟨2, _⟩ => show c.val % 128 = 0 + c.val % 128 * (0 + 1); omega
  · rename_i h
    refine pad_apply_of_not_inside _ _ _ _ _ h2 hu _ (2 : Fin 3) ?_
    show ¬(0 ≤ c.val % 128 ∧ (c.val % 128 - 0) % (0 + 1) = 0 ∧ (c.val % 128 - 0) / (0 + 1) < 64)
    omega

/-- The same with a leading batch axis. -/
theorem padHeads3 {B R n m M : Nat} (hm : m = n * 64) (hM : M = n * 128) {u : Shape}
    (x : (⟨3, ![B, R, m]⟩ : Shape).Idx → α) (v : u.Idx → α)
    (h1 : (⟨3, ![B, R, m]⟩ : Shape).ShapeCasts ⟨4, ![B, R, n, 64]⟩)
    (h2 : (⟨4, ![B, R, n, 64]⟩ : Shape).Pads ![0, 0, 0, 0] ![0, 0, 0, 64] ![0, 0, 0, 0] ⟨4, ![B, R, n, 128]⟩) (hu : 0 < u.numel)
    (h3 : (⟨4, ![B, R, n, 128]⟩ : Shape).ShapeCasts ⟨3, ![B, R, M]⟩) (b : Fin B) (r : Fin R) (c : Fin M) :
    shapeCast ⟨3, ![B, R, M]⟩ (pad ⟨4, ![B, R, n, 128]⟩ ![0, 0, 0, 0] ![0, 0, 0, 64] ![0, 0, 0, 0]
        (shapeCast ⟨4, ![B, R, n, 64]⟩ x h1) v h2 hu) h3 (ix3 b r c)
      = if h : c.val % 128 < 64 then x (ix3 b r ⟨c.val / 128 * 64 + c.val % 128, by have := c.isLt; omega⟩)
        else v (Shape.Idx.first hu) := by
  subst hm hM
  have hc := c.isLt
  have hq : c.val / 128 < n := by omega
  rw [shapeCast_apply _ h3 (ix3 b r c) (ix4 b r ⟨c.val / 128, hq⟩ ⟨c.val % 128, by omega⟩) (by
    rewrite [Shape.rowMajor_val_three, Shape.rowMajor_val_four]
    show ((b.val * R + r.val) * n + c.val / 128) * 128 + c.val % 128 = (b.val * R + r.val) * (n * 128) + c.val
    have e : ((b.val * R + r.val) * n + c.val / 128) * 128 = (b.val * R + r.val) * (n * 128) + c.val / 128 * 128 := by ring
    omega)]
  split
  · rename_i h
    rw [pad_apply_of_inside (k := ix4 b r ⟨c.val / 128, hq⟩ ⟨c.val % 128, h⟩)]
    · refine shapeCast_apply _ h1 _ _ ?_
      rewrite [Shape.rowMajor_val_three, Shape.rowMajor_val_four]
      show (b.val * R + r.val) * (n * 64) + (c.val / 128 * 64 + c.val % 128)
        = ((b.val * R + r.val) * n + c.val / 128) * 64 + c.val % 128
      ring
    · intro a
      match a with
      | ⟨0, _⟩ => show b.val = 0 + b.val * (0 + 1); omega
      | ⟨1, _⟩ => show r.val = 0 + r.val * (0 + 1); omega
      | ⟨2, _⟩ => show c.val / 128 = 0 + c.val / 128 * (0 + 1); omega
      | ⟨3, _⟩ => show c.val % 128 = 0 + c.val % 128 * (0 + 1); omega
  · rename_i h
    refine pad_apply_of_not_inside _ _ _ _ _ h2 hu _ (3 : Fin 4) ?_
    show ¬(0 ≤ c.val % 128 ∧ (c.val % 128 - 0) % (0 + 1) = 0 ∧ (c.val % 128 - 0) / (0 + 1) < 64)
    omega

/-- A matrix product into the zero splat, its one contracting axis named by its coordinate: the left and right operands'
    indices at coordinate `k` given as functions of `k`. -/
theorem matmul_sum {sl sr so : Shape} {φ₁ φ₂ : FTy} (D : DotDims sl sr so) (prec : Option ContractPrecision)
    (n : Nat) (hr : D.contr.rank = 1) (hs : D.contr.size ⟨0, by omega⟩ = n)
    (lhs : FVec Ideal sl φ₁) (rhs : FVec Ideal sr φ₂) (j : so.Idx) (L : Fin n → sl.Idx) (R : Fin n → sr.Idx)
    (hL : ∀ q : D.contr.Idx, ∀ k : Fin n, (q ⟨0, by omega⟩).val = k.val → D.lhsIdx j q = L k)
    (hR : ∀ q : D.contr.Idx, ∀ k : Fin n, (q ⟨0, by omega⟩).val = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hL _ k hk, hR _ k hk]

theorem ix3_ext {a b c : Nat} {i j : (⟨3, ![a, b, c]⟩ : Shape).Idx} (h0 : (i 0).val = (j 0).val) (h1 : (i 1).val = (j 1).val) (h2 : (i 2).val = (j 2).val) : i = j :=
  funext fun x => Fin.ext (match x with | ⟨0, _⟩ => h0 | ⟨1, _⟩ => h1 | ⟨2, _⟩ => h2)

theorem ix2_ext {a b : Nat} {i j : (⟨2, ![a, b]⟩ : Shape).Idx} (h0 : (i 0).val = (j 0).val) (h1 : (i 1).val = (j 1).val) : i = j :=
  funext fun x => Fin.ext (match x with | ⟨0, _⟩ => h0 | ⟨1, _⟩ => h1)

/-- A row spread over the rows of a matrix. -/
theorem bcRow {R C : Nat} (v : (⟨2, ![1, C]⟩ : Shape).Idx → α) (h : (⟨2, ![1, C]⟩ : Shape).Broadcasts ⟨2, ![R, C]⟩) (r : Fin R) (c : Fin C) :
    broadcastTo ⟨2, ![R, C]⟩ v h (ix2 r c) = v (ix2 0 c) :=
  broadcastTo_apply _ _ _ _ fun a => match a with
    | ⟨0, _⟩ => rfl
    | ⟨1, _⟩ => by
      show c.val = if C = 1 then 0 else c.val
      have := c.isLt
      split <;> omega

/-- A column spread over the columns of a matrix. -/
theorem bcCol {R C : Nat} (v : (⟨2, ![R, 1]⟩ : Shape).Idx → α) (h : (⟨2, ![R, 1]⟩ : Shape).Broadcasts ⟨2, ![R, C]⟩) (r : Fin R) (c : Fin C) :
    broadcastTo ⟨2, ![R, C]⟩ v h (ix2 r c) = v (ix2 r 0) :=
  broadcastTo_apply _ _ _ _ fun a => match a with
    | ⟨0, _⟩ => by
      show r.val = if R = 1 then 0 else r.val
      have := r.isLt
      split <;> omega
    | ⟨1, _⟩ => rfl

/-- A unit leading axis dropped. -/
theorem cast32 {R C : Nat} (x : (⟨3, ![1, R, C]⟩ : Shape).Idx → α) (h : (⟨3, ![1, R, C]⟩ : Shape).ShapeCasts ⟨2, ![R, C]⟩) (r : Fin R) (c : Fin C) :
    shapeCast ⟨2, ![R, C]⟩ x h (ix2 r c) = x (ix3 0 r c) :=
  shapeCast_apply _ _ _ _ (by
    rewrite [Shape.rowMajor_val_two, Shape.rowMajor_val_three]
    show (0 * R + r.val) * C + c.val = r.val * C + c.val
    rw [Nat.zero_mul, Nat.zero_add])

/-- A unit leading axis added. -/
theorem cast23 {R C : Nat} (x : (⟨2, ![R, C]⟩ : Shape).Idx → α) (h : (⟨2, ![R, C]⟩ : Shape).ShapeCasts ⟨3, ![1, R, C]⟩) (r : Fin R) (c : Fin C) :
    shapeCast ⟨3, ![1, R, C]⟩ x h (ix3 0 r c) = x (ix2 r c) :=
  shapeCast_apply _ _ _ _ (by
    rewrite [Shape.rowMajor_val_two, Shape.rowMajor_val_three]
    show r.val * C + c.val = (0 * R + r.val) * C + c.val
    rw [Nat.zero_mul, Nat.zero_add])

/-- A vector as a column. -/
theorem castCol {R : Nat} (x : (⟨1, ![R]⟩ : Shape).Idx → α) (h : (⟨1, ![R]⟩ : Shape).ShapeCasts ⟨2, ![R, 1]⟩) (r : Fin R) :
    shapeCast ⟨2, ![R, 1]⟩ x h (ix2 r 0) = x (ix1 r) :=
  shapeCast_apply _ _ _ _ (by
    rewrite [Shape.rowMajor_val_two, Shape.rowMajor_val_one]
    show r.val = r.val * 1 + 0
    omega)

/-- A cast to the same shape. -/
theorem castSelf {s : Shape} (x : s.Idx → α) (h : s.ShapeCasts s) (i : s.Idx) : shapeCast s x h i = x i :=
  shapeCast_apply _ _ _ _ rfl

/-- The sum along a matrix's rows. -/
theorem laneSum {R C : Nat} (src : FVec Ideal ⟨2, ![R, C]⟩ .f32) (h : (⟨2, ![R, C]⟩ : Shape).Reduces [1] ⟨1, ![R]⟩) (hφ) (hacc) (r : Fin R) :
    multiReduction .add [1] ⟨1, ![R]⟩ src 0x00000000#32 h hφ hacc (ix1 r) = ∑ k : Fin C, src (ix2 r k) := by
  refine (Ideal.multiReduction_add_single src _ h hφ hacc (ix1 r)).trans ?_
  refine Finset.sum_congr rfl fun k _ => ?_
  refine congrArg src (funext fun a => Fin.ext ?_)
  match a with
  | ⟨0, _⟩ => rfl
  | ⟨1, _⟩ => rfl

/-- A plain matrix product into zeros. -/
theorem mm2 {R K C : Nat} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![R, K]⟩ φ₁) (rhs : FVec Ideal ⟨2, ![K, C]⟩ φ₂) (r : Fin R) (c : Fin C) :
    matmul D prec lhs rhs (constant ⟨2, ![R, C]⟩ .f32 0x00000000#32) (ix2 r c) = ∑ k : Fin K, lhs (ix2 r k) * rhs (ix2 k c) := by
  obtain ⟨lc, rc, ln, rn, lb, rb, wf⟩ := D
  dsimp only at hlc hrc hln hrn hlb hrb
  subst hlc hrc hln hrn hlb hrb
  refine matmul_sum _ prec K rfl rfl lhs rhs _ (fun d => ix2 r d) (fun d => ix2 d c) ?_ ?_
  · intro q k hq
    funext a; apply Fin.ext
    match a with
    | ⟨0, _⟩ =>
      unfold DotDims.lhsIdx
      rw [dif_neg (by simp), dif_pos (by simp)]
      rfl
    | ⟨1, _⟩ => exact (DotDims.lhsIdx_val_of_single _ rfl _ q).trans hq
  · intro q k hq
    funext a; apply Fin.ext
    match a with
    | ⟨0, _⟩ => exact (DotDims.rhsIdx_val_of_single _ rfl _ q).trans hq
    | ⟨1, _⟩ =>
      unfold DotDims.rhsIdx
      rw [dif_neg (by simp), dif_pos (by simp)]
      rfl

/-- Padding both factors of a contraction by zeros, 64 lanes to 128 in each of 8 groups, leaves its value. -/
theorem sum_padded (f g : Fin 512 → EReal) :
    (∑ k : Fin 1024, (if h : k.val % 128 < 64 then f ⟨k.val / 128 * 64 + k.val % 128, by omega⟩ else 0)
        * (if h : k.val % 128 < 64 then g ⟨k.val / 128 * 64 + k.val % 128, by omega⟩ else 0))
      = ∑ k : Fin 512, f k * g k := by
  symm
  refine Finset.sum_of_injOn (fun k : Fin 512 => (⟨k.val / 64 * 128 + k.val % 64, by omega⟩ : Fin 1024)) ?_ (fun _ _ => by simp) ?_ ?_
  · intro a _ b _ hab
    have h : a.val / 64 * 128 + a.val % 64 = b.val / 64 * 128 + b.val % 64 := congrArg Fin.val hab
    apply Fin.ext
    omega
  · intro k _ hk
    by_cases h : k.val % 128 < 64
    · refine absurd ⟨⟨k.val / 128 * 64 + k.val % 128, by omega⟩, by simp, Fin.ext ?_⟩ hk
      show (k.val / 128 * 64 + k.val % 128) / 64 * 128 + (k.val / 128 * 64 + k.val % 128) % 64 = k.val
      omega
    · simp [h]
  · intro k _
    have h : (k.val / 64 * 128 + k.val % 64) % 128 < 64 := by omega
    have e : (⟨(k.val / 64 * 128 + k.val % 64) / 128 * 64 + (k.val / 64 * 128 + k.val % 64) % 128, by omega⟩ : Fin 512) = k :=
      Fin.ext (by show (k.val / 64 * 128 + k.val % 64) / 128 * 64 + (k.val / 64 * 128 + k.val % 64) % 128 = k.val; omega)
    dsimp only
    rw [dif_pos h, dif_pos h, e]

/-- A row's mean, with the divisor as the word that both programs hold. -/
def mean (v : Fin 1024 → EReal) : EReal := Ideal.div (∑ k, v k) (Ideal.ofBits .f32 0x44800000#32)

/-- The layer norm of a row with gains and offsets. -/
def lnRow (v g b : Fin 1024 → EReal) (o : Fin 1024) : EReal :=
  (v o - mean v) * FloatOps.rsqrt (F := Ideal) (φ := .f32) (mean (fun k => (v k - mean v) * (v k - mean v)) + Ideal.ofBits .f32 0x3727C5AC#32) * g o + b o

end Cert.Kit

end
-- ==== Proof.InProj.lean ====
/- `in_proj`: the modulated activations times the packed projection weights, against the product written plainly and laid
   out with each head padded to 128 lanes. -/
module

public import proofs.«01_k».proof.Defs
public import proofs.«01_k».proof.Proof.Kit
public import Idealize.ShloMosaic.Lib.IdealHost
public import Idealize.ShloMosaic.Lib.Quiescent
public import proofs.«01_k».proof.Proof.Gen.InProjIdeal.Value
public import proofs.«01_k».proof.Proof.Gen.InProjRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)

namespace Cert.InProjCols

/-- The result's column `col` out of the 2304 projected ones: the query heads, the mixer's columns, the key and the value
    heads, each head's 64 lanes followed by 64 zeros. -/
def colOf (g : Fin 2304 → EReal) (col : Fin 3072) : EReal :=
  if h : col.val < 1024 then
    if h' : col.val % 128 < 64 then g ⟨1536 + (col.val / 128 * 64 + col.val % 128), by omega⟩ else 0
  else if h : col.val < 2560 then g ⟨col.val - 1024, by omega⟩
  else if h : col.val < 2816 then
    if h' : (col.val - 2560) % 128 < 64 then g ⟨2048 + ((col.val - 2560) / 128 * 64 + (col.val - 2560) % 128), by omega⟩ else 0
  else
    if h' : (col.val - 2816) % 128 < 64 then
      g ⟨2176 + ((col.val - 2816) / 128 * 64 + (col.val - 2816) % 128), by have := col.isLt; omega⟩ else 0

/-- A sum over the contraction with packed weights is the packed sum: a zero column sums to zero. -/
theorem sum_colOf {n : Nat} (h : Fin n → EReal) (w : Fin n → Fin 2304 → EReal) (col : Fin 3072) :
    ∑ d, h d * colOf (w d) col = colOf (fun k => ∑ d, h d * w d k) col := by
  unfold colOf
  split_ifs <;> simp

/-- Four pieces side by side, read in the order the columns come. -/
theorem concat4 {α : Type} {R : Nat} (x0 : (⟨2, ![R, 1024]⟩ : Shape).Idx → α) (x1 : (⟨2, ![R, 1536]⟩ : Shape).Idx → α)
    (x2 x3 : (⟨2, ![R, 256]⟩ : Shape).Idx → α) (h) (r : Fin R) (col : Fin 3072) :
    concatenate ⟨2, ![R, 3072]⟩ (1 : Fin 2) [⟨⟨2, ![R, 1024]⟩, x0⟩, ⟨⟨2, ![R, 1536]⟩, x1⟩, ⟨⟨2, ![R, 256]⟩, x2⟩, ⟨⟨2, ![R, 256]⟩, x3⟩] h (ix2 r col)
      = if h : col.val < 1024 then x0 (ix2 r ⟨col.val, h⟩)
        else if h : col.val < 2560 then x1 (ix2 r ⟨col.val - 1024, by omega⟩)
        else if h : col.val < 2816 then x2 (ix2 r ⟨col.val - 2560, by omega⟩)
        else x3 (ix2 r ⟨col.val - 2816, by have := col.isLt; omega⟩) := by
  have hcol := col.isLt
  have off : ∀ {n : Nat} (k : Fin n) (b : Fin 2), b.cast (rfl : 2 = 2) ≠ (1 : Fin 2) → ((ix2 r k : (⟨2, ![R, n]⟩ : Shape).Idx) b).val = ((ix2 r col : (⟨2, ![R, 3072]⟩ : Shape).Idx) (b.cast rfl)).val := fun k b hb => by
    match b with
    | ⟨0, _⟩ => rfl
    | ⟨1, _⟩ => exact absurd rfl hb
  split_ifs with h0 h1 h2
  · exact concatenate_apply_piece _ _ h _ 0 (by decide : 0 < 4) _ x0 rfl rfl 0 rfl (ix2 r ⟨col.val, h0⟩) (off _) (by show 0 + col.val = col.val; omega)
  · exact concatenate_apply_piece _ _ h _ 1 (by decide : 1 < 4) _ x1 rfl rfl 1024 rfl (ix2 r ⟨col.val - 1024, by omega⟩) (off _) (by show 1024 + (col.val - 1024) = col.val; omega)
  · exact concatenate_apply_piece _ _ h _ 2 (by decide : 2 < 4) _ x2 rfl rfl 2560 rfl (ix2 r ⟨col.val - 2560, by omega⟩) (off _) (by show 2560 + (col.val - 2560) = col.val; omega)
  · exact concatenate_apply_piece _ _ h _ 3 (by decide : 3 < 4) _ x3 rfl rfl 2816 rfl (ix2 r ⟨col.val - 2816, by omega⟩) (off _) (by show 2816 + (col.val - 2816) = col.val; omega)

/-- The same with a leading batch axis. -/
theorem concat4b {α : Type} {B R : Nat} (x0 : (⟨3, ![B, R, 1024]⟩ : Shape).Idx → α) (x1 : (⟨3, ![B, R, 1536]⟩ : Shape).Idx → α)
    (x2 x3 : (⟨3, ![B, R, 256]⟩ : Shape).Idx → α) (h) (b : Fin B) (r : Fin R) (col : Fin 3072) :
    concatenate ⟨3, ![B, R, 3072]⟩ (2 : Fin 3) [⟨⟨3, ![B, R, 1024]⟩, x0⟩, ⟨⟨3, ![B, R, 1536]⟩, x1⟩, ⟨⟨3, ![B, R, 256]⟩, x2⟩, ⟨⟨3, ![B, R, 256]⟩, x3⟩] h (ix3 b r col)
      = if h : col.val < 1024 then x0 (ix3 b r ⟨col.val, h⟩)
        else if h : col.val < 2560 then x1 (ix3 b r ⟨col.val - 1024, by omega⟩)
        else if h : col.val < 2816 then x2 (ix3 b r ⟨col.val - 2560, by omega⟩)
        else x3 (ix3 b r ⟨col.val - 2816, by have := col.isLt; omega⟩) := by
  have hcol := col.isLt
  have off : ∀ {n : Nat} (k : Fin n) (a : Fin 3), a.cast (rfl : 3 = 3) ≠ (2 : Fin 3) → ((ix3 b r k : (⟨3, ![B, R, n]⟩ : Shape).Idx) a).val = ((ix3 b r col : (⟨3, ![B, R, 3072]⟩ : Shape).Idx) (a.cast rfl)).val := fun k a hb => by
    match a with
    | ⟨0, _⟩ => rfl
    | ⟨1, _⟩ => rfl
    | ⟨2, _⟩ => exact absurd rfl hb
  split_ifs with h0 h1 h2
  · exact concatenate_apply_piece _ _ h _ 0 (by decide : 0 < 4) _ x0 rfl rfl 0 rfl (ix3 b r ⟨col.val, h0⟩) (off _) (by show 0 + col.val = col.val; omega)
  · exact concatenate_apply_piece _ _ h _ 1 (by decide : 1 < 4) _ x1 rfl rfl 1024 rfl (ix3 b r ⟨col.val - 1024, by omega⟩) (off _) (by show 1024 + (col.val - 1024) = col.val; omega)
  · exact concatenate_apply_piece _ _ h _ 2 (by decide : 2 < 4) _ x2 rfl rfl 2560 rfl (ix3 b r ⟨col.val - 2560, by omega⟩) (off _) (by show 2560 + (col.val - 2560) = col.val; omega)
  · exact concatenate_apply_piece _ _ h _ 3 (by decide : 3 < 4) _ x3 rfl rfl 2816 rfl (ix3 b r ⟨col.val - 2816, by omega⟩) (off _) (by show 2816 + (col.val - 2816) = col.val; omega)

/-- What both programs compute, over the arrays they take. -/
def spec (x : Vec Ideal ⟨3, ![4, 4096, 1024]⟩ .f32) (sc sh : Vec Ideal ⟨3, ![4, 1, 1024]⟩ .f32)
    (w : Vec Ideal ⟨3, ![1, 1024, 2304]⟩ .f32) : Vec Ideal ⟨3, ![4, 4096, 3072]⟩ .f32 := fun i =>
  colOf (fun k => ∑ d : Fin 1024, (x (ix3 (i 0) (i 1) d) * (1 + sc (ix3 (i 0) 0 d)) + sh (ix3 (i 0) 0 d)) * w (ix3 0 d k)) (i 2)

theorem pad_zero (i : (⟨0, ![]⟩ : Shape).Idx) : sitofp (F := Ideal) .f32 (constantI ⟨0, ![]⟩ 32 0#32) i = (0 : EReal) := by
  show (((0#32 : BitVec 32).toInt : ℝ) : EReal) = 0
  simp

end Cert.InProjCols

namespace Cert.InProjIdeal.Hand

open Cert.InProjIdeal Cert.InProjIdeal.Gen Cert.InProjCols

variable (m : (ℓ : Loc nD τ sig) → Buf (Elt Ideal) ℓ) (ρ : Dev nD → PrngReg)

/-- The three head groups of the weights, padded. -/
abbrev wrow (c : Dev nD) : Vec Ideal S1024x2304 .f32 :=
  shapeCast S1024x2304 (m ((c : Thread nD τ).loc main_arg3) : Vec Ideal S1x1024x2304 .f32) shapeCasts_S1x1024x2304_S1024x2304

set_option maxHeartbeats 2000000 in
theorem V_w (c : Dev nD) : (V m c main_v15 : Vec Ideal S1024x3072 .bf16) = truncf .bf16
    (concatenate S1024x3072 1
      [⟨S1024x1024, shapeCast S1024x1024 (pad S1024x8x128 ![0, 0, 0] ![0, 0, 64] ![0, 0, 0] (shapeCast S1024x8x64 (extractStridedSlice S1024x512 ![0, 1536] (wrow m c) slices_S1024x2304_S1024x512_0_1536) shapeCasts_S1024x512_S1024x8x64) (sitofp (F := Ideal) .f32 (constantI S_ 32 0#32)) pads_S1024x8x64_S1024x8x128_000_000_0640 h_S_) shapeCasts_S1024x8x128_S1024x1024⟩,
       ⟨S1024x1536, extractStridedSlice S1024x1536 ![0, 0] (wrow m c) slices_S1024x2304_S1024x1536_0_0⟩,
       ⟨S1024x256, shapeCast S1024x256 (pad S1024x2x128 ![0, 0, 0] ![0, 0, 64] ![0, 0, 0] (shapeCast S1024x2x64 (extractStridedSlice S1024x128 ![0, 2048] (wrow m c) slices_S1024x2304_S1024x128_0_2048) shapeCasts_S1024x128_S1024x2x64) (sitofp (F := Ideal) .f32 (constantI S_ 32 0#32)) pads_S1024x2x64_S1024x2x128_000_000_0640 h_S_) shapeCasts_S1024x2x128_S1024x256⟩,
       ⟨S1024x256, shapeCast S1024x256 (pad S1024x2x128 ![0, 0, 0] ![0, 0, 64] ![0, 0, 0] (shapeCast S1024x2x64 (extractStridedSlice S1024x128 ![0, 2176] (wrow m c) slices_S1024x2304_S1024x128_0_2176) shapeCasts_S1024x128_S1024x2x64) (sitofp (F := Ideal) .f32 (constantI S_ 32 0#32)) pads_S1024x2x64_S1024x2x128_000_000_0640 h_S_) shapeCasts_S1024x2x128_S1024x256⟩]
      concatenates_S1024x1024_S1024x1536_S1024x256_S1024x256_S1024x3072_d1) bitsLt_bf16_f32 := by
  simp only [V, hostOps0, hostOps0_1, hostOps0_2, hostOps0_3, hostOps0_4, hostOps0_5, hostOps0_6, List.flatten_cons, List.flatten_nil, List.append_nil, List.cons_append,
    List.nil_append, StableHlo.TRef.binary, StableHlo.TRef.unary, StableHlo.TRef.toBuf, StableHlo.TRef.ofBuf, cast_eq]
  after_results <;> rfl

theorem wrow_apply (c : Dev nD) (d : Fin 1024) (k : Fin 2304) :
    wrow m c (ix2 d k) = (m ((c : Thread nD τ).loc main_arg3) : Vec Ideal S1x1024x2304 .f32) (ix3 0 d k) := by
  refine shapeCast_apply (s := S1x1024x2304) (t := S1024x2304) _ _ _ _ ?_
  rewrite [Shape.rowMajor_val_two, Shape.rowMajor_val_three]
  show (0 * 1024 + d.val) * 2304 + k.val = d.val * 2304 + k.val
  omega

/-- The packed weights at an index. -/
theorem V_w_apply (c : Dev nD) (d : Fin 1024) (col : Fin 3072) :
    (V m c main_v15 : Vec Ideal S1024x3072 .bf16) (ix2 d col)
      = colOf (fun k => (m ((c : Thread nD τ).loc main_arg3) : Vec Ideal S1x1024x2304 .f32) (ix3 0 d k)) col := by
  rw [V_w]
  refine (concat4 (α := EReal) _ _ _ _ concatenates_S1024x1024_S1024x1536_S1024x256_S1024x256_S1024x3072_d1 d col).trans ?_
  have hc := col.isLt
  unfold colOf
  have sl : ∀ {n : Nat} (o : Nat) (h : S1024x2304.Slices ![0, o] ⟨2, ![1024, n]⟩) (k : Fin n) (hk : o + k.val < 2304),
      extractStridedSlice ⟨2, ![1024, n]⟩ ![0, o] (wrow m c) h (ix2 d k)
        = (m ((c : Thread nD τ).loc main_arg3) : Vec Ideal S1x1024x2304 .f32) (ix3 0 d ⟨o + k.val, hk⟩) := fun o h k hk => by
    refine Eq.trans ?_ (wrow_apply m c d ⟨o + k.val, hk⟩)
    exact extractStridedSlice_apply _ _ h _ _ (fun a => match a with
      | ⟨0, _⟩ => by show d.val = 0 + d.val; omega
      | ⟨1, _⟩ => by show o + k.val = o + k.val; rfl)
  by_cases h0 : col.val < 1024
  · rw [dif_pos h0, dif_pos h0]
    refine (Kit.padHeads2 (n := 8) rfl rfl _ _ _ _ _ _ d ⟨col.val, h0⟩).trans ?_
    by_cases h' : col.val % 128 < 64
    · rw [dif_pos h', dif_pos h']
      exact sl 1536 _ _ _
    · rw [dif_neg h', dif_neg h']
      exact pad_zero _
  rw [dif_neg h0, dif_neg h0]
  by_cases h1 : col.val < 2560
  · rw [dif_pos h1, dif_pos h1]
    refine (sl 0 _ _ (by show 0 + (col.val - 1024) < 2304; omega)).trans ?_
    congr 2
    exact Fin.ext (by show 0 + (col.val - 1024) = col.val - 1024; omega)
  rw [dif_neg h1, dif_neg h1]
  by_cases h2 : col.val < 2816
  · rw [dif_pos h2, dif_pos h2]
    refine (Kit.padHeads2 (n := 2) rfl rfl _ _ _ _ _ _ d ⟨col.val - 2560, by omega⟩).trans ?_
    by_cases h' : (col.val - 2560) % 128 < 64
    · rw [dif_pos h', dif_pos h']
      exact sl 2048 _ _ _
    · rw [dif_neg h', dif_neg h']
      exact pad_zero _
  rw [dif_neg h2, dif_neg h2]
  refine (Kit.padHeads2 (n := 2) rfl rfl _ _ _ _ _ _ d ⟨col.val - 2816, by omega⟩).trans ?_
  by_cases h' : (col.val - 2816) % 128 < 64
  · rw [dif_pos h', dif_pos h']
    exact sl 2176 _ _ _
  · rw [dif_neg h', dif_neg h']
    exact pad_zero _

/-! ## The product at an index -/

theorem lhs_0 (j : S512x3072.Idx) (q : dot_S512x1024_S1024x3072_S512x3072_1_0_0_1_n_n.contr.Idx) :
    (dot_S512x1024_S1024x3072_S512x3072_1_0_0_1_n_n.lhsIdx j q 0).val = (j 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl

theorem rhs_1 (j : S512x3072.Idx) (q : dot_S512x1024_S1024x3072_S512x3072_1_0_0_1_n_n.contr.Idx) :
    (dot_S512x1024_S1024x3072_S512x3072_1_0_0_1_n_n.rhsIdx j q 1).val = (j 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

theorem mm_apply (lhs : FVec Ideal S512x1024 .bf16) (rhs : FVec Ideal S1024x3072 .bf16) (r : Fin 512) (col : Fin 3072) :
    matmul dot_S512x1024_S1024x3072_S512x3072_1_0_0_1_n_n none lhs rhs (constant S512x3072 .f32 0x00000000#32) (ix2 r col)
      = ∑ d : Fin 1024, lhs (ix2 r d) * rhs (ix2 d col) := by
  refine Kit.matmul_sum _ none 1024 rfl rfl lhs rhs _ (fun d => ix2 r d) (fun d => ix2 d col) ?_ ?_
  · intro q k hq
    funext a; apply Fin.ext
    match a with
    | ⟨0, _⟩ => exact lhs_0 _ q
    | ⟨1, _⟩ => exact (DotDims.lhsIdx_val_of_single _ rfl _ q).trans hq
  · intro q k hq
    funext a; apply Fin.ext
    match a with
    | ⟨0, _⟩ => exact (DotDims.rhsIdx_val_of_single _ rfl _ q).trans hq
    | ⟨1, _⟩ => exact rhs_1 _ q

/-- What the body stores, at an index. -/
theorem pay_apply (x0 : Vec Ideal S1x512x1024 .f32) (x1 x2 : Vec Ideal S1x1x1024 .f32) (x3 : Vec Ideal S1024x3072 .bf16) (r : Fin 512) (col : Fin 3072) :
    k0_pay1 x0 x1 x2 x3 (ix3 0 r col) = ∑ d : Fin 1024, (x0 (ix3 0 r d) * (1 + x1 (ix3 0 0 d)) + x2 (ix3 0 0 d)) * x3 (ix2 d col) := by
  unfold k0_pay1
  refine (shapeCast_apply (s := S512x3072) (t := S1x512x3072) _ _ (ix3 0 r col) (ix2 r col) ?_).trans ?_
  · rewrite [Shape.rowMajor_val_two, Shape.rowMajor_val_three]
    show r.val * 3072 + col.val = (0 * 512 + r.val) * 3072 + col.val
    omega
  refine (mm_apply _ _ r col).trans (Finset.sum_congr rfl fun d _ => ?_)
  have row : ∀ v : FVec Ideal S1x1024 .f32, broadcastTo S512x1024 v broadcasts_S1x1024_S512x1024 (ix2 r d) = v (ix2 0 d) := fun v =>
    broadcastTo_apply _ _ _ _ fun a => match a with
      | ⟨0, _⟩ => rfl
      | ⟨1, _⟩ => rfl
  have flat : ∀ v : Vec Ideal S1x1x1024 .f32, shapeCast S1x1024 v shapeCasts_S1x1x1024_S1x1024 (ix2 0 d) = v (ix3 0 0 d) := fun v =>
    shapeCast_apply _ _ _ _ (by
      rewrite [Shape.rowMajor_val_two, Shape.rowMajor_val_three]
      show (0 * 1 + 0) * 1024 + d.val = 0 * 1024 + d.val
      omega)
  have hx : shapeCast S512x1024 x0 shapeCasts_S1x512x1024_S512x1024 (ix2 r d) = x0 (ix3 0 r d) :=
    shapeCast_apply _ _ _ _ (by
      rewrite [Shape.rowMajor_val_two, Shape.rowMajor_val_three]
      show (0 * 512 + r.val) * 1024 + d.val = r.val * 1024 + d.val
      omega)
  rw [show shapeCast S1024x3072 x3 shapeCasts_S1024x3072_S1024x3072 (ix2 d col) = x3 (ix2 d col) from shapeCast_apply _ _ _ _ rfl]
  congr 1
  show shapeCast S512x1024 x0 shapeCasts_S1x512x1024_S512x1024 (ix2 r d)
      * broadcastTo S512x1024 (addf (broadcast S1x1024 (Scalar.ofBits (F := Ideal) .f32 0x3F800000#32)) (shapeCast S1x1024 x1 shapeCasts_S1x1x1024_S1x1024)) broadcasts_S1x1024_S512x1024 (ix2 r d)
      + broadcastTo S512x1024 (shapeCast S1x1024 x2 shapeCasts_S1x1x1024_S1x1024) broadcasts_S1x1024_S512x1024 (ix2 r d) = _
  rw [hx, row, row, flat, ← flat x1]
  show _ * (Ideal.ofBits .f32 0x3F800000#32 + _) + _ = _
  rw [Ideal.ofBits_one_f32]

/-! ## The blocks -/

theorem hz2 : (![0, 0] : Fin 2 → Nat) = fun _ => 0 := funext fun a => by fin_cases a <;> rfl
theorem hz3 : (![0, 0, 0] : Fin 3 → Nat) = fun _ => 0 := funext fun a => by fin_cases a <;> rfl

theorem idx_facts : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 3) = t.val / 8 ∧ win0_4.index t (1 : Fin 3) = t.val % 8 ∧ win0_4.index t (2 : Fin 3) = 0)
    ∧ (cfg0.win 4).flush t = true :=
  (by decide +kernel : ∀ t : Fin grid0.N, _)

variable (t : Fin cfg0.N) (b : Fin 4) (i : Fin 8) (ht : t.val = b.val * 8 + i.val)
include ht

theorem emb0 (r : Fin 512) (d : Fin 1024) :
    ((cfg0.win 0).blk t).view.emb (ix3 0 r d) = (ix3 b ⟨i.val * 512 + r.val, by omega⟩ d : S4x4096x1024.Idx) := by
  obtain ⟨⟨e0, e1, e2⟩, -⟩ := idx_facts t
  funext a; apply Fin.ext
  match a with
  | ⟨0, _⟩ => show win0_0.index t (0 : Fin 3) * 1 + 1 * 0 = b.val; omega
  | ⟨1, _⟩ => show win0_0.index t (1 : Fin 3) * 512 + 1 * r.val = i.val * 512 + r.val; omega
  | ⟨2, _⟩ => show win0_0.index t (2 : Fin 3) * 1024 + 1 * d.val = d.val; omega

theorem emb1 (d : Fin 1024) : ((cfg0.win 1).blk t).view.emb (ix3 0 0 d) = (ix3 b 0 d : S4x1x1024.Idx) := by
  obtain ⟨-, ⟨e0, e1, e2⟩, -⟩ := idx_facts t
  funext a; apply Fin.ext
  match a with
  | ⟨0, _⟩ => show win0_1.index t (0 : Fin 3) * 1 + 1 * 0 = b.val; omega
  | ⟨1, _⟩ => show win0_1.index t (1 : Fin 3) * 1 + 1 * 0 = 0; omega
  | ⟨2, _⟩ => show win0_1.index t (2 : Fin 3) * 1024 + 1 * d.val = d.val; omega

theorem emb2 (d : Fin 1024) : ((cfg0.win 2).blk t).view.emb (ix3 0 0 d) = (ix3 b 0 d : S4x1x1024.Idx) := by
  obtain ⟨-, -, ⟨e0, e1, e2⟩, -⟩ := idx_facts t
  funext a; apply Fin.ext
  match a with
  | ⟨0, _⟩ => show win0_2.index t (0 : Fin 3) * 1 + 1 * 0 = b.val; omega
  | ⟨1, _⟩ => show win0_2.index t (1 : Fin 3) * 1 + 1 * 0 = 0; omega
  | ⟨2, _⟩ => show win0_2.index t (2 : Fin 3) * 1024 + 1 * d.val = d.val; omega

omit ht in
theorem emb3 (d : Fin 1024) (col : Fin 3072) : ((cfg0.win 3).blk t).view.emb (ix2 d col) = (ix2 d col : S1024x3072.Idx) := by
  obtain ⟨-, -, -, ⟨e0, e1⟩, -⟩ := idx_facts t
  funext a; apply Fin.ext
  match a with
  | ⟨0, _⟩ => show win0_3.index t (0 : Fin 2) * 1024 + 1 * d.val = d.val; omega
  | ⟨1, _⟩ => show win0_3.index t (1 : Fin 2) * 3072 + 1 * col.val = col.val; omega

theorem emb4 (r : Fin 512) (col : Fin 3072) :
    ((cfg0.win 4).blk t).view.emb (ix3 0 r col) = (ix3 b ⟨i.val * 512 + r.val, by omega⟩ col : S4x4096x3072.Idx) := by
  obtain ⟨-, -, -, -, ⟨e0, e1, e2⟩, -⟩ := idx_facts t
  funext a; apply Fin.ext
  match a with
  | ⟨0, _⟩ => show win0_4.index t (0 : Fin 3) * 1 + 1 * 0 = b.val; omega
  | ⟨1, _⟩ => show win0_4.index t (1 : Fin 3) * 512 + 1 * r.val = i.val * 512 + r.val; omega
  | ⟨2, _⟩ => show win0_4.index t (2 : Fin 3) * 3072 + 1 * col.val = col.val; omega

abbrev M0 (c : Dev nD) : Vec Ideal S4x4096x1024 .f32 := m ((c : Thread nD τ).loc main_arg0)
abbrev M1 (c : Dev nD) : Vec Ideal S4x1x1024 .f32 := m ((c : Thread nD τ).loc main_arg1)
abbrev M2 (c : Dev nD) : Vec Ideal S4x1x1024 .f32 := m ((c : Thread nD τ).loc main_arg2)
abbrev M3 (c : Dev nD) : Vec Ideal S1x1024x2304 .f32 := m ((c : Thread nD τ).loc main_arg3)

theorem iblk0_apply (c : Dev nD) (r : Fin 512) (d : Fin 1024) :
    iblk m c 0 t (ix3 0 r d) = M0 m c (ix3 b ⟨i.val * 512 + r.val, by omega⟩ d) := by
  show V m c main_arg0 (((cfg0.win 0).blk t).view.emb (ix3 0 r d)) = _
  rw [emb0 t b i ht, V_main_arg0]

theorem iblk1_apply (c : Dev nD) (d : Fin 1024) : iblk m c 1 t (ix3 0 0 d) = M1 m c (ix3 b 0 d) := by
  show V m c main_arg1 (((cfg0.win 1).blk t).view.emb (ix3 0 0 d)) = _
  rw [emb1 t b i ht, V_main_arg1]

theorem iblk2_apply (c : Dev nD) (d : Fin 1024) : iblk m c 2 t (ix3 0 0 d) = M2 m c (ix3 b 0 d) := by
  show V m c main_arg2 (((cfg0.win 2).blk t).view.emb (ix3 0 0 d)) = _
  rw [emb2 t b i ht, V_main_arg2]

omit ht in
theorem iblk3_apply (c : Dev nD) (d : Fin 1024) (col : Fin 3072) :
    iblk m c 3 t (ix2 d col) = colOf (fun k => M3 m c (ix3 0 d k)) col := by
  show V m c main_v15 (((cfg0.win 3).blk t).view.emb (ix2 d col)) = _
  rw [emb3 t]
  exact V_w_apply m c d col

/-- The array that the run leaves, at an index of block `t`. -/
theorem final_at (c : Dev nD) (r : Fin 512) (col : Fin 3072) :
    (dats m 0 c).arrAt 4 cfg0.N (ix3 b ⟨i.val * 512 + r.val, by omega⟩ col : S4x4096x3072.Idx)
      = spec (M0 m c) (M1 m c) (M2 m c) (M3 m c) (ix3 b ⟨i.val * 512 + r.val, by omega⟩ col) := by
  have h := congrFun (Value.blocks4 m c t (idx_facts t).2.2.2.2.2) (ix3 0 r col)
  rw [Value.flushed4] at h
  have h' : (dats m 0 c).arrAt 4 cfg0.N (((cfg0.win 4).blk t).view.emb (ix3 0 r col)) = out0_4 (iblk m c 0 t) (iblk m c 1 t) (iblk m c 2 t) (iblk m c 3 t) (ix3 0 r col) := h
  rw [emb4 t b i ht] at h'
  refine h'.trans ?_
  unfold out0_4
  rw [View.canon_unit_zero hz3, View.ld_unit_zero hz3, View.ld_unit_zero hz3, View.ld_unit_zero hz3, View.ld_unit_zero hz2, pay_apply]
  show _ = colOf (fun k => ∑ d : Fin 1024, _ * _) col
  rw [← sum_colOf]
  refine Finset.sum_congr rfl fun d _ => ?_
  rw [iblk0_apply m t b i ht, iblk1_apply m t b i ht, iblk2_apply m t b i ht, iblk3_apply m t]

omit ht in
theorem final_eq (c : Dev nD) : (dats m 0 c).arrAt 4 cfg0.N = spec (M0 m c) (M1 m c) (M2 m c) (M3 m c) := by
  refine funext fun (j : S4x4096x3072.Idx) => ?_
  have h0 : (j 0).val < 4 := (j 0).isLt
  have h1 : (j 1).val < 4096 := (j 1).isLt
  have h2 : (j 2).val < 3072 := (j 2).isLt
  have hj : j = ix3 (⟨(j 0).val, h0⟩ : Fin 4) ⟨(⟨(j 1).val / 512, by omega⟩ : Fin 8).val * 512 + (⟨(j 1).val % 512, by omega⟩ : Fin 512).val, by dsimp only; omega⟩ (⟨(j 2).val, h2⟩ : Fin 3072) := by
    funext a; apply Fin.ext
    match a with
    | ⟨0, _⟩ => rfl
    | ⟨1, _⟩ => show (j 1).val = (j 1).val / 512 * 512 + (j 1).val % 512; omega
    | ⟨2, _⟩ => rfl
  rw [hj]
  exact final_at m ⟨(j 0).val * 8 + (j 1).val / 512, by show _ < 32; omega⟩ ⟨(j 0).val, h0⟩ ⟨(j 1).val / 512, by omega⟩ rfl c ⟨(j 1).val % 512, by omega⟩ ⟨(j 2).val, h2⟩

end Cert.InProjIdeal.Hand

namespace Cert.InProjRefIdeal.Hand

open Cert.InProjRefIdeal Cert.InProjRefIdeal.Gen Cert.InProjRefIdeal.Read Cert.InProjCols

theorem ix3_ext {a b c : Nat} {i j : (⟨3, ![a, b, c]⟩ : Shape).Idx} (h0 : (i 0).val = (j 0).val) (h1 : (i 1).val = (j 1).val) (h2 : (i 2).val = (j 2).val) : i = j :=
  funext fun x => Fin.ext (match x with | ⟨0, _⟩ => h0 | ⟨1, _⟩ => h1 | ⟨2, _⟩ => h2)

theorem ix2_ext {a b : Nat} {i j : (⟨2, ![a, b]⟩ : Shape).Idx} (h0 : (i 0).val = (j 0).val) (h1 : (i 1).val = (j 1).val) : i = j :=
  funext fun x => Fin.ext (match x with | ⟨0, _⟩ => h0 | ⟨1, _⟩ => h1)

variable (x0 : Vec Ideal S4x4096x1024 .f32) (x1 x2 : Vec Ideal S4x1x1024 .f32) (x3 : Vec Ideal S1x1024x2304 .f32)

/-- Entry (b, r, k) of the projection. -/
abbrev prod (b : Fin 4) (r : Fin 4096) (k : Fin 2304) : EReal :=
  ∑ d : Fin 1024, (x0 (ix3 b r d) * (1 + x1 (ix3 b 0 d)) + x2 (ix3 b 0 d)) * x3 (ix3 0 d k)

theorem v5_apply (b : Fin 4) (r : Fin 4096) (d : Fin 1024) :
    val_main_v5 x0 x1 x2 (ix3 b r d) = x0 (ix3 b r d) * (1 + x1 (ix3 b 0 d)) + x2 (ix3 b 0 d) := by
  rw [val_main_v5_apply, val_main_v3_apply, val_main_v4_apply, val_main_v2_apply, val_main_v1_apply, val_main_v0_apply, val_main_cst_apply,
    show idx_main_v4 (ix3 b r d) = ix3 b 0 d from ix3_ext rfl rfl rfl, show idx_main_v2 (ix3 b r d) = ix3 b 0 d from ix3_ext rfl rfl rfl]
  show _ * (Ideal.ofBits .f32 0x3F800000#32 + _) + _ = _
  rw [Ideal.ofBits_one_f32]

theorem v6_apply (d : Fin 1024) (k : Fin 2304) : val_main_v6 x3 (ix2 d k) = x3 (ix3 0 d k) := by
  unfold val_main_v6
  refine shapeCast_apply (s := S1x1024x2304) (t := S1024x2304) _ _ _ _ ?_
  rewrite [Shape.rowMajor_val_two, Shape.rowMajor_val_three]
  show (0 * 1024 + d.val) * 2304 + k.val = d.val * 2304 + k.val
  omega

theorem v8_apply (b : Fin 4) (r : Fin 4096) (k : Fin 1536) :
    val_main_v8 x0 x1 x2 x3 (ix3 b r k) = prod x0 x1 x2 x3 b r ⟨0 + k.val, by omega⟩ := by
  rw [val_main_v8_apply]
  refine Finset.sum_congr rfl fun d _ => ?_
  rw [show lidx_main_v8 (ix3 b r k) d = ix3 b r d from ix3_ext rfl rfl rfl, show ridx_main_v8 (ix3 b r k) d = ix2 d k from ix2_ext rfl rfl, v5_apply]
  congr 1
  refine Eq.trans ?_ (v6_apply x3 d _)
  unfold val_main_v7
  exact extractStridedSlice_apply _ _ _ _ _ fun a => match a with
    | ⟨0, _⟩ => by show d.val = 0 + d.val; omega
    | ⟨1, _⟩ => by show 0 + k.val = 0 + k.val; rfl

theorem v10_apply (b : Fin 4) (r : Fin 4096) (k : Fin 512) :
    val_main_v10 x0 x1 x2 x3 (ix3 b r k) = prod x0 x1 x2 x3 b r ⟨1536 + k.val, by omega⟩ := by
  rw [val_main_v10_apply]
  refine Finset.sum_congr rfl fun d _ => ?_
  rw [show lidx_main_v10 (ix3 b r k) d = ix3 b r d from ix3_ext rfl rfl rfl, show ridx_main_v10 (ix3 b r k) d = ix2 d k from ix2_ext rfl rfl, v5_apply]
  congr 1
  refine Eq.trans ?_ (v6_apply x3 d _)
  unfold val_main_v9
  exact extractStridedSlice_apply _ _ _ _ _ fun a => match a with
    | ⟨0, _⟩ => by show d.val = 0 + d.val; omega
    | ⟨1, _⟩ => by show 1536 + k.val = 1536 + k.val; rfl

theorem v15_apply (b : Fin 4) (r : Fin 4096) (k : Fin 128) :
    val_main_v15 x0 x1 x2 x3 (ix3 b r k) = prod x0 x1 x2 x3 b r ⟨2048 + k.val, by omega⟩ := by
  rw [val_main_v15_apply]
  refine Finset.sum_congr rfl fun d _ => ?_
  rw [show lidx_main_v15 (ix3 b r k) d = ix3 b r d from ix3_ext rfl rfl rfl, show ridx_main_v15 (ix3 b r k) d = ix2 d k from ix2_ext rfl rfl, v5_apply]
  congr 1
  refine Eq.trans ?_ (v6_apply x3 d _)
  unfold val_main_v14
  exact extractStridedSlice_apply _ _ _ _ _ fun a => match a with
    | ⟨0, _⟩ => by show d.val = 0 + d.val; omega
    | ⟨1, _⟩ => by show 2048 + k.val = 2048 + k.val; rfl

theorem v20_apply (b : Fin 4) (r : Fin 4096) (k : Fin 128) :
    val_main_v20 x0 x1 x2 x3 (ix3 b r k) = prod x0 x1 x2 x3 b r ⟨2176 + k.val, by omega⟩ := by
  rw [val_main_v20_apply]
  refine Finset.sum_congr rfl fun d _ => ?_
  rw [show lidx_main_v20 (ix3 b r k) d = ix3 b r d from ix3_ext rfl rfl rfl, show ridx_main_v20 (ix3 b r k) d = ix2 d k from ix2_ext rfl rfl, v5_apply]
  congr 1
  refine Eq.trans ?_ (v6_apply x3 d _)
  unfold val_main_v19
  exact extractStridedSlice_apply _ _ _ _ _ fun a => match a with
    | ⟨0, _⟩ => by show d.val = 0 + d.val; omega
    | ⟨1, _⟩ => by show 2176 + k.val = 2176 + k.val; rfl

theorem v24_eq : val_main_v24 x0 x1 x2 x3 = spec x0 x1 x2 x3 := by
  refine funext fun (j : S4x4096x3072.Idx) => ?_
  obtain ⟨b, r, col, rfl⟩ : ∃ (b : Fin 4) (r : Fin 4096) (col : Fin 3072), j = ix3 b r col := ⟨j 0, j 1, j 2, ix3_ext rfl rfl rfl⟩
  unfold val_main_v24
  refine (concat4b (α := EReal) _ _ _ _ concatenates_S4x4096x1024_S4x4096x1536_S4x4096x256_S4x4096x256_S4x4096x3072_d2 b r col).trans ?_
  have hc := col.isLt
  show _ = colOf (prod x0 x1 x2 x3 b r) col
  unfold colOf
  by_cases h0 : col.val < 1024
  · rw [dif_pos h0, dif_pos h0]
    unfold val_main_v13 val_main_v12 val_main_v11
    refine (Kit.padHeads3 (n := 8) rfl rfl _ _ _ _ _ _ b r ⟨col.val, by omega⟩).trans ?_
    by_cases h' : (col.val) % 128 < 64
    · rw [dif_pos h', dif_pos h']
      exact v10_apply x0 x1 x2 x3 b r _
    · rw [dif_neg h', dif_neg h']
      exact pad_zero _
  rw [dif_neg h0, dif_neg h0]
  by_cases h1 : col.val < 2560
  · rw [dif_pos h1, dif_pos h1]
    refine (v8_apply x0 x1 x2 x3 b r _).trans ?_
    congr 1
    exact Fin.ext (by show 0 + (col.val - 1024) = col.val - 1024; omega)
  rw [dif_neg h1, dif_neg h1]
  by_cases h2 : col.val < 2816
  · rw [dif_pos h2, dif_pos h2]
    unfold val_main_v18 val_main_v17 val_main_v16
    refine (Kit.padHeads3 (n := 2) rfl rfl _ _ _ _ _ _ b r ⟨col.val - 2560, by omega⟩).trans ?_
    by_cases h' : (col.val - 2560) % 128 < 64
    · rw [dif_pos h', dif_pos h']
      exact v15_apply x0 x1 x2 x3 b r _
    · rw [dif_neg h', dif_neg h']
      exact pad_zero _
  rw [dif_neg h2, dif_neg h2]
  · skip
    unfold val_main_v23 val_main_v22 val_main_v21
    refine (Kit.padHeads3 (n := 2) rfl rfl _ _ _ _ _ _ b r ⟨col.val - 2816, by omega⟩).trans ?_
    by_cases h' : (col.val - 2816) % 128 < 64
    · rw [dif_pos h', dif_pos h']
      exact v20_apply x0 x1 x2 x3 b r _
    · rw [dif_neg h', dif_neg h']
      exact pad_zero _

end Cert.InProjRefIdeal.Hand

namespace Cert.Proof

theorem inproj_reference_frame : Cert.quiescent_InProjRefIdeal := fun m ρ _ =>
  (θ_run Cert.InProjRefIdeal.defs _ _).mono
    (fun r h => ⟨fun c => (h c).2, Idealize.ShloMosaic.sem_eq_zero_of_no_sems (by decide) r.2⟩)
    (Cert.InProjRefIdeal.Value.run (F := Ideal) m ρ)

theorem inproj_algebraic : Cert.algebraic_InProjIdeal_InProjRefIdeal := by
  intro m ρ m' ρ' _ hagree
  refine ⟨fun c => Cert.InProjCols.spec (Cert.InProjIdeal.Hand.M0 m c) (Cert.InProjIdeal.Hand.M1 m c) (Cert.InProjIdeal.Hand.M2 m c) (Cert.InProjIdeal.Hand.M3 m c), ?_, ?_⟩
  · exact (θ_run Cert.InProjIdeal.defs _ _).mono (fun _ h c => ⟨(h c).1.trans (Cert.InProjIdeal.Hand.final_eq m c), (h c).2⟩)
      (Cert.InProjIdeal.Value.run_blocks (F := Ideal) m ρ)
  · refine (θ_run Cert.InProjRefIdeal.defs _ _).mono (fun _ h c => ⟨?_, (h c).2⟩) (Cert.InProjRefIdeal.Value.run (F := Ideal) m' ρ')
    refine ((h c).1.trans (Cert.InProjRefIdeal.Read.val_main_v24_eq _ _ _ _)).trans ?_
    rw [(hagree c).1, (hagree c).2.1, (hagree c).2.2.1, (hagree c).2.2.2]
    exact Cert.InProjRefIdeal.Hand.v24_eq _ _ _ _

end Cert.Proof

end
-- ==== Proof.OutProjBody.lean ====
/- `outproj_ln1`: the output projection of the two mixers, the residual, the layer norm and the second modulation, against
   the same written plainly over the unpadded arrays. -/
module

public import proofs.«01_k».proof.Defs
public import proofs.«01_k».proof.Proof.Kit
public import proofs.«01_k».proof.Proof.Gen.OutProjIdeal.Value
public import proofs.«01_k».proof.Proof.Gen.OutProjRefIdeal.Read
public import Idealize.ShloMosaic.Lib.IdealHost
public import Idealize.ShloMosaic.Lib.Quiescent

@[expose] public section

set_option maxRecDepth 16384

noncomputable section

open Idealize.ShloMosaic Idealize.ShloMosaic.TcCoe Idealize.SL.Sem Idealize.ShloMosaic.ValueIdx
open Idealize.ShloMosaic.Pipeline (Dat)

namespace Cert.OutProjSpec

open Cert.Kit

variable (hy att : Vec Ideal ⟨3, ![4, 4096, 512]⟩ .f32) (x : Vec Ideal ⟨3, ![4, 4096, 1024]⟩ .f32)
  (w : Vec Ideal ⟨3, ![1, 1024, 1024]⟩ .f32) (g1 sc2 sh2 : Vec Ideal ⟨3, ![4, 1, 1024]⟩ .f32) (lg lb : Vec Ideal ⟨2, ![1, 1024]⟩ .f32)

/-- The residual stream before the norm. -/
def res (b : Fin 4) (r : Fin 4096) (o : Fin 1024) : EReal :=
  Ideal.ofBits .f32 0x3F9837F0#32 * x (ix3 b r o)
    + g1 (ix3 b 0 o) * ((∑ k : Fin 512, hy (ix3 b r k) * w (ix3 0 ⟨k.val, by omega⟩ o)) + ∑ k : Fin 512, att (ix3 b r k) * w (ix3 0 ⟨512 + k.val, by omega⟩ o))

/-- The normed stream, the first result. -/
def x1 : Vec Ideal ⟨3, ![4, 4096, 1024]⟩ .f32 := fun i =>
  lnRow (res hy att x w g1 (i 0) (i 1)) (fun o => lg (ix2 0 o)) (fun o => lb (ix2 0 o)) (i 2)

/-- The modulated stream, the second result. -/
def h2 : Vec Ideal ⟨3, ![4, 4096, 1024]⟩ .bf16 := fun i =>
  x1 hy att x w g1 lg lb (ix3 (i 0) (i 1) (i 2)) * (1 + sc2 (ix3 (i 0) 0 (i 2))) + sh2 (ix3 (i 0) 0 (i 2))

theorem pad_zero (i : (⟨0, ![]⟩ : Shape).Idx) : sitofp (F := Ideal) .f32 (constantI ⟨0, ![]⟩ 32 0#32) i = (0 : EReal) := by
  show (((0#32 : BitVec 32).toInt : ℝ) : EReal) = 0
  simp

/-- 8 groups of 64 rows, each padded to 128. -/
theorem padRows {α : Type} {u : Shape} (x : (⟨2, ![512, 1024]⟩ : Shape).Idx → α) (v : u.Idx → α) (h1) (h2) (hu : 0 < u.numel) (h3) (k : Fin 1024) (o : Fin 1024) :
    shapeCast ⟨2, ![1024, 1024]⟩ (pad ⟨3, ![8, 128, 1024]⟩ ![0, 0, 0] ![0, 64, 0] ![0, 0, 0] (shapeCast ⟨3, ![8, 64, 1024]⟩ x h1) v h2 hu) h3 (ix2 k o)
      = if h : k.val % 128 < 64 then x (ix2 ⟨k.val / 128 * 64 + k.val % 128, by omega⟩ o) else v (Shape.Idx.first hu) := by
  rw [shapeCast_apply _ h3 (ix2 k o) (ix3 ⟨k.val / 128, by omega⟩ ⟨k.val % 128, by omega⟩ o) (by
    rewrite [Shape.rowMajor_val_two, Shape.rowMajor_val_three]
    show (k.val / 128 * 128 + k.val % 128) * 1024 + o.val = k.val * 1024 + o.val
    omega)]
  split
  · rename_i h
    rw [pad_apply_of_inside (k := ix3 ⟨k.val / 128, by omega⟩ ⟨k.val % 128, h⟩ o)]
    · refine shapeCast_apply _ h1 _ _ ?_
      rewrite [Shape.rowMajor_val_two, Shape.rowMajor_val_three]
      show (k.val / 128 * 64 + k.val % 128) * 1024 + o.val = (k.val / 128 * 64 + k.val % 128) * 1024 + o.val
      rfl
    · intro a
      match a with
      | ⟨0, _⟩ => show k.val / 128 = 0 + k.val / 128 * (0 + 1); omega
      | ⟨1, _⟩ => show k.val % 128 = 0 + k.val % 128 * (0 + 1); omega
      | ⟨2, _⟩ => show o.val = 0 + o.val * (0 + 1); omega
  · rename_i h
    refine pad_apply_of_not_inside _ _ _ _ _ h2 hu _ (1 : Fin 3) ?_
    show ¬(0 ≤ k.val % 128 ∧ (k.val % 128 - 0) % (0 + 1) = 0 ∧ (k.val % 128 - 0) / (0 + 1) < 64)
    omega

/-- 512 rows of a matrix of 1024, at an index. -/
theorem sliceRows (x : (⟨2, ![1024, 1024]⟩ : Shape).Idx → EReal) (off : ℕ) (hoff : off ≤ 512)
    (h : (⟨2, ![1024, 1024]⟩ : Shape).Slices ![off, 0] ⟨2, ![512, 1024]⟩) (k : Fin 512) (o : Fin 1024) :
    extractStridedSlice ⟨2, ![512, 1024]⟩ ![off, 0] x h (ix2 k o) = x (ix2 ⟨off + k.val, by omega⟩ o) :=
  extractStridedSlice_apply _ _ _ _ _ (fun a => match a with
    | ⟨0, _⟩ => rfl
    | ⟨1, _⟩ => by show o.val = 0 + o.val; omega)

end Cert.OutProjSpec

namespace Cert.OutProjIdeal.Hand

open Cert.OutProjIdeal Cert.OutProjIdeal.Gen Cert.OutProjSpec Cert.Kit

variable (m : (ℓ : Loc nD τ sig) → Buf (Elt Ideal) ℓ) (ρ : Dev nD → PrngReg)

abbrev M0 (c : Dev nD) : Vec Ideal S4x4096x512 .f32 := m ((c : Thread nD τ).loc main_arg0)
abbrev M1 (c : Dev nD) : Vec Ideal S4x4096x512 .f32 := m ((c : Thread nD τ).loc main_arg1)
abbrev M2 (c : Dev nD) : Vec Ideal S4x4096x1024 .f32 := m ((c : Thread nD τ).loc main_arg2)
abbrev M3 (c : Dev nD) : Vec Ideal S1x1024x1024 .f32 := m ((c : Thread nD τ).loc main_arg3)
abbrev M4 (c : Dev nD) : Vec Ideal S4x1x1024 .f32 := m ((c : Thread nD τ).loc main_arg4)
abbrev M5 (c : Dev nD) : Vec Ideal S4x1x1024 .f32 := m ((c : Thread nD τ).loc main_arg5)
abbrev M6 (c : Dev nD) : Vec Ideal S4x1x1024 .f32 := m ((c : Thread nD τ).loc main_arg6)
abbrev M7 (c : Dev nD) : Vec Ideal S1x1024 .f32 := m ((c : Thread nD τ).loc main_arg7)
abbrev M8 (c : Dev nD) : Vec Ideal S1x1024 .f32 := m ((c : Thread nD τ).loc main_arg8)

abbrev wrow (c : Dev nD) : Vec Ideal S1024x1024 .f32 := shapeCast S1024x1024 (M3 m c) shapeCasts_S1x1024x1024_S1024x1024

set_option maxHeartbeats 2000000 in
theorem V_v2 (c : Dev nD) : (V m c main_v2 : Vec Ideal S512x1024 .bf16)
    = truncf (F := Ideal) .bf16 (extractStridedSlice S512x1024 ![0, 0] (wrow m c) slices_S1024x1024_S512x1024_0_0) bitsLt_bf16_f32 := by
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results <;> rfl

set_option maxHeartbeats 2000000 in
theorem V_v7 (c : Dev nD) : (V m c main_v7 : Vec Ideal S1024x1024 .bf16)
    = truncf (F := Ideal) .bf16 (shapeCast S1024x1024 (pad S8x128x1024 ![0, 0, 0] ![0, 64, 0] ![0, 0, 0] (shapeCast S8x64x1024 (extractStridedSlice S512x1024 ![512, 0] (wrow m c) slices_S1024x1024_S512x1024_512_0) shapeCasts_S512x1024_S8x64x1024) (sitofp (F := Ideal) .f32 (constantI S_ 32 0#32)) pads_S8x64x1024_S8x128x1024_000_0640_000 h_S_) shapeCasts_S8x128x1024_S1024x1024) bitsLt_bf16_f32 := by
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results <;> rfl

set_option maxHeartbeats 2000000 in
theorem V_v11 (c : Dev nD) : (V m c main_v11 : Vec Ideal S4x4096x1024 .bf16)
    = truncf (F := Ideal) .bf16 (shapeCast S4x4096x1024 (pad S4x4096x8x128 ![0, 0, 0, 0] ![0, 0, 0, 64] ![0, 0, 0, 0] (shapeCast S4x4096x8x64 (M1 m c) shapeCasts_S4x4096x512_S4x4096x8x64) (sitofp (F := Ideal) .f32 (constantI S_ 32 0#32)) pads_S4x4096x8x64_S4x4096x8x128_000_000_000_0640 h_S_) shapeCasts_S4x4096x8x128_S4x4096x1024) bitsLt_bf16_f32 := by
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results <;> rfl

theorem V_v2_apply (c : Dev nD) (k : Fin 512) (o : Fin 1024) :
    (V m c main_v2 : Vec Ideal S512x1024 .bf16) (ix2 k o) = M3 m c (ix3 0 ⟨k.val, by omega⟩ o) := by
  refine (congrFun (V_v2 m c) (ix2 k o)).trans ((sliceRows (wrow m c) 0 (by omega) slices_S1024x1024_S512x1024_0_0 k o).trans ?_)
  refine (cast32 (M3 m c) _ _ _).trans (congrArg (M3 m c) (ix3_ext rfl (Nat.zero_add _) rfl))

theorem V_v7_apply (c : Dev nD) (k o : Fin 1024) :
    (V m c main_v7 : Vec Ideal S1024x1024 .bf16) (ix2 k o)
      = (if h : k.val % 128 < 64 then M3 m c (ix3 0 ⟨512 + (k.val / 128 * 64 + k.val % 128), by omega⟩ o) else 0 : EReal) := by
  have key : ∀ X : Vec Ideal S512x1024 .f32, truncf (F := Ideal) .bf16 (shapeCast S1024x1024 (pad S8x128x1024 ![0, 0, 0] ![0, 64, 0] ![0, 0, 0] (shapeCast S8x64x1024 X shapeCasts_S512x1024_S8x64x1024) (sitofp (F := Ideal) .f32 (constantI S_ 32 0#32)) pads_S8x64x1024_S8x128x1024_000_0640_000 h_S_) shapeCasts_S8x128x1024_S1024x1024) bitsLt_bf16_f32 (ix2 k o)
      = (if h : k.val % 128 < 64 then X (ix2 ⟨k.val / 128 * 64 + k.val % 128, by omega⟩ o) else 0 : EReal) := fun X => by
    refine (padRows (α := EReal) X (sitofp (F := Ideal) .f32 (constantI S_ 32 0#32)) shapeCasts_S512x1024_S8x64x1024 pads_S8x64x1024_S8x128x1024_000_0640_000 h_S_ shapeCasts_S8x128x1024_S1024x1024 k o).trans ?_
    split
    · rfl
    · exact pad_zero _
  refine (congrFun (V_v7 m c) (ix2 k o)).trans ((key _).trans ?_)
  split
  · exact (sliceRows (wrow m c) 512 (by omega) slices_S1024x1024_S512x1024_512_0 _ o).trans (cast32 (M3 m c) _ _ _)
  · rfl

theorem V_v11_apply (c : Dev nD) (b : Fin 4) (r : Fin 4096) (k : Fin 1024) :
    (V m c main_v11 : Vec Ideal S4x4096x1024 .bf16) (ix3 b r k)
      = (if h : k.val % 128 < 64 then M1 m c (ix3 b r ⟨k.val / 128 * 64 + k.val % 128, by omega⟩) else 0 : EReal) := by
  rw [V_v11]
  refine (padHeads3 (n := 8) rfl rfl (M1 m c) (sitofp (F := Ideal) .f32 (constantI S_ 32 0#32)) shapeCasts_S4x4096x512_S4x4096x8x64 pads_S4x4096x8x64_S4x4096x8x128_000_000_000_0640 h_S_ shapeCasts_S4x4096x8x128_S4x4096x1024 b r k).trans ?_
  split
  · rfl
  · exact pad_zero _

/-! ## What the body stores, at an index -/

section Pay

variable (v0 : Vec Ideal S1x512x512 .f32) (v3 : Vec Ideal S512x1024 .bf16) (v6 : Vec Ideal S1x512x1024 .bf16) (v8 : Vec Ideal S1024x1024 .bf16)
  (v12 : Vec Ideal S1x512x1024 .f32) (v16 : Vec Ideal S1x1x1024 .f32)

/-- A row of the block's residual stream. -/
def brow (r : Fin 512) (o : Fin 1024) : EReal :=
  Ideal.ofBits .f32 0x3F9837F0#32 * v12 (ix3 0 r o)
    + v16 (ix3 0 0 o) * ((∑ k : Fin 512, v0 (ix3 0 r k) * v3 (ix2 k o)) + ∑ k : Fin 1024, v6 (ix3 0 r k) * v8 (ix2 k o))

theorem pay4_apply (r : Fin 512) (o : Fin 1024) : k0_pay4 v0 v3 v6 v8 v12 v16 (ix2 r o) = brow v0 v3 v6 v8 v12 v16 r o := by
  have e1 := mm2 dot_S512x512_S512x1024_S512x1024_1_0_0_1_n_n rfl rfl rfl rfl rfl rfl none
    (truncf .bf16 (shapeCast S512x512 v0 shapeCasts_S1x512x512_S512x512) bitsLt_bf16_f32 : FVec Ideal S512x512 .bf16) (shapeCast S512x1024 v3 shapeCasts_S512x1024_S512x1024 : FVec Ideal S512x1024 .bf16) r o
  have e2 := mm2 dot_S512x1024_S1024x1024_S512x1024_1_0_0_1_n_n rfl rfl rfl rfl rfl rfl none
    (shapeCast S512x1024 v6 shapeCasts_S1x512x1024_S512x1024 : FVec Ideal S512x1024 .bf16) (shapeCast S1024x1024 v8 shapeCasts_S1024x1024_S1024x1024 : FVec Ideal S1024x1024 .bf16) r o
  unfold k0_pay4
  refine Eq.trans (congrArg₂ (· + ·) (congrArg₂ (· * ·) rfl (cast32 _ _ r o)) (congrArg₂ (· * ·) ((bcRow _ _ r o).trans (cast32 _ _ 0 o)) (congrArg₂ (· + ·) e1 e2))) ?_
  unfold brow
  refine congrArg₂ (· + ·) rfl (congrArg₂ (· * ·) rfl (congrArg₂ (· + ·) ?_ ?_))
  · refine Finset.sum_congr rfl fun k _ => congrArg₂ (· * ·) (cast32 v0 _ r k) (castSelf v3 _ _)
  · refine Finset.sum_congr rfl fun k _ => congrArg₂ (· * ·) (cast32 v6 _ r k) (castSelf v8 _ _)

theorem pay5_apply (r : Fin 512) : k0_pay5 v0 v3 v6 v8 v12 v16 (ix2 r 0) = mean (brow v0 v3 v6 v8 v12 v16 r) := by
  unfold k0_pay5 mean
  refine congrArg₂ Ideal.div (((castCol _ _ r).trans (laneSum _ _ _ _ r)).trans (Finset.sum_congr rfl fun k _ => pay4_apply v0 v3 v6 v8 v12 v16 r k)) rfl

theorem pay6_apply (r : Fin 512) : k0_pay6 v0 v3 v6 v8 v12 v16 (ix2 r 0)
    = ∑ k, (brow v0 v3 v6 v8 v12 v16 r k - mean (brow v0 v3 v6 v8 v12 v16 r)) * (brow v0 v3 v6 v8 v12 v16 r k - mean (brow v0 v3 v6 v8 v12 v16 r)) := by
  unfold k0_pay6
  refine (castCol _ _ r).trans ((laneSum _ _ _ _ r).trans (Finset.sum_congr rfl fun k _ => ?_))
  have e : subf (k0_pay4 v0 v3 v6 v8 v12 v16) (broadcastTo S512x1024 (k0_pay5 v0 v3 v6 v8 v12 v16) broadcasts_S512x1_S512x1024) (ix2 r k)
      = brow v0 v3 v6 v8 v12 v16 r k - mean (brow v0 v3 v6 v8 v12 v16 r) :=
    congrArg₂ (· - ·) (pay4_apply v0 v3 v6 v8 v12 v16 r k) ((bcCol _ _ r k).trans (pay5_apply v0 v3 v6 v8 v12 v16 r))
  exact congrArg₂ (· * ·) e e

variable (v21 v22 : Vec Ideal S1x1024 .f32)

theorem pay1_apply (r : Fin 512) (o : Fin 1024) :
    k0_pay1 (k0_pay4 v0 v3 v6 v8 v12 v16) v21 v22 (k0_pay5 v0 v3 v6 v8 v12 v16) (k0_pay6 v0 v3 v6 v8 v12 v16) (ix2 r o)
      = lnRow (brow v0 v3 v6 v8 v12 v16 r) (fun o => v21 (ix2 0 o)) (fun o => v22 (ix2 0 o)) o := by
  unfold k0_pay1 lnRow
  refine congrArg₂ (· + ·) (congrArg₂ (· * ·) (congrArg₂ (· * ·) (congrArg₂ (· - ·) (pay4_apply v0 v3 v6 v8 v12 v16 r o) ((bcCol _ _ r o).trans (pay5_apply v0 v3 v6 v8 v12 v16 r))) ?_) (bcRow _ _ r o)) (bcRow _ _ r o)
  refine (bcCol _ _ r o).trans (congrArg (FloatOps.rsqrt (F := Ideal) (φ := .f32)) (congrArg₂ (· + ·) ?_ rfl))
  exact congrArg₂ Ideal.div (pay6_apply v0 v3 v6 v8 v12 v16 r) rfl

theorem pay3_apply (v48 v54 : Vec Ideal S1x1x1024 .f32) (r : Fin 512) (o : Fin 1024) :
    k0_pay3 (k0_pay4 v0 v3 v6 v8 v12 v16) v21 v22 (k0_pay5 v0 v3 v6 v8 v12 v16) (k0_pay6 v0 v3 v6 v8 v12 v16) v48 v54 (ix3 0 r o)
      = lnRow (brow v0 v3 v6 v8 v12 v16 r) (fun o => v21 (ix2 0 o)) (fun o => v22 (ix2 0 o)) o * (1 + v48 (ix3 0 0 o)) + v54 (ix3 0 0 o) := by
  unfold k0_pay3
  refine (cast23 _ _ r o).trans ?_
  refine congrArg₂ (· + ·) (congrArg₂ (· * ·) (pay1_apply v0 v3 v6 v8 v12 v16 v21 v22 r o) ((bcRow _ _ r o).trans ?_)) ((bcRow _ _ r o).trans (cast32 v54 _ 0 o))
  exact congrArg₂ (· + ·) Ideal.ofBits_one_f32 (cast32 v48 _ 0 o)

end Pay

end Cert.OutProjIdeal.Hand

end
-- ==== Proof.OutProj.lean ====
/- `outproj_ln1`: the output projection of the two mixers, the residual, the layer norm and the second modulation, against
   the same written plainly over the unpadded arrays. -/
module

public import proofs.«01_k».proof.Defs
public import proofs.«01_k».proof.Proof.OutProjBody
public import proofs.«01_k».proof.Proof.Gen.OutProjIdeal.Value
public import proofs.«01_k».proof.Proof.Gen.OutProjRefIdeal.Read
public import Idealize.ShloMosaic.Lib.IdealHost
public import Idealize.ShloMosaic.Lib.Quiescent

@[expose] public section

set_option maxRecDepth 16384

noncomputable section

open Idealize.ShloMosaic Idealize.ShloMosaic.TcCoe Idealize.SL.Sem Idealize.ShloMosaic.ValueIdx
open Idealize.ShloMosaic.Pipeline (Dat)

namespace Cert.OutProjIdeal.Hand

open Cert.OutProjIdeal Cert.OutProjIdeal.Gen Cert.OutProjSpec Cert.Kit

variable (m : (ℓ : Loc nD τ sig) → Buf (Elt Ideal) ℓ) (ρ : Dev nD → PrngReg)

/-! ## The blocks -/

theorem hz2 : (![0, 0] : Fin 2 → Nat) = fun _ => 0 := funext fun a => by fin_cases a <;> rfl
theorem hz3 : (![0, 0, 0] : Fin 3 → Nat) = fun _ => 0 := funext fun a => by fin_cases a <;> rfl

theorem idx_facts : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = t.val % 8 ∧ win0_1.index t (2 : Fin 3) = 0)
    ∧ (win0_2.index t (0 : Fin 3) = t.val / 8 ∧ win0_2.index t (1 : Fin 3) = t.val % 8 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val / 8 ∧ win0_5.index t (1 : Fin 3) = 0 ∧ win0_5.index t (2 : Fin 3) = 0)
    ∧ (win0_6.index t (0 : Fin 3) = t.val / 8 ∧ win0_6.index t (1 : Fin 3) = 0 ∧ win0_6.index t (2 : Fin 3) = 0)
    ∧ (win0_7.index t (0 : Fin 3) = t.val / 8 ∧ win0_7.index t (1 : Fin 3) = 0 ∧ win0_7.index t (2 : Fin 3) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 3) = t.val / 8 ∧ win0_10.index t (1 : Fin 3) = t.val % 8 ∧ win0_10.index t (2 : Fin 3) = 0)
    ∧ (win0_11.index t (0 : Fin 3) = t.val / 8 ∧ win0_11.index t (1 : Fin 3) = t.val % 8 ∧ win0_11.index t (2 : Fin 3) = 0)
    ∧ (cfg0.win 10).flush t = true ∧ (cfg0.win 11).flush t = true :=
  (by decide +kernel : ∀ t : Fin grid0.N, _)

variable (t : Fin cfg0.N)

theorem emb3 (r : Fin 512) (d : Fin 1024) : ((cfg0.win 3).blk t).view.emb (ix2 r d) = (ix2 r d : S512x1024.Idx) := by
  obtain ⟨-, -, -, ⟨e0, e1⟩, -⟩ := idx_facts t
  funext a; apply Fin.ext
  match a with
  | ⟨0, _⟩ => show win0_3.index t (0 : Fin 2) * 512 + 1 * r.val = r.val; omega
  | ⟨1, _⟩ => show win0_3.index t (1 : Fin 2) * 1024 + 1 * d.val = d.val; omega

theorem emb4 (r : Fin 1024) (d : Fin 1024) : ((cfg0.win 4).blk t).view.emb (ix2 r d) = (ix2 r d : S1024x1024.Idx) := by
  obtain ⟨-, -, -, -, ⟨e0, e1⟩, -⟩ := idx_facts t
  funext a; apply Fin.ext
  match a with
  | ⟨0, _⟩ => show win0_4.index t (0 : Fin 2) * 1024 + 1 * r.val = r.val; omega
  | ⟨1, _⟩ => show win0_4.index t (1 : Fin 2) * 1024 + 1 * d.val = d.val; omega

theorem emb8 (r : Fin 1) (d : Fin 1024) : ((cfg0.win 8).blk t).view.emb (ix2 r d) = (ix2 r d : S1x1024.Idx) := by
  obtain ⟨-, -, -, -, -, -, -, -, ⟨e0, e1⟩, -⟩ := idx_facts t
  funext a; apply Fin.ext
  match a with
  | ⟨0, _⟩ => show win0_8.index t (0 : Fin 2) * 1 + 1 * r.val = r.val; omega
  | ⟨1, _⟩ => show win0_8.index t (1 : Fin 2) * 1024 + 1 * d.val = d.val; omega

theorem emb9 (r : Fin 1) (d : Fin 1024) : ((cfg0.win 9).blk t).view.emb (ix2 r d) = (ix2 r d : S1x1024.Idx) := by
  obtain ⟨-, -, -, -, -, -, -, -, -, ⟨e0, e1⟩, -⟩ := idx_facts t
  funext a; apply Fin.ext
  match a with
  | ⟨0, _⟩ => show win0_9.index t (0 : Fin 2) * 1 + 1 * r.val = r.val; omega
  | ⟨1, _⟩ => show win0_9.index t (1 : Fin 2) * 1024 + 1 * d.val = d.val; omega

theorem iblk3_apply (c : Dev nD) (r : Fin 512) (d : Fin 1024) : iblk m c 3 t (ix2 r d) = M3 m c (ix3 0 ⟨r.val, by omega⟩ d) := by
  show V m c main_v2 (((cfg0.win 3).blk t).view.emb (ix2 r d)) = _
  rw [emb3 t]
  exact V_v2_apply m c _ _

theorem iblk4_apply (c : Dev nD) (r : Fin 1024) (d : Fin 1024) : iblk m c 4 t (ix2 r d) = (if h : r.val % 128 < 64 then M3 m c (ix3 0 ⟨512 + (r.val / 128 * 64 + r.val % 128), by omega⟩ d) else 0 : EReal) := by
  show V m c main_v7 (((cfg0.win 4).blk t).view.emb (ix2 r d)) = _
  rw [emb4 t]
  exact V_v7_apply m c _ _

theorem iblk8_apply (c : Dev nD) (r : Fin 1) (d : Fin 1024) : iblk m c 8 t (ix2 r d) = M7 m c (ix2 r d) := by
  show V m c main_arg7 (((cfg0.win 8).blk t).view.emb (ix2 r d)) = _
  rw [emb8 t, V_main_arg7]

theorem iblk9_apply (c : Dev nD) (r : Fin 1) (d : Fin 1024) : iblk m c 9 t (ix2 r d) = M8 m c (ix2 r d) := by
  show V m c main_arg8 (((cfg0.win 9).blk t).view.emb (ix2 r d)) = _
  rw [emb9 t, V_main_arg8]

variable (b : Fin 4) (i : Fin 8) (ht : t.val = b.val * 8 + i.val)
include ht

theorem emb0 (r : Fin 512) (d : Fin 512) : ((cfg0.win 0).blk t).view.emb (ix3 0 r d) = (ix3 b ⟨i.val * 512 + r.val, by omega⟩ d : S4x4096x512.Idx) := by
  obtain ⟨⟨e0, e1, e2⟩, -⟩ := idx_facts t
  funext a; apply Fin.ext
  match a with
  | ⟨0, _⟩ => show win0_0.index t (0 : Fin 3) * 1 + 1 * 0 = b.val; omega
  | ⟨1, _⟩ => show win0_0.index t (1 : Fin 3) * 512 + 1 * r.val = i.val * 512 + r.val; omega
  | ⟨2, _⟩ => show win0_0.index t (2 : Fin 3) * 512 + 1 * d.val = d.val; omega

theorem emb1 (r : Fin 512) (d : Fin 1024) : ((cfg0.win 1).blk t).view.emb (ix3 0 r d) = (ix3 b ⟨i.val * 512 + r.val, by omega⟩ d : S4x4096x1024.Idx) := by
  obtain ⟨-, ⟨e0, e1, e2⟩, -⟩ := idx_facts t
  funext a; apply Fin.ext
  match a with
  | ⟨0, _⟩ => show win0_1.index t (0 : Fin 3) * 1 + 1 * 0 = b.val; omega
  | ⟨1, _⟩ => show win0_1.index t (1 : Fin 3) * 512 + 1 * r.val = i.val * 512 + r.val; omega
  | ⟨2, _⟩ => show win0_1.index t (2 : Fin 3) * 1024 + 1 * d.val = d.val; omega

theorem emb2 (r : Fin 512) (d : Fin 1024) : ((cfg0.win 2).blk t).view.emb (ix3 0 r d) = (ix3 b ⟨i.val * 512 + r.val, by omega⟩ d : S4x4096x1024.Idx) := by
  obtain ⟨-, -, ⟨e0, e1, e2⟩, -⟩ := idx_facts t
  funext a; apply Fin.ext
  match a with
  | ⟨0, _⟩ => show win0_2.index t (0 : Fin 3) * 1 + 1 * 0 = b.val; omega
  | ⟨1, _⟩ => show win0_2.index t (1 : Fin 3) * 512 + 1 * r.val = i.val * 512 + r.val; omega
  | ⟨2, _⟩ => show win0_2.index t (2 : Fin 3) * 1024 + 1 * d.val = d.val; omega

theorem emb5 (d : Fin 1024) : ((cfg0.win 5).blk t).view.emb (ix3 0 0 d) = (ix3 b 0 d : S4x1x1024.Idx) := by
  obtain ⟨-, -, -, -, -, ⟨e0, e1, e2⟩, -⟩ := idx_facts t
  funext a; apply Fin.ext
  match a with
  | ⟨0, _⟩ => show win0_5.index t (0 : Fin 3) * 1 + 1 * 0 = b.val; omega
  | ⟨1, _⟩ => show win0_5.index t (1 : Fin 3) * 1 + 1 * 0 = 0; omega
  | ⟨2, _⟩ => show win0_5.index t (2 : Fin 3) * 1024 + 1 * d.val = d.val; omega

theorem emb6 (d : Fin 1024) : ((cfg0.win 6).blk t).view.emb (ix3 0 0 d) = (ix3 b 0 d : S4x1x1024.Idx) := by
  obtain ⟨-, -, -, -, -, -, ⟨e0, e1, e2⟩, -⟩ := idx_facts t
  funext a; apply Fin.ext
  match a with
  | ⟨0, _⟩ => show win0_6.index t (0 : Fin 3) * 1 + 1 * 0 = b.val; omega
  | ⟨1, _⟩ => show win0_6.index t (1 : Fin 3) * 1 + 1 * 0 = 0; omega
  | ⟨2, _⟩ => show win0_6.index t (2 : Fin 3) * 1024 + 1 * d.val = d.val; omega

theorem emb7 (d : Fin 1024) : ((cfg0.win 7).blk t).view.emb (ix3 0 0 d) = (ix3 b 0 d : S4x1x1024.Idx) := by
  obtain ⟨-, -, -, -, -, -, -, ⟨e0, e1, e2⟩, -⟩ := idx_facts t
  funext a; apply Fin.ext
  match a with
  | ⟨0, _⟩ => show win0_7.index t (0 : Fin 3) * 1 + 1 * 0 = b.val; omega
  | ⟨1, _⟩ => show win0_7.index t (1 : Fin 3) * 1 + 1 * 0 = 0; omega
  | ⟨2, _⟩ => show win0_7.index t (2 : Fin 3) * 1024 + 1 * d.val = d.val; omega

theorem emb10 (r : Fin 512) (d : Fin 1024) : ((cfg0.win 10).blk t).view.emb (ix3 0 r d) = (ix3 b ⟨i.val * 512 + r.val, by omega⟩ d : S4x4096x1024.Idx) := by
  obtain ⟨-, -, -, -, -, -, -, -, -, -, ⟨e0, e1, e2⟩, -⟩ := idx_facts t
  funext a; apply Fin.ext
  match a with
  | ⟨0, _⟩ => show win0_10.index t (0 : Fin 3) * 1 + 1 * 0 = b.val; omega
  | ⟨1, _⟩ => show win0_10.index t (1 : Fin 3) * 512 + 1 * r.val = i.val * 512 + r.val; omega
  | ⟨2, _⟩ => show win0_10.index t (2 : Fin 3) * 1024 + 1 * d.val = d.val; omega

theorem emb11 (r : Fin 512) (d : Fin 1024) : ((cfg0.win 11).blk t).view.emb (ix3 0 r d) = (ix3 b ⟨i.val * 512 + r.val, by omega⟩ d : S4x4096x1024.Idx) := by
  obtain ⟨-, -, -, -, -, -, -, -, -, -, -, ⟨e0, e1, e2⟩, -⟩ := idx_facts t
  funext a; apply Fin.ext
  match a with
  | ⟨0, _⟩ => show win0_11.index t (0 : Fin 3) * 1 + 1 * 0 = b.val; omega
  | ⟨1, _⟩ => show win0_11.index t (1 : Fin 3) * 512 + 1 * r.val = i.val * 512 + r.val; omega
  | ⟨2, _⟩ => show win0_11.index t (2 : Fin 3) * 1024 + 1 * d.val = d.val; omega

theorem iblk0_apply (c : Dev nD) (r : Fin 512) (d : Fin 512) : iblk m c 0 t (ix3 0 r d) = M0 m c (ix3 b ⟨i.val * 512 + r.val, by omega⟩ d) := by
  show V m c main_arg0 (((cfg0.win 0).blk t).view.emb (ix3 0 r d)) = _
  rw [emb0 t b i ht, V_main_arg0]

theorem iblk1_read (c : Dev nD) (r : Fin 512) (d : Fin 1024) : iblk m c 1 t (ix3 0 r d) = (V m c main_v11 : Vec Ideal S4x4096x1024 .bf16) (ix3 b ⟨i.val * 512 + r.val, by omega⟩ d) := by
  have key : ∀ X : Vec Ideal S4x4096x1024 .bf16, ((cfg0.win 1).blk t).view.read (Elt Ideal) X (ix3 0 r d) = X (ix3 b ⟨i.val * 512 + r.val, by omega⟩ d) :=
    fun X => congrArg X (emb1 t b i ht r d)
  exact key (V m c main_v11)

theorem iblk1_apply (c : Dev nD) (r : Fin 512) (d : Fin 1024) : iblk m c 1 t (ix3 0 r d) = (if h : d.val % 128 < 64 then M1 m c (ix3 b ⟨i.val * 512 + r.val, by omega⟩ ⟨d.val / 128 * 64 + d.val % 128, by omega⟩) else 0 : EReal) := by
  exact (iblk1_read m t b i ht c r d).trans (V_v11_apply m c b ⟨i.val * 512 + r.val, by omega⟩ d)

theorem iblk2_apply (c : Dev nD) (r : Fin 512) (d : Fin 1024) : iblk m c 2 t (ix3 0 r d) = M2 m c (ix3 b ⟨i.val * 512 + r.val, by omega⟩ d) := by
  show V m c main_arg2 (((cfg0.win 2).blk t).view.emb (ix3 0 r d)) = _
  rw [emb2 t b i ht, V_main_arg2]

theorem iblk5_apply (c : Dev nD) (d : Fin 1024) : iblk m c 5 t (ix3 0 0 d) = M4 m c (ix3 b 0 d) := by
  show V m c main_arg4 (((cfg0.win 5).blk t).view.emb (ix3 0 0 d)) = _
  rw [emb5 t b i ht, V_main_arg4]

theorem iblk6_apply (c : Dev nD) (d : Fin 1024) : iblk m c 6 t (ix3 0 0 d) = M5 m c (ix3 b 0 d) := by
  show V m c main_arg5 (((cfg0.win 6).blk t).view.emb (ix3 0 0 d)) = _
  rw [emb6 t b i ht, V_main_arg5]

theorem iblk7_apply (c : Dev nD) (d : Fin 1024) : iblk m c 7 t (ix3 0 0 d) = M6 m c (ix3 b 0 d) := by
  show V m c main_arg6 (((cfg0.win 7).blk t).view.emb (ix3 0 0 d)) = _
  rw [emb7 t b i ht, V_main_arg6]

theorem brow_eq (c : Dev nD) (r : Fin 512) :
    brow (iblk m c 0 t) (iblk m c 3 t) (iblk m c 1 t) (iblk m c 4 t) (iblk m c 2 t) (iblk m c 5 t) r
      = res (M0 m c) (M1 m c) (M2 m c) (M3 m c) (M4 m c) b ⟨i.val * 512 + r.val, by omega⟩ := by
  funext o
  unfold brow res
  refine congrArg₂ (· + ·) (congrArg₂ (· * ·) rfl (iblk2_apply m t b i ht c r o)) (congrArg₂ (· * ·) (iblk5_apply m t b i ht c o) (congrArg₂ (· + ·) ?_ ?_))
  · exact Finset.sum_congr rfl fun k _ => congrArg₂ (· * ·) (iblk0_apply m t b i ht c r k) (iblk3_apply m t c k o)
  · refine (Finset.sum_congr rfl fun k _ => congrArg₂ (fun a b : EReal => a * b) (iblk1_apply m t b i ht c r k) (iblk4_apply m t c k o)).trans ?_
    exact sum_padded (fun k => M1 m c (ix3 b ⟨i.val * 512 + r.val, by omega⟩ k)) (fun k => M3 m c (ix3 0 ⟨512 + k.val, by omega⟩ o))

theorem final10_at (c : Dev nD) (r : Fin 512) (o : Fin 1024) :
    (dats m 0 c).arrAt 10 cfg0.N (ix3 b ⟨i.val * 512 + r.val, by omega⟩ o : S4x4096x1024.Idx)
      = x1 (M0 m c) (M1 m c) (M2 m c) (M3 m c) (M4 m c) (M7 m c) (M8 m c) (ix3 b ⟨i.val * 512 + r.val, by omega⟩ o) := by
  have h := congrFun (Value.blocks10 m c t (idx_facts t).2.2.2.2.2.2.2.2.2.2.2.2.1) (ix3 0 r o)
  rw [Value.flushed10] at h
  have h' : (dats m 0 c).arrAt 10 cfg0.N (((cfg0.win 10).blk t).view.emb (ix3 0 r o)) = out0_10 (iblk m c 0 t) (iblk m c 1 t) (iblk m c 2 t) (iblk m c 3 t) (iblk m c 4 t) (iblk m c 5 t) (iblk m c 6 t) (iblk m c 7 t) (iblk m c 8 t) (iblk m c 9 t) (ix3 0 r o) := h
  rw [emb10 t b i ht] at h'
  refine h'.trans ?_
  unfold out0_10 k0_pay7 k0_pay8 k0_pay9
  rw [View.canon_unit_zero hz3]
  rw [View.ld_unit_zero (S := S1x512x512) hz3]
  repeat rw [View.ld_unit_zero (S := S1x512x1024) hz3]
  repeat rw [View.ld_unit_zero (S := S1x1x1024) hz3]
  rw [View.ld_unit_zero (S := S512x1024) hz2]
  rw [View.ld_unit_zero (S := S1024x1024) hz2]
  repeat rw [View.ld_unit_zero (S := S1x1024) hz2]
  unfold k0_pay2
  refine (cast23 _ _ r o).trans ((pay1_apply _ _ _ _ _ _ _ _ r o).trans ?_)
  rw [brow_eq m t b i ht]
  show lnRow _ _ _ o = lnRow _ _ _ o
  exact congrArg₂ (fun g b => lnRow _ g b o) (funext fun o => iblk8_apply m t c 0 o) (funext fun o => iblk9_apply m t c 0 o)

omit ht in
theorem final10_eq (c : Dev nD) : (dats m 0 c).arrAt 10 cfg0.N = x1 (M0 m c) (M1 m c) (M2 m c) (M3 m c) (M4 m c) (M7 m c) (M8 m c) := by
  refine funext fun (j : S4x4096x1024.Idx) => ?_
  have h0 : (j 0).val < 4 := (j 0).isLt
  have h1 : (j 1).val < 4096 := (j 1).isLt
  have h2 : (j 2).val < 1024 := (j 2).isLt
  have hj : j = ix3 (⟨(j 0).val, h0⟩ : Fin 4) ⟨(⟨(j 1).val / 512, by omega⟩ : Fin 8).val * 512 + (⟨(j 1).val % 512, by omega⟩ : Fin 512).val, by dsimp only; omega⟩ (⟨(j 2).val, h2⟩ : Fin 1024) :=
    ix3_ext rfl (by show (j 1).val = (j 1).val / 512 * 512 + (j 1).val % 512; omega) rfl
  rw [hj]
  exact final10_at m ⟨(j 0).val * 8 + (j 1).val / 512, by show _ < 32; omega⟩ ⟨(j 0).val, h0⟩ ⟨(j 1).val / 512, by omega⟩ rfl c ⟨(j 1).val % 512, by omega⟩ ⟨(j 2).val, h2⟩

theorem final11_at (c : Dev nD) (r : Fin 512) (o : Fin 1024) :
    (dats m 0 c).arrAt 11 cfg0.N (ix3 b ⟨i.val * 512 + r.val, by omega⟩ o : S4x4096x1024.Idx)
      = h2 (M0 m c) (M1 m c) (M2 m c) (M3 m c) (M4 m c) (M5 m c) (M6 m c) (M7 m c) (M8 m c) (ix3 b ⟨i.val * 512 + r.val, by omega⟩ o) := by
  have h := congrFun (Value.blocks11 m c t (idx_facts t).2.2.2.2.2.2.2.2.2.2.2.2.2) (ix3 0 r o)
  rw [Value.flushed11] at h
  have h' : (dats m 0 c).arrAt 11 cfg0.N (((cfg0.win 11).blk t).view.emb (ix3 0 r o)) = out0_11 (iblk m c 0 t) (iblk m c 1 t) (iblk m c 2 t) (iblk m c 3 t) (iblk m c 4 t) (iblk m c 5 t) (iblk m c 6 t) (iblk m c 7 t) (iblk m c 8 t) (iblk m c 9 t) (ix3 0 r o) := h
  rw [emb11 t b i ht] at h'
  refine h'.trans ?_
  unfold out0_11 k0_pay7 k0_pay8 k0_pay9
  rw [View.canon_unit_zero hz3]
  rw [View.ld_unit_zero (S := S1x512x512) hz3]
  repeat rw [View.ld_unit_zero (S := S1x512x1024) hz3]
  repeat rw [View.ld_unit_zero (S := S1x1x1024) hz3]
  rw [View.ld_unit_zero (S := S512x1024) hz2]
  rw [View.ld_unit_zero (S := S1024x1024) hz2]
  repeat rw [View.ld_unit_zero (S := S1x1024) hz2]
  refine (pay3_apply _ _ _ _ _ _ _ _ _ _ r o).trans ?_
  rw [brow_eq m t b i ht]
  refine congrArg₂ (· + ·) (congrArg₂ (· * ·) ?_ (congrArg₂ (· + ·) rfl (iblk6_apply m t b i ht c o))) (iblk7_apply m t b i ht c o)
  exact congrArg₂ (fun g b => lnRow _ g b o) (funext fun o => iblk8_apply m t c 0 o) (funext fun o => iblk9_apply m t c 0 o)

omit ht in
theorem final11_eq (c : Dev nD) : (dats m 0 c).arrAt 11 cfg0.N = h2 (M0 m c) (M1 m c) (M2 m c) (M3 m c) (M4 m c) (M5 m c) (M6 m c) (M7 m c) (M8 m c) := by
  refine funext fun (j : S4x4096x1024.Idx) => ?_
  have h0 : (j 0).val < 4 := (j 0).isLt
  have h1 : (j 1).val < 4096 := (j 1).isLt
  have h2 : (j 2).val < 1024 := (j 2).isLt
  have hj : j = ix3 (⟨(j 0).val, h0⟩ : Fin 4) ⟨(⟨(j 1).val / 512, by omega⟩ : Fin 8).val * 512 + (⟨(j 1).val % 512, by omega⟩ : Fin 512).val, by dsimp only; omega⟩ (⟨(j 2).val, h2⟩ : Fin 1024) :=
    ix3_ext rfl (by show (j 1).val = (j 1).val / 512 * 512 + (j 1).val % 512; omega) rfl
  rw [hj]
  exact final11_at m ⟨(j 0).val * 8 + (j 1).val / 512, by show _ < 32; omega⟩ ⟨(j 0).val, h0⟩ ⟨(j 1).val / 512, by omega⟩ rfl c ⟨(j 1).val % 512, by omega⟩ ⟨(j 2).val, h2⟩

end Cert.OutProjIdeal.Hand

end
-- ==== Proof.OutProjRef.lean ====
/- The reference of `outproj_ln1` read at an index, and the claims. -/
module

public import proofs.«01_k».proof.Defs
public import proofs.«01_k».proof.Proof.OutProj
public import proofs.«01_k».proof.Proof.Gen.OutProjIdeal.Value
public import proofs.«01_k».proof.Proof.Gen.OutProjRefIdeal.Read
public import Idealize.ShloMosaic.Lib.IdealHost
public import Idealize.ShloMosaic.Lib.Quiescent

@[expose] public section

set_option maxRecDepth 16384

noncomputable section

open Idealize.ShloMosaic Idealize.ShloMosaic.TcCoe Idealize.SL.Sem Idealize.ShloMosaic.ValueIdx
open Idealize.ShloMosaic.Pipeline (Dat)

namespace Cert.OutProjRefIdeal.Hand

open Cert.OutProjRefIdeal Cert.OutProjRefIdeal.Gen Cert.OutProjRefIdeal.Read Cert.OutProjSpec Cert.Kit

variable (x0 x1 : Vec Ideal S4x4096x512 .f32) (x2 : Vec Ideal S4x4096x1024 .f32) (x3 : Vec Ideal S1x1024x1024 .f32)
  (x4 x5 x6 : Vec Ideal S4x1x1024 .f32) (x7 x8 : Vec Ideal S1x1024 .f32)

theorem v1_apply (k o : Fin 1024) : val_main_v1 x3 (ix2 k o) = x3 (ix3 0 k o) := by
  unfold val_main_v1
  exact cast32 x3 _ k o

theorem v0_left (b : Fin 4) (r : Fin 4096) (k : Fin 512) : val_main_v0 x0 x1 (ix3 b r ⟨k.val, by omega⟩) = x0 (ix3 b r k) := by
  unfold val_main_v0
  exact concatenate_pair_apply_left (t := S4x4096x1024) (s₁ := S4x4096x512) (s₂ := S4x4096x512) 2 x0 x1 _ (ix3 b r ⟨k.val, by omega⟩) rfl (ix3 b r k) (fun a => match a with
    | ⟨0, _⟩ => rfl
    | ⟨1, _⟩ => rfl
    | ⟨2, _⟩ => rfl)

theorem v0_right (b : Fin 4) (r : Fin 4096) (k : Fin 512) : val_main_v0 x0 x1 (ix3 b r ⟨512 + k.val, by omega⟩) = x1 (ix3 b r k) := by
  unfold val_main_v0
  exact concatenate_pair_apply_right (t := S4x4096x1024) (s₁ := S4x4096x512) (s₂ := S4x4096x512) 2 x0 x1 _ (ix3 b r ⟨512 + k.val, by omega⟩) rfl rfl (ix3 b r k) (fun a => match a with
    | ⟨0, _⟩ => fun _ => rfl
    | ⟨1, _⟩ => fun _ => rfl
    | ⟨2, _⟩ => fun h => absurd rfl h) (by show k.val + 512 = 512 + k.val; omega)

theorem v2_apply (b : Fin 4) (r : Fin 4096) (o : Fin 1024) : val_main_v2 x0 x1 x3 (ix3 b r o)
    = (∑ k : Fin 512, x0 (ix3 b r k) * x3 (ix3 0 ⟨k.val, by omega⟩ o)) + ∑ k : Fin 512, x1 (ix3 b r k) * x3 (ix3 0 ⟨512 + k.val, by omega⟩ o) := by
  rw [val_main_v2_apply]
  have e : ∀ k : Fin 1024, val_main_v0 x0 x1 (lidx_main_v2 (ix3 b r o) k) * val_main_v1 x3 (ridx_main_v2 (ix3 b r o) k)
      = val_main_v0 x0 x1 (ix3 b r k) * x3 (ix3 0 k o) := fun k => by
    rw [show lidx_main_v2 (ix3 b r o) k = ix3 b r k from ix3_ext rfl rfl rfl, show ridx_main_v2 (ix3 b r o) k = ix2 k o from ix2_ext rfl rfl, v1_apply]
  rw [Finset.sum_congr rfl fun k _ => e k]
  refine (Fin.sum_univ_add (a := 512) (b := 512) (fun k : Fin (512 + 512) => val_main_v0 x0 x1 (ix3 b r k) * x3 (ix3 0 k o))).trans ?_
  refine congrArg₂ (· + ·) (Finset.sum_congr rfl fun k _ => ?_) (Finset.sum_congr rfl fun k _ => ?_)
  · exact congrArg₂ (· * ·) (v0_left x0 x1 b r k) rfl
  · exact congrArg₂ (· * ·) (v0_right x0 x1 b r k) rfl

theorem v7_apply (b : Fin 4) (r : Fin 4096) (o : Fin 1024) : val_main_v7 x0 x1 x2 x3 x4 (ix3 b r o) = res x0 x1 x2 x3 x4 b r o := by
  rw [val_main_v7_apply, val_main_v4_apply, val_main_v3_apply, val_main_cst_apply, val_main_v6_apply, val_main_v5_apply, v2_apply,
    show idx_main_v5 (ix3 b r o) = ix3 b 0 o from ix3_ext rfl rfl rfl]
  rfl

theorem zero_word : (FloatOps.ofBits (F := Ideal) .f32 0x00000000#32 : EReal) = 0 := Ideal.ofBits_zero_f32

theorem v11_apply (b : Fin 4) (r : Fin 4096) : val_main_v11 x0 x1 x2 x3 x4 (ix3 b r 0) = mean (res x0 x1 x2 x3 x4 b r) := by
  rw [val_main_v11_apply, val_main_v9_apply, val_main_v10_apply, val_main_cst_1_apply, val_main_v8_apply, val_main_cst_0_apply]
  refine congrArg₂ Ideal.div ?_ rfl
  refine (congrArg₂ (· + ·) zero_word (Finset.sum_congr rfl fun k _ => ?_)).trans (zero_add _)
  rw [show idx_main_v8 (idx_main_v9 (ix3 b r 0)) k = ix3 b r k from ix3_ext rfl rfl rfl, v7_apply]

theorem v13_apply (b : Fin 4) (r : Fin 4096) (o : Fin 1024) : val_main_v13 x0 x1 x2 x3 x4 (ix3 b r o)
    = res x0 x1 x2 x3 x4 b r o - mean (res x0 x1 x2 x3 x4 b r) := by
  rw [val_main_v13_apply, val_main_v12_apply, show idx_main_v12 (ix3 b r o) = ix3 b r 0 from ix3_ext rfl rfl rfl, v7_apply, v11_apply]
  rfl

theorem v18_apply (b : Fin 4) (r : Fin 4096) : val_main_v18 x0 x1 x2 x3 x4 (ix3 b r 0)
    = mean fun k => (res x0 x1 x2 x3 x4 b r k - mean (res x0 x1 x2 x3 x4 b r)) * (res x0 x1 x2 x3 x4 b r k - mean (res x0 x1 x2 x3 x4 b r)) := by
  rw [val_main_v18_apply, val_main_v16_apply, val_main_v17_apply, val_main_cst_3_apply, val_main_v15_apply, val_main_cst_2_apply]
  refine congrArg₂ Ideal.div ?_ rfl
  refine (congrArg₂ (· + ·) zero_word (Finset.sum_congr rfl fun k _ => ?_)).trans (zero_add _)
  rw [show idx_main_v15 (idx_main_v16 (ix3 b r 0)) k = ix3 b r k from ix3_ext rfl rfl rfl, val_main_v14_apply, v13_apply]
  rfl

theorem v33_apply (b : Fin 4) (r : Fin 4096) (o : Fin 1024) : val_main_v33 x0 x1 x2 x3 x4 x7 x8 (ix3 b r o)
    = OutProjSpec.x1 x0 x1 x2 x3 x4 x7 x8 (ix3 b r o) := by
  rw [val_main_v33_apply, val_main_v29_apply, val_main_v25_apply, val_main_v20_apply, val_main_v19_apply, val_main_v24_apply, val_main_v23_apply,
    val_main_v22_apply, val_main_v21_apply, val_main_cst_4_apply, val_main_v28_apply, val_main_v27_apply, val_main_v26_apply, val_main_v32_apply,
    val_main_v31_apply, val_main_v30_apply, show idx_main_v19 (ix3 b r o) = ix3 b r 0 from ix3_ext rfl rfl rfl,
    show idx_main_v24 (ix3 b r o) = ix3 b r 0 from ix3_ext rfl rfl rfl, v7_apply, v11_apply, v18_apply,
    show idx_main_v26 (idx_main_v27 (idx_main_v28 (ix3 b r o))) = ix2 0 o from ix2_ext rfl (Nat.mod_eq_of_lt o.isLt),
    show idx_main_v30 (idx_main_v31 (idx_main_v32 (ix3 b r o))) = ix2 0 o from ix2_ext rfl (Nat.mod_eq_of_lt o.isLt)]
  rfl

theorem v40_apply (b : Fin 4) (r : Fin 4096) (o : Fin 1024) : val_main_v40 x0 x1 x2 x3 x4 x5 x6 x7 x8 (ix3 b r o)
    = OutProjSpec.h2 x0 x1 x2 x3 x4 x5 x6 x7 x8 (ix3 b r o) := by
  rw [val_main_v40_apply, val_main_v39_apply, val_main_v37_apply, val_main_v36_apply, val_main_v35_apply, val_main_v34_apply, val_main_cst_5_apply,
    val_main_v38_apply, v33_apply, show idx_main_v36 (ix3 b r o) = ix3 b 0 o from ix3_ext rfl rfl rfl,
    show idx_main_v38 (ix3 b r o) = ix3 b 0 o from ix3_ext rfl rfl rfl]
  show OutProjSpec.x1 x0 x1 x2 x3 x4 x7 x8 (ix3 b r o) * (Ideal.ofBits .f32 0x3F800000#32 + _) + _ = _
  rw [Ideal.ofBits_one_f32]
  rfl

theorem v33_eq : val_main_v33 x0 x1 x2 x3 x4 x7 x8 = OutProjSpec.x1 x0 x1 x2 x3 x4 x7 x8 := by
  refine funext fun (j : S4x4096x1024.Idx) => ?_
  have hj : j = ix3 (j 0) (j 1) (j 2) := ix3_ext rfl rfl rfl
  rw [hj]
  exact v33_apply ..

theorem v40_eq : val_main_v40 x0 x1 x2 x3 x4 x5 x6 x7 x8 = OutProjSpec.h2 x0 x1 x2 x3 x4 x5 x6 x7 x8 := by
  refine funext fun (j : S4x4096x1024.Idx) => ?_
  have hj : j = ix3 (j 0) (j 1) (j 2) := ix3_ext rfl rfl rfl
  rw [hj]
  exact v40_apply ..

end Cert.OutProjRefIdeal.Hand

namespace Cert.Proof

theorem outproj_reference_frame : Cert.quiescent_OutProjRefIdeal := fun m ρ _ =>
  (θ_run Cert.OutProjRefIdeal.defs _ _).mono
    (fun r h => ⟨fun c => (h c).2.2, Idealize.ShloMosaic.sem_eq_zero_of_no_sems (by decide) r.2⟩)
    (Cert.OutProjRefIdeal.Value.run (F := Ideal) m ρ)

open Cert.OutProjIdeal.Hand in
theorem outproj_algebraic : Cert.algebraic_OutProjIdeal_OutProjRefIdeal := by
  intro m ρ m' ρ' _ hagree
  refine ⟨fun c => Cert.OutProjSpec.x1 (M0 m c) (M1 m c) (M2 m c) (M3 m c) (M4 m c) (M7 m c) (M8 m c),
    fun c => Cert.OutProjSpec.h2 (M0 m c) (M1 m c) (M2 m c) (M3 m c) (M4 m c) (M5 m c) (M6 m c) (M7 m c) (M8 m c), ?_, ?_⟩
  · exact (θ_run Cert.OutProjIdeal.defs _ _).mono (fun _ h c => ⟨(h c).1.trans (final10_eq m c), (h c).2.1.trans (final11_eq m c), (h c).2.2⟩)
      (Cert.OutProjIdeal.Value.run_blocks (F := Ideal) m ρ)
  · refine (θ_run Cert.OutProjRefIdeal.defs _ _).mono (fun _ h c => ⟨?_, ?_, (h c).2.2⟩) (Cert.OutProjRefIdeal.Value.run (F := Ideal) m' ρ')
    · refine ((h c).1.trans (Cert.OutProjRefIdeal.Read.val_main_v33_eq _ _)).trans ?_
      rw [(hagree c).1, (hagree c).2.1, (hagree c).2.2.1, (hagree c).2.2.2.1, (hagree c).2.2.2.2.1, (hagree c).2.2.2.2.2.2.2.1, (hagree c).2.2.2.2.2.2.2.2]
      exact Cert.OutProjRefIdeal.Hand.v33_eq ..
    · refine ((h c).2.1.trans (Cert.OutProjRefIdeal.Read.val_main_v40_eq _ _)).trans ?_
      rw [(hagree c).1, (hagree c).2.1, (hagree c).2.2.1, (hagree c).2.2.2.1, (hagree c).2.2.2.2.1, (hagree c).2.2.2.2.2.1, (hagree c).2.2.2.2.2.2.1,
        (hagree c).2.2.2.2.2.2.2.1, (hagree c).2.2.2.2.2.2.2.2]
      exact Cert.OutProjRefIdeal.Hand.v40_eq ..

end Cert.Proof

end
-- ==== Proof.PeerChain.lean ====
/- The chain of selections over the 64 groups of 128 experts: each lane takes, out of a row of 8192 products, the one of its
   own expert. -/
module

public import proofs.«01_k».proof.Defs
public import proofs.«01_k».proof.Proof.Kit
public import Idealize.ShloMosaic.Lib.IdealHost

@[expose] public section

set_option maxRecDepth 16384

noncomputable section

open Idealize.ShloMosaic Idealize.ShloMosaic.TcCoe Idealize.ShloMosaic.ValueIdx

namespace Cert.Peer

/-- Rows by lanes. -/
abbrev T : Shape := ⟨2, ![512, 128]⟩
/-- Rows by experts. -/
abbrev U : Shape := ⟨2, ![512, 8192]⟩
/-- Lanes, with a unit axis after them. -/
abbrev T1 : Shape := ⟨3, ![512, 128, 1]⟩

theorem slices (n : ℕ) (h : n < 64) : U.Slices ![0, 128 * n] T :=
  ⟨rfl, fun a => match a with
    | ⟨0, _⟩ => by show 0 + 512 ≤ 512; omega
    | ⟨1, _⟩ => by show 128 * n + 128 ≤ 8192; omega⟩

section

variable (g : BitVec 32) (s : FVec Ideal U .f32) (bi : IVec T 32) (a : FVec Ideal T .f32) (h1 : T.ShapeCasts T1) (h2 : T1.ShapeCasts T)

/-- The lane within a group, as the gather takes it. -/
def lane : IVec T 32 :=
  shapeCast T (shapeCast T1 (select (cmpi .slt bi (broadcast T 0#32)) (addi bi (broadcast T 128#32)) bi) h1) h2

/-- Group `n`: where the lane's group number is this one, the product of its expert. -/
def step (n : ℕ) (h : n < 64) (acc : FVec Ideal T .f32) : FVec Ideal T .f32 :=
  select (cmpf .oeq a (broadcast T (Scalar.sitofp .f32 (Scalar.addi (Scalar.muli g 64#32) (BitVec.ofNat 32 n)))))
    (dynamicGather 1 (extractStridedSlice T ![0, 128 * n] s (slices n h)) (lane bi h1 h2)) acc

/-- The first `n` groups. -/
def chain : (n : ℕ) → n ≤ 64 → FVec Ideal T .f32
  | 0, _ => broadcast T (Scalar.ofBits .f32 0x00000000#32)
  | n + 1, h => step g s bi a h1 h2 n h (chain n (by omega))

variable (e : ℕ) (he : e < 2) (hg : g = BitVec.ofNat 32 e) (r : Fin 512) (k : Fin 128) (A B : ℕ) (hB : B < 128)
  (hbi : bi (ix2 r k) = BitVec.ofNat 32 B) (ha : a (ix2 r k) = ((A : ℝ) : EReal))

include hB hbi in
theorem lane_apply : (lane bi h1 h2 (ix2 r k)).toNat = B := by
  have e2 : lane bi h1 h2 (ix2 r k) = select (cmpi .slt bi (broadcast T 0#32)) (addi bi (broadcast T 128#32)) bi (ix2 r k) := by
    unfold lane
    refine (shapeCast_apply (s := T1) (t := T) _ _ (ix2 r k) (ix3 r k 0) ?_).trans (shapeCast_apply (s := T) (t := T1) _ _ (ix3 r k 0) (ix2 r k) ?_)
    · rewrite [Shape.rowMajor_val_two, Shape.rowMajor_val_three]
      show (r.val * 128 + k.val) * 1 + 0 = r.val * 128 + k.val
      omega
    · rewrite [Shape.rowMajor_val_two, Shape.rowMajor_val_three]
      show r.val * 128 + k.val = (r.val * 128 + k.val) * 1 + 0
      omega
  have hs : BitVec.slt (BitVec.ofNat 32 B) 0#32 = false := by
    have : (BitVec.ofNat 32 B).toInt = B := by
      rw [BitVec.toInt_eq_toNat_of_lt] <;> simp [BitVec.toNat_ofNat] <;> omega
    simp [BitVec.slt, this]
  rw [e2]
  show (Scalar.select (BitVec.ofBool (BitVec.slt (bi (ix2 r k)) 0#32)) _ (bi (ix2 r k))).toNat = B
  rw [hbi, hs]
  show (if (0#1 : BitVec 1) = 1 then _ else BitVec.ofNat 32 B).toNat = B
  rw [if_neg (by decide)]
  simp [BitVec.toNat_ofNat]; omega

include he hg hB hbi ha in
theorem step_apply (n : ℕ) (h : n < 64) (acc : FVec Ideal T .f32) : step g s bi a h1 h2 n h acc (ix2 r k)
    = if A = 64 * e + n then s (ix2 r ⟨128 * n + B, by omega⟩) else acc (ix2 r k) := by
  have hz : (Scalar.addi (Scalar.muli g 64#32) (BitVec.ofNat 32 n)).toInt = ((64 * e + n : ℕ) : ℤ) := by
    have h0 : (Scalar.addi (Scalar.muli g 64#32) (BitVec.ofNat 32 n)).toNat = 64 * e + n := by
      show (g * 64#32 + BitVec.ofNat 32 n).toNat = _
      rw [hg]; simp [BitVec.toNat_add, BitVec.toNat_mul, BitVec.toNat_ofNat]; omega
    rw [BitVec.toInt_eq_toNat_of_lt (by omega), h0]
  have hc : cmpf .oeq a (broadcast T (Scalar.sitofp .f32 (Scalar.addi (Scalar.muli g 64#32) (BitVec.ofNat 32 n)))) (ix2 r k)
      = BitVec.ofBool (decide (A = 64 * e + n)) := by
    show BitVec.ofBool (decide (a (ix2 r k) = (((Scalar.addi (Scalar.muli g 64#32) (BitVec.ofNat 32 n)).toInt : ℝ) : EReal))) = _
    rw [ha, hz]
    congr 1
    refine decide_eq_decide.mpr ?_
    rw [EReal.coe_eq_coe_iff]
    constructor
    · intro h; exact_mod_cast h
    · intro h; rw [h]; push_cast; rfl
  unfold step
  show (if _ = (1 : BitVec 1) then _ else _) = _
  rw [hc]
  by_cases hA : A = 64 * e + n
  · rw [if_pos hA, if_pos (by simp [hA])]
    show extractStridedSlice T ![0, 128 * n] s (slices n h) _ = _
    refine extractStridedSlice_apply _ _ _ _ _ fun x => match x with
      | ⟨0, _⟩ => (Nat.zero_add _).symm
      | ⟨1, _⟩ => ?_
    show 128 * n + B = 128 * n + (lane bi h1 h2 (ix2 r k)).toNat % 128
    rw [lane_apply bi h1 h2 r k B hB hbi, Nat.mod_eq_of_lt hB]
  · rw [if_neg hA, if_neg (by simp [hA])]

include he hg hB hbi ha in
/-- The chain takes the product of the lane's expert, where one of its groups holds it. -/
theorem chain_apply (n : ℕ) (h : n ≤ 64) : chain g s bi a h1 h2 n h (ix2 r k)
    = if hA : 64 * e ≤ A ∧ A < 64 * e + n then s (ix2 r ⟨128 * (A - 64 * e) + B, by omega⟩) else 0 := by
  induction n with
  | zero =>
    rw [dif_neg (by omega)]
    exact Ideal.ofBits_zero_f32
  | succ n ih =>
    refine (step_apply g s bi a h1 h2 e he hg r k A B hB hbi ha n h _).trans ?_
    rw [ih]
    by_cases hA : A = 64 * e + n
    · rw [if_pos hA, dif_pos (by omega)]
      congr 3
      show 128 * n + B = 128 * (A - 64 * e) + B
      omega
    · rw [if_neg hA]
      by_cases hA' : 64 * e ≤ A ∧ A < 64 * e + n
      · rw [dif_pos hA', dif_pos (by omega)]
      · rw [dif_neg hA', dif_neg (by omega)]

end

/-- A small whole number, read back from its float. -/
theorem fptosi_nat (B : ℕ) (hB : B < 2 ^ 31) : Ideal.fptosi 32 ((B : ℝ) : EReal) = BitVec.ofNat 32 B := by
  show BitVec.ofInt 32 (max (-(2 ^ 31 : ℕ)) (min ((2 ^ 31 : ℕ) - 1) (if (0 : ℝ) ≤ B then ⌊(B : ℝ)⌋ else ⌈(B : ℝ)⌉))) = _
  rw [if_pos (Nat.cast_nonneg B), Int.floor_natCast, min_eq_right (by omega), max_eq_right (by omega)]
  simp

end Cert.Peer

end
-- ==== Proof.ScoresChain.lean ====
/- What the body of `peer_scores` stores is the chain of selections over the 64 groups. -/
module

public import proofs.«01_k».proof.Defs
public import proofs.«01_k».proof.Proof.PeerChain
public import proofs.«01_k».proof.Proof.Gen.ScoresIdeal.Frame

@[expose] public section

set_option maxRecDepth 16384

noncomputable section

open Idealize.ShloMosaic Idealize.ShloMosaic.TcCoe Idealize.SL.Sem Idealize.ShloMosaic.ValueIdx

namespace Cert.ScoresIdeal.Hand

open Cert.ScoresIdeal Cert.ScoresIdeal.Gen

set_option maxHeartbeats 4000000 in
theorem out_chain (i : grid0.Coords) (x0 : Vec Ideal S512x1024 .bf16) (x1 x2 : Vec Ideal S512x128 .f32) (x3 : Vec Ideal S8192x1024 .bf16) :
    out0_4 i x0 x1 x2 x3 = View.canon [⟨r0_3, k0_pay1 (Peer.chain (BitVec.ofNat 32 (i 0).val) (k0_pay2 (View.ld x0 r0_0) (View.ld x3 r0_1)) (k0_pay3 (View.ld x2 r0_2))
      (k0_pay4 (View.ld x1 r0_2)) shapeCasts_S512x128_S512x128x1 shapeCasts_S512x128x1_S512x128 64 le_rfl)⟩] := by
  rfl

end Cert.ScoresIdeal.Hand

end
-- ==== Proof.Scores.lean ====
/- `peer_scores`: each lane's product of its row with the expert it has chosen, over the two halves of the table, against
   the gather of the chosen rows written plainly. -/
module

public import proofs.«01_k».proof.Defs
public import proofs.«01_k».proof.Proof.Kit
public import proofs.«01_k».proof.Proof.ScoresChain
public import Idealize.ShloMosaic.Lib.IdealHost
public import Idealize.ShloMosaic.Lib.Quiescent
public import Idealize.ShloMosaic.Lib.ReduceAll
public import proofs.«01_k».proof.Proof.Gen.ScoresIdeal.Value
public import proofs.«01_k».proof.Proof.Gen.ScoresRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)

namespace Cert.PeerScores

/-- What both programs compute: at half `e`, row `t` and lane `k`, the product of the row with the expert `E (t, k)` where
    that expert lies in the half, and zero elsewhere. -/
def spec (h : Vec Ideal ⟨2, ![16384, 1024]⟩ .f32) (E : IVec ⟨2, ![16384, 128]⟩ 32) (u : Vec Ideal ⟨3, ![1, 16384, 1024]⟩ .f32) :
    Vec Ideal ⟨3, ![2, 16384, 128]⟩ .f32 := fun j =>
  if (E (ix2 (j 1) (j 2))).toNat / 8192 = (j 0).val then
    ∑ d : Fin 1024, h (ix2 (j 1) d) * u (ix3 0 ⟨(E (ix2 (j 1) (j 2))).toNat % 16384, Nat.mod_lt _ (by decide)⟩ d)
  else 0

/-- The group of an expert, and its lane within the group. -/
theorem group_word (x : BitVec 32) (hx : x.toNat < 16384) : (IntOp.shrsi .host x 7#32).toInt = ((x.toNat / 128 : ℕ) : ℤ) := by
  have h0 : IntOp.shrsi .host x 7#32 = x.sshiftRight' 7#32 := if_pos (by decide)
  rw [h0, BitVec.toInt_sshiftRight', BitVec.toInt_eq_toNat_of_lt (by omega), Int.shiftRight_eq_div_pow]
  norm_num

theorem lane_word (x : BitVec 32) (hx : x.toNat < 16384) : (IntOp.andi x 127#32).toInt = ((x.toNat % 128 : ℕ) : ℤ) := by
  have h0 : (IntOp.andi x 127#32).toNat = x.toNat % 128 := by
    show (x &&& 127#32).toNat = _
    rw [BitVec.toNat_and]
    exact Nat.and_two_pow_sub_one_eq_mod x.toNat 7
  rw [BitVec.toInt_eq_toNat_of_lt (by omega), h0]

end Cert.PeerScores

namespace Cert.ScoresIdeal.Hand

open Cert.ScoresIdeal Cert.ScoresIdeal.Gen Cert.PeerScores

variable (m : (ℓ : Loc nD τ sig) → Buf (Elt Ideal) ℓ) (ρ : Dev nD → PrngReg)

abbrev M0 (c : Dev nD) : Vec Ideal S16384x1024 .f32 := m ((c : Thread nD τ).loc main_arg0)
abbrev M1 (c : Dev nD) : IVec S16384x128 32 := m ((c : Thread nD τ).loc main_arg1)
abbrev M2 (c : Dev nD) : Vec Ideal S1x16384x1024 .f32 := m ((c : Thread nD τ).loc main_arg2)

set_option maxHeartbeats 2000000 in
theorem V_v2 (c : Dev nD) : (V m c main_v2 : Vec Ideal S16384x128 .f32)
    = sitofp (F := Ideal) .f32 (Host.shrsi (M1 m c) (broadcastInDim S16384x128 ![] bcast_S_S16384x128 (constantI S_ 32 7#32))) := by
  simp only [V, hostOps0]
  after_results <;> rfl

set_option maxHeartbeats 2000000 in
theorem V_v5 (c : Dev nD) : (V m c main_v5 : Vec Ideal S16384x128 .f32)
    = sitofp (F := Ideal) .f32 (andi (M1 m c) (broadcastInDim S16384x128 ![] bcast_S_S16384x128 (constantI S_ 32 127#32))) := by
  simp only [V, hostOps0]
  after_results <;> rfl

set_option maxHeartbeats 2000000 in
theorem V_v6 (c : Dev nD) : (V m c main_v6 : Vec Ideal S16384x1024 .bf16) = truncf (F := Ideal) .bf16 (M0 m c) bitsLt_bf16_f32 := by
  simp only [V, hostOps0]
  after_results <;> rfl

set_option maxHeartbeats 2000000 in
theorem V_v8 (c : Dev nD) : (V m c main_v8 : Vec Ideal S16384x1024 .bf16)
    = truncf (F := Ideal) .bf16 (shapeCast S16384x1024 (M2 m c) shapeCasts_S1x16384x1024_S16384x1024) bitsLt_bf16_f32 := by
  simp only [V, hostOps0]
  after_results <;> rfl

/-! ## The product at an index -/

theorem lhs_0 (j : S512x8192.Idx) (q : dot_S512x1024_S8192x1024_S512x8192_1_1_0_0_n_n.contr.Idx) :
    (dot_S512x1024_S8192x1024_S512x8192_1_1_0_0_n_n.lhsIdx j q 0).val = (j 0).val := by
  unfold DotDims.lhsIdx
  rw [dif_neg (show ¬(0 : Fin S512x1024.rank) ∈ dot_S512x1024_S8192x1024_S512x8192_1_1_0_0_n_n.lhsBatch by decide), dif_pos (show (0 : Fin S512x1024.rank) ∈ dot_S512x1024_S8192x1024_S512x8192_1_1_0_0_n_n.lhsNonContracting by decide)]
  rfl

theorem rhs_0 (j : S512x8192.Idx) (q : dot_S512x1024_S8192x1024_S512x8192_1_1_0_0_n_n.contr.Idx) :
    (dot_S512x1024_S8192x1024_S512x8192_1_1_0_0_n_n.rhsIdx j q 0).val = (j 1).val := by
  unfold DotDims.rhsIdx
  rw [dif_neg (show ¬(0 : Fin S8192x1024.rank) ∈ dot_S512x1024_S8192x1024_S512x8192_1_1_0_0_n_n.rhsBatch by decide), dif_pos (show (0 : Fin S8192x1024.rank) ∈ dot_S512x1024_S8192x1024_S512x8192_1_1_0_0_n_n.rhsNonContracting by decide)]
  rfl

theorem products_apply (x0 : Vec Ideal S512x1024 .bf16) (x3 : Vec Ideal S8192x1024 .bf16) (r : Fin 512) (col : Fin 8192) :
    k0_pay2 x0 x3 (ix2 r col) = ∑ d : Fin 1024, x0 (ix2 r d) * x3 (ix2 col d) := by
  unfold k0_pay2
  refine (Kit.matmul_sum _ none 1024 rfl rfl _ _ _ (fun d => ix2 r d) (fun d => ix2 col d) ?_ ?_).trans (Finset.sum_congr rfl fun d _ => ?_)
  · intro q k hq
    funext a; apply Fin.ext
    match a with
    | ⟨0, _⟩ => exact lhs_0 _ q
    | ⟨1, _⟩ => exact (DotDims.lhsIdx_val_of_single _ rfl _ q).trans hq
  · intro q k hq
    funext a; apply Fin.ext
    match a with
    | ⟨0, _⟩ => exact rhs_0 _ q
    | ⟨1, _⟩ => exact (DotDims.rhsIdx_val_of_single _ rfl _ q).trans hq
  · rw [show shapeCast S512x1024 x0 shapeCasts_S512x1024_S512x1024 (ix2 r d) = x0 (ix2 r d) from shapeCast_apply _ _ _ _ rfl,
      show shapeCast S8192x1024 x3 shapeCasts_S8192x1024_S8192x1024 (ix2 col d) = x3 (ix2 col d) from shapeCast_apply _ _ _ _ rfl]

/-- What the body stores in half `e`, at row `r` and lane `k` of its block. -/
theorem out_apply (i : grid0.Coords) (x0 : Vec Ideal S512x1024 .bf16) (x1 x2 : Vec Ideal S512x128 .f32) (x3 : Vec Ideal S8192x1024 .bf16)
    (e : ℕ) (he : e < 2) (hi : (i 0).val = e) (r : Fin 512) (k : Fin 128) (A B : ℕ) (hB : B < 128)
    (h1 : x1 (ix2 r k) = ((A : ℝ) : EReal)) (h2 : x2 (ix2 r k) = ((B : ℝ) : EReal)) :
    out0_4 i x0 x1 x2 x3 (ix3 0 r k)
      = if hA : 64 * e ≤ A ∧ A < 64 * e + 64 then ∑ d : Fin 1024, x0 (ix2 r d) * x3 (ix2 ⟨128 * (A - 64 * e) + B, by omega⟩ d) else 0 := by
  have hz2 : (![0, 0] : Fin 2 → Nat) = fun _ => 0 := funext fun a => by fin_cases a <;> rfl
  have hz3 : (![0, 0, 0] : Fin 3 → Nat) = fun _ => 0 := funext fun a => by fin_cases a <;> rfl
  rw [out_chain, View.canon_unit_zero hz3, View.ld_unit_zero (S := S512x1024) hz2, View.ld_unit_zero (S := S8192x1024) hz2,
    View.ld_unit_zero (S := S512x128) hz2, View.ld_unit_zero (S := S512x128) hz2]
  unfold k0_pay1
  refine (shapeCast_apply (s := S512x128) (t := S1x512x128) _ _ (ix3 0 r k) (ix2 r k) ?_).trans ?_
  · rewrite [Shape.rowMajor_val_two, Shape.rowMajor_val_three]
    show r.val * 128 + k.val = (0 * 512 + r.val) * 128 + k.val
    omega
  refine (Peer.chain_apply _ _ _ _ _ _ e he (by rw [hi]) r k A B hB ?_ ?_ 64 le_rfl).trans ?_
  · unfold k0_pay3
    show Ideal.fptosi 32 (shapeCast S512x128 x2 shapeCasts_S512x128_S512x128 (ix2 r k)) = _
    rw [show shapeCast S512x128 x2 shapeCasts_S512x128_S512x128 (ix2 r k) = x2 (ix2 r k) from shapeCast_apply _ _ _ _ rfl, h2]
    exact Peer.fptosi_nat B (by omega)
  · unfold k0_pay4
    exact (shapeCast_apply _ _ _ _ rfl).trans h1
  · by_cases hA : 64 * e ≤ A ∧ A < 64 * e + 64
    · rw [dif_pos hA, dif_pos hA]
      exact products_apply x0 x3 r _
    · rw [dif_neg hA, dif_neg hA]

/-! ## The blocks -/

theorem idx_facts : ∀ t : Fin cfg0.N,
    (win0_0.index t (0 : Fin 2) = t.val % 32 ∧ win0_0.index t (1 : Fin 2) = 0)
    ∧ (win0_1.index t (0 : Fin 2) = t.val % 32 ∧ win0_1.index t (1 : Fin 2) = 0)
    ∧ (win0_2.index t (0 : Fin 2) = t.val % 32 ∧ win0_2.index t (1 : Fin 2) = 0)
    ∧ (win0_3.index t (0 : Fin 2) = t.val / 32 ∧ win0_3.index t (1 : Fin 2) = 0)
    ∧ (win0_4.index t (0 : Fin 3) = t.val / 32 ∧ win0_4.index t (1 : Fin 3) = t.val % 32 ∧ win0_4.index t (2 : Fin 3) = 0)
    ∧ (grid0.coords t 0).val = t.val / 32
    ∧ (cfg0.win 4).flush t = true :=
  (by decide +kernel : ∀ t : Fin grid0.N, _)

variable (t : Fin cfg0.N) (e : Fin 2) (i : Fin 32) (ht : t.val = e.val * 32 + i.val)
include ht

theorem emb0 (r : Fin 512) (d : Fin 1024) :
    ((cfg0.win 0).blk t).view.emb (ix2 r d) = (ix2 ⟨i.val * 512 + r.val, by omega⟩ d : S16384x1024.Idx) := by
  obtain ⟨⟨e0, e1⟩, -⟩ := idx_facts t
  funext a; apply Fin.ext
  match a with
  | ⟨0, _⟩ => show win0_0.index t (0 : Fin 2) * 512 + 1 * r.val = i.val * 512 + r.val; omega
  | ⟨1, _⟩ => show win0_0.index t (1 : Fin 2) * 1024 + 1 * d.val = d.val; omega

theorem emb1 (r : Fin 512) (k : Fin 128) :
    ((cfg0.win 1).blk t).view.emb (ix2 r k) = (ix2 ⟨i.val * 512 + r.val, by omega⟩ k : S16384x128.Idx) := by
  obtain ⟨-, ⟨e0, e1⟩, -⟩ := idx_facts t
  funext a; apply Fin.ext
  match a with
  | ⟨0, _⟩ => show win0_1.index t (0 : Fin 2) * 512 + 1 * r.val = i.val * 512 + r.val; omega
  | ⟨1, _⟩ => show win0_1.index t (1 : Fin 2) * 128 + 1 * k.val = k.val; omega

theorem emb2 (r : Fin 512) (k : Fin 128) :
    ((cfg0.win 2).blk t).view.emb (ix2 r k) = (ix2 ⟨i.val * 512 + r.val, by omega⟩ k : S16384x128.Idx) := by
  obtain ⟨-, -, ⟨e0, e1⟩, -⟩ := idx_facts t
  funext a; apply Fin.ext
  match a with
  | ⟨0, _⟩ => show win0_2.index t (0 : Fin 2) * 512 + 1 * r.val = i.val * 512 + r.val; omega
  | ⟨1, _⟩ => show win0_2.index t (1 : Fin 2) * 128 + 1 * k.val = k.val; omega

theorem emb3 (q : Fin 8192) (d : Fin 1024) :
    ((cfg0.win 3).blk t).view.emb (ix2 q d) = (ix2 ⟨e.val * 8192 + q.val, by omega⟩ d : S16384x1024.Idx) := by
  obtain ⟨-, -, -, ⟨e0, e1⟩, -⟩ := idx_facts t
  funext a; apply Fin.ext
  match a with
  | ⟨0, _⟩ => show win0_3.index t (0 : Fin 2) * 8192 + 1 * q.val = e.val * 8192 + q.val; omega
  | ⟨1, _⟩ => show win0_3.index t (1 : Fin 2) * 1024 + 1 * d.val = d.val; omega

theorem emb4 (r : Fin 512) (k : Fin 128) :
    ((cfg0.win 4).blk t).view.emb (ix3 0 r k) = (ix3 e ⟨i.val * 512 + r.val, by omega⟩ k : S2x16384x128.Idx) := by
  obtain ⟨-, -, -, -, ⟨e0, e1, e2⟩, -⟩ := idx_facts t
  funext a; apply Fin.ext
  match a with
  | ⟨0, _⟩ => show win0_4.index t (0 : Fin 3) * 1 + 1 * 0 = e.val; omega
  | ⟨1, _⟩ => show win0_4.index t (1 : Fin 3) * 512 + 1 * r.val = i.val * 512 + r.val; omega
  | ⟨2, _⟩ => show win0_4.index t (2 : Fin 3) * 128 + 1 * k.val = k.val; omega

theorem iblk0_apply (c : Dev nD) (r : Fin 512) (d : Fin 1024) :
    iblk m c 0 t (ix2 r d) = M0 m c (ix2 ⟨i.val * 512 + r.val, by omega⟩ d) := by
  have key : ∀ X : Vec Ideal S16384x1024 .bf16, ((cfg0.win 0).blk t).view.read (Elt Ideal) X (ix2 r d) = X (ix2 ⟨i.val * 512 + r.val, by omega⟩ d) :=
    fun X => congrArg X (emb0 t e i ht r d)
  refine (key (V m c main_v6)).trans ?_
  rw [V_v6]
  rfl

theorem iblk1_apply (c : Dev nD) (r : Fin 512) (k : Fin 128) (hE : (M1 m c (ix2 ⟨i.val * 512 + r.val, by omega⟩ k)).toNat < 16384) :
    iblk m c 1 t (ix2 r k) = ((((M1 m c (ix2 ⟨i.val * 512 + r.val, by omega⟩ k)).toNat / 128 : ℕ) : ℝ) : EReal) := by
  have key : ∀ X : Vec Ideal S16384x128 .f32, ((cfg0.win 1).blk t).view.read (Elt Ideal) X (ix2 r k) = X (ix2 ⟨i.val * 512 + r.val, by omega⟩ k) :=
    fun X => congrArg X (emb1 t e i ht r k)
  refine (key (V m c main_v2)).trans ?_
  rw [V_v2]
  show (((IntOp.shrsi .host (M1 m c (ix2 ⟨i.val * 512 + r.val, _⟩ k)) 7#32).toInt : ℝ) : EReal) = _
  rw [group_word _ hE]
  rfl

theorem iblk2_apply (c : Dev nD) (r : Fin 512) (k : Fin 128) (hE : (M1 m c (ix2 ⟨i.val * 512 + r.val, by omega⟩ k)).toNat < 16384) :
    iblk m c 2 t (ix2 r k) = ((((M1 m c (ix2 ⟨i.val * 512 + r.val, by omega⟩ k)).toNat % 128 : ℕ) : ℝ) : EReal) := by
  have key : ∀ X : Vec Ideal S16384x128 .f32, ((cfg0.win 2).blk t).view.read (Elt Ideal) X (ix2 r k) = X (ix2 ⟨i.val * 512 + r.val, by omega⟩ k) :=
    fun X => congrArg X (emb2 t e i ht r k)
  refine (key (V m c main_v5)).trans ?_
  rw [V_v5]
  show (((IntOp.andi (M1 m c (ix2 ⟨i.val * 512 + r.val, _⟩ k)) 127#32).toInt : ℝ) : EReal) = _
  rw [lane_word _ hE]
  rfl

theorem iblk3_apply (c : Dev nD) (q : Fin 8192) (d : Fin 1024) :
    iblk m c 3 t (ix2 q d) = M2 m c (ix3 0 ⟨e.val * 8192 + q.val, by omega⟩ d) := by
  have key : ∀ X : Vec Ideal S16384x1024 .bf16, ((cfg0.win 3).blk t).view.read (Elt Ideal) X (ix2 q d) = X (ix2 ⟨e.val * 8192 + q.val, by omega⟩ d) :=
    fun X => congrArg X (emb3 t e i ht q d)
  refine (key (V m c main_v8)).trans ?_
  rw [V_v8]
  refine shapeCast_apply (s := S1x16384x1024) (t := S16384x1024) _ _ (ix2 ⟨e.val * 8192 + q.val, by omega⟩ d) (ix3 0 ⟨e.val * 8192 + q.val, by omega⟩ d) ?_
  rewrite [Shape.rowMajor_val_two, Shape.rowMajor_val_three]
  show (0 * 16384 + (e.val * 8192 + q.val)) * 1024 + d.val = (e.val * 8192 + q.val) * 1024 + d.val
  omega

/-- The array that the run leaves, at an index of block `t`. -/
theorem final_at (c : Dev nD) (hE : ∀ j, (M1 m c j).toNat < 16384) (r : Fin 512) (k : Fin 128) :
    (dats m 0 c).arrAt 4 cfg0.N (ix3 e ⟨i.val * 512 + r.val, by omega⟩ k : S2x16384x128.Idx)
      = spec (M0 m c) (M1 m c) (M2 m c) (ix3 e ⟨i.val * 512 + r.val, by omega⟩ k) := by
  have h := congrFun (Value.blocks4 m c t (idx_facts t).2.2.2.2.2.2) (ix3 0 r k)
  rw [Value.flushed4] at h
  have h' : (dats m 0 c).arrAt 4 cfg0.N (((cfg0.win 4).blk t).view.emb (ix3 0 r k)) = out0_4 (grid0.coords t) (iblk m c 0 t) (iblk m c 1 t) (iblk m c 2 t) (iblk m c 3 t) (ix3 0 r k) := h
  rw [emb4 t e i ht] at h'
  refine h'.trans ?_
  have hEt := hE (ix2 ⟨i.val * 512 + r.val, by omega⟩ k)
  refine (out_apply (grid0.coords t) _ _ _ _ e.val e.isLt (by have := (idx_facts t).2.2.2.2.2.1; omega) r k _ _ (Nat.mod_lt _ (by decide))
    (iblk1_apply m t e i ht c r k hEt) (iblk2_apply m t e i ht c r k hEt)).trans ?_
  generalize hn : (M1 m c (ix2 ⟨i.val * 512 + r.val, by omega⟩ k)).toNat = n at hEt
  have hs : spec (M0 m c) (M1 m c) (M2 m c) (ix3 e ⟨i.val * 512 + r.val, by omega⟩ k)
      = if n / 8192 = e.val then ∑ d : Fin 1024, M0 m c (ix2 ⟨i.val * 512 + r.val, by omega⟩ d) * M2 m c (ix3 0 ⟨n % 16384, Nat.mod_lt _ (by decide)⟩ d) else 0 := by
    subst hn; rfl
  rw [hs]
  by_cases hA : n / 8192 = e.val
  · rw [if_pos hA, dif_pos (by omega)]
    refine Finset.sum_congr rfl fun d _ => ?_
    rw [iblk0_apply m t e i ht, iblk3_apply m t e i ht]
    congr 3
    exact Fin.ext (by show e.val * 8192 + (128 * (n / 128 - 64 * e.val) + n % 128) = n % 16384; omega)
  · rw [if_neg hA, dif_neg (by omega)]

omit ht in
theorem final_eq (c : Dev nD) (hE : ∀ j, (M1 m c j).toNat < 16384) : (dats m 0 c).arrAt 4 cfg0.N = spec (M0 m c) (M1 m c) (M2 m c) := by
  refine funext fun (j : S2x16384x128.Idx) => ?_
  have h0 : (j 0).val < 2 := (j 0).isLt
  have h1 : (j 1).val < 16384 := (j 1).isLt
  have h2 : (j 2).val < 128 := (j 2).isLt
  have hj : j = ix3 (⟨(j 0).val, h0⟩ : Fin 2) ⟨(⟨(j 1).val / 512, by omega⟩ : Fin 32).val * 512 + (⟨(j 1).val % 512, by omega⟩ : Fin 512).val, by dsimp only; omega⟩ (⟨(j 2).val, h2⟩ : Fin 128) :=
    Cert.Kit.ix3_ext rfl (by show (j 1).val = (j 1).val / 512 * 512 + (j 1).val % 512; omega) rfl
  rw [hj]
  exact final_at m ⟨(j 0).val * 32 + (j 1).val / 512, by show _ < 64; omega⟩ ⟨(j 0).val, h0⟩ ⟨(j 1).val / 512, by omega⟩ rfl c hE ⟨(j 1).val % 512, by omega⟩ ⟨(j 2).val, h2⟩

omit ht in
/-- The range of the experts, from the precondition. -/
theorem experts_lt (x0 : Vec Ideal S16384x1024 .f32) (x1 : IVec S16384x128 32) (x2 : Vec Ideal S1x16384x1024 .f32) [Cert.Pre_experts_in_range.Facts]
    (h : Cert.Pre_experts_in_range.fn (F := Ideal) x0 x1 x2 = (fun _ => 1#1)) (j : S16384x128.Idx) : (x1 j).toNat < 16384 := by
  have hj := Host.reduce_andi_all _ _ _ _ _ (congrFun h (fun a => a.elim0)) j
  have hj' : IntOp.cmpi .sge (x1 j) 0#32 &&& IntOp.cmpi .slt (x1 j) 16384#32 = 1#1 := hj
  have h1 : IntOp.cmpi .sge (x1 j) 0#32 = 1#1 := by revert hj'; generalize IntOp.cmpi .sge (x1 j) 0#32 = p; generalize IntOp.cmpi .slt (x1 j) 16384#32 = q; revert p q; decide
  have h2 : IntOp.cmpi .slt (x1 j) 16384#32 = 1#1 := by revert hj'; generalize IntOp.cmpi .sge (x1 j) 0#32 = p; generalize IntOp.cmpi .slt (x1 j) 16384#32 = q; revert p q; decide
  have h3 := IntOp.cmpi_sge.1 h1
  have h4 := IntOp.cmpi_slt.1 h2
  have e0 : (0#32 : BitVec 32).toInt = 0 := by decide
  have e1 : (16384#32 : BitVec 32).toInt = 16384 := by decide
  rw [e0] at h3
  rw [e1] at h4
  have h5 := BitVec.toInt_eq_toNat_cond (x1 j)
  have h6 := (x1 j).isLt
  split_ifs at h5 <;> omega

end Cert.ScoresIdeal.Hand

namespace Cert.ScoresRefIdeal.Hand

open Cert.ScoresRefIdeal Cert.ScoresRefIdeal.Gen Cert.ScoresRefIdeal.Read Cert.PeerScores

variable (x0 : Vec Ideal S16384x1024 .f32) (x1 : IVec S16384x128 32) (x2 : Vec Ideal S1x16384x1024 .f32) (hE : ∀ j, (x1 j).toNat < 16384)

/-- A row index per row and lane: the gather takes that row of the table. -/
theorem gather_apply (x : Vec Ideal S16384x1024 .f32) (idx : IVec S16384x128x1 32) (t : Fin 16384) (k : Fin 128) (d : Fin 1024)
    (n : ℕ) (hn : n < 16384) (h : (idx (ix3 t k 0)).toInt = (n : ℤ)) :
    Host.gather gather_S16384x1024_S16384x128x1_S16384x128x1024_2_0_n_n_0_2_11024 x idx (ix3 t k d) = x (ix2 ⟨n, hn⟩ d) := by
  unfold Host.gather
  refine congrArg x (funext fun a => Fin.ext ?_)
  generalize hg : gather_S16384x1024_S16384x128x1_S16384x128x1024_2_0_n_n_0_2_11024 = g
  match a with
  | ⟨0, _⟩ =>
    show g.start (ix3 t k d) idx 0 + g.batchCoord (ix3 t k d) 0 + g.offCoord (ix3 t k d) 0 = n
    rw [g.batchCoord_eq_zero _ _ (by rw [← hg]; exact List.not_mem_nil),
      g.offCoord_eq_zero _ _ (fun h => ((g.mem_sKept _).mp h).1 (by rw [← hg]; exact List.mem_singleton.mpr rfl))]
    simp only [Nat.add_zero]
    unfold GatherDims.start
    subst hg
    rw [dif_pos (show (0 : Fin 2) ∈ gather_S16384x1024_S16384x128x1_S16384x128x1024_2_0_n_n_0_2_11024.startIndexMap from List.mem_singleton.mpr rfl)]
    have hsi : gather_S16384x1024_S16384x128x1_S16384x128x1024_2_0_n_n_0_2_11024.siIdx (ix3 t k d) ⟨List.idxOf (0 : Fin 2) gather_S16384x1024_S16384x128x1_S16384x128x1024_2_0_n_n_0_2_11024.startIndexMap,
        List.idxOf_lt_length_iff.2 (List.mem_singleton.mpr rfl)⟩ = ix3 t k 0 := by
      funext b; refine Fin.ext ?_
      match b with
      | ⟨0, _⟩ => rfl
      | ⟨1, _⟩ => rfl
      | ⟨2, _⟩ => rfl
    rw [hsi, h]
    show min ((n : ℤ)).toNat (16384 - 1) = n
    omega
  | ⟨1, _⟩ =>
    show g.start (ix3 t k d) idx 1 + g.batchCoord (ix3 t k d) 1 + g.offCoord (ix3 t k d) 1 = d.val
    rw [g.batchCoord_eq_zero _ _ (by rw [← hg]; exact List.not_mem_nil), Nat.add_zero]
    unfold GatherDims.start GatherDims.offCoord
    subst hg
    rw [dif_neg (show ¬(1 : Fin 2) ∈ gather_S16384x1024_S16384x128x1_S16384x128x1024_2_0_n_n_0_2_11024.startIndexMap by decide),
      dif_pos (show (1 : Fin 2) ∈ gather_S16384x1024_S16384x128x1_S16384x128x1024_2_0_n_n_0_2_11024.sKept by decide), Nat.zero_add]
    rfl

include hE

theorem v5_apply (t : Fin 16384) (k : Fin 128) : val_main_v5 (F := Ideal) x1 (ix2 t k) = x1 (ix2 t k) := by
  rw [val_main_v5_apply]
  have h0 : val_main_v2 (F := Ideal) x1 (ix2 t k) = 0#1 := by
    show BitVec.ofBool (BitVec.slt (x1 (ix2 t k)) 0#32) = 0#1
    have := hE (ix2 t k)
    have h2 : BitVec.slt (x1 (ix2 t k)) 0#32 = false := by
      rw [BitVec.slt, BitVec.toInt_eq_toNat_of_lt (by omega)]
      simp
    rw [h2]; rfl
  rw [h0]
  exact if_neg (by decide)

theorem v8_apply (t : Fin 16384) (k : Fin 128) : val_main_v8 (F := Ideal) x0 x1 x2 (ix2 t k)
    = ∑ d : Fin 1024, x0 (ix2 t d) * x2 (ix3 0 ⟨(x1 (ix2 t k)).toNat % 16384, Nat.mod_lt _ (by decide)⟩ d) := by
  rw [val_main_v8_apply]
  refine Finset.sum_congr rfl fun d _ => ?_
  rw [show lidx_main_v8 (ix2 t k) d = ix3 t k d from Cert.Kit.ix3_ext rfl rfl rfl, show ridx_main_v8 (ix2 t k) d = ix2 t d from Cert.Kit.ix2_ext rfl rfl, mul_comm]
  congr 1
  have hn := hE (ix2 t k)
  unfold val_main_v7
  refine (gather_apply _ _ t k d _ (Nat.mod_lt (x1 (ix2 t k)).toNat (by decide : 0 < 16384)) ?_).trans ?_
  · rw [val_main_v6_apply, show idx_main_v6 (ix3 t k 0) = ix2 t k from Cert.Kit.ix2_ext rfl rfl, v5_apply x1 hE,
      BitVec.toInt_eq_toNat_of_lt (by omega), Nat.mod_eq_of_lt hn]
  · unfold val_main_v0
    refine shapeCast_apply (s := S1x16384x1024) (t := S16384x1024) _ _ _ _ ?_
    rewrite [Shape.rowMajor_val_two, Shape.rowMajor_val_three]
    show (0 * 16384 + (x1 (ix2 t k)).toNat % 16384) * 1024 + d.val = (x1 (ix2 t k)).toNat % 16384 * 1024 + d.val
    omega

theorem v10_apply (t : Fin 16384) (k : Fin 128) :
    val_main_v10 (F := Ideal) x1 (ix2 t k) = if (x1 (ix2 t k)).toNat / 8192 = 0 then 1#1 else 0#1 := by
  have hn := hE (ix2 t k)
  show BitVec.ofBool (BitVec.slt (x1 (ix2 t k)) 8192#32) = _
  have h2 : BitVec.slt (x1 (ix2 t k)) 8192#32 = decide ((x1 (ix2 t k)).toNat / 8192 = 0) := by
    rw [BitVec.slt, BitVec.toInt_eq_toNat_of_lt (by omega)]
    refine decide_eq_decide.mpr ?_
    have : (8192#32 : BitVec 32).toInt = 8192 := by decide
    omega
  rw [h2]
  by_cases h : (x1 (ix2 t k)).toNat / 8192 = 0 <;> simp [h]

theorem v15_eq : val_main_v15 (F := Ideal) x0 x1 x2 = spec x0 x1 x2 := by
  refine funext fun (j : S2x16384x128.Idx) => ?_
  obtain ⟨e, t, k, rfl⟩ : ∃ (e : Fin 2) (t : Fin 16384) (k : Fin 128), j = ix3 e t k := ⟨j 0, j 1, j 2, Cert.Kit.ix3_ext rfl rfl rfl⟩
  have hn := hE (ix2 t k)
  have z : Ideal.ofBits .f32 0x00000000#32 = 0 := Ideal.ofBits_zero_f32
  unfold val_main_v15
  match e with
  | ⟨0, _⟩ =>
    refine (concatenate_pair_apply_left (t := S2x16384x128) (s₁ := S1x16384x128) (s₂ := S1x16384x128) 0 (val_main_v13 x0 x1 x2) (val_main_v14 x0 x1 x2) _ (ix3 0 t k) rfl (ix3 0 t k)
      (fun a => match a with | ⟨0, _⟩ => rfl | ⟨1, _⟩ => rfl | ⟨2, _⟩ => rfl)).trans ?_
    rw [val_main_v13_apply, show idx_main_v13 (ix3 0 t k) = ix2 t k from Cert.Kit.ix2_ext rfl rfl, val_main_v11_apply, v10_apply x1 hE, v8_apply x0 x1 x2 hE]
    show _ = if (x1 (ix2 t k)).toNat / 8192 = 0 then _ else _
    by_cases h : (x1 (ix2 t k)).toNat / 8192 = 0
    · rw [if_pos h, if_pos h]; rfl
    · rw [if_neg h, if_neg h]; exact z
  | ⟨1, _⟩ =>
    refine (concatenate_pair_apply_right (t := S2x16384x128) (s₁ := S1x16384x128) (s₂ := S1x16384x128) 0 (val_main_v13 x0 x1 x2) (val_main_v14 x0 x1 x2) _ (ix3 1 t k) rfl rfl (ix3 0 t k)
      (fun a => match a with | ⟨0, _⟩ => fun h => absurd rfl h | ⟨1, _⟩ => fun _ => rfl | ⟨2, _⟩ => fun _ => rfl) (by rfl)).trans ?_
    rw [val_main_v14_apply, show idx_main_v14 (ix3 0 t k) = ix2 t k from Cert.Kit.ix2_ext rfl rfl, val_main_v12_apply, v10_apply x1 hE, v8_apply x0 x1 x2 hE]
    show _ = if (x1 (ix2 t k)).toNat / 8192 = 1 then _ else _
    by_cases h : (x1 (ix2 t k)).toNat / 8192 = 0
    · rw [if_pos h, if_neg (by omega)]; exact z
    · rw [if_neg h, if_pos (by omega)]; rfl

end Cert.ScoresRefIdeal.Hand

namespace Cert.Proof

theorem scores_reference_frame : Cert.quiescent_ScoresRefIdeal := fun m ρ _ =>
  (θ_run Cert.ScoresRefIdeal.defs _ _).mono
    (fun r h => ⟨fun c => (h c).2, Idealize.ShloMosaic.sem_eq_zero_of_no_sems (by decide) r.2⟩)
    (Cert.ScoresRefIdeal.Value.run (F := Ideal) m ρ)

theorem scores_algebraic [Cert.Pre_experts_in_range.Facts] : Cert.algebraic_ScoresIdeal_ScoresRefIdeal_pre_experts_in_range := by
  intro m ρ m' ρ' hpre hagree
  have hE : ∀ c j, (Cert.ScoresIdeal.Hand.M1 m c j).toNat < 16384 := fun c => Cert.ScoresIdeal.Hand.experts_lt _ _ _ (hpre c)
  refine ⟨fun c => Cert.PeerScores.spec (Cert.ScoresIdeal.Hand.M0 m c) (Cert.ScoresIdeal.Hand.M1 m c) (Cert.ScoresIdeal.Hand.M2 m c), ?_, ?_⟩
  · exact (θ_run Cert.ScoresIdeal.defs _ _).mono (fun _ h c => ⟨(h c).1.trans (Cert.ScoresIdeal.Hand.final_eq m c (hE c)), (h c).2⟩)
      (Cert.ScoresIdeal.Value.run_blocks (F := Ideal) m ρ)
  · refine (θ_run Cert.ScoresRefIdeal.defs _ _).mono (fun _ h c => ⟨?_, (h c).2⟩) (Cert.ScoresRefIdeal.Value.run (F := Ideal) m' ρ')
    refine ((h c).1.trans (Cert.ScoresRefIdeal.Read.val_main_v15_eq _ _ _)).trans ?_
    rw [(hagree c).1, (hagree c).2.1, (hagree c).2.2]
    exact Cert.ScoresRefIdeal.Hand.v15_eq _ _ _ (hE c)

end Cert.Proof

end
-- ==== Proof.ValuesRun.lean ====
module

public import proofs.«01_k».proof.Proof.Gen.ValuesIdeal.Frame
public import proofs.«01_k».proof.Proof.Gen.ValuesIdeal.Skeleton
public import Idealize.ShloMosaic.Lib.Exec
public import Idealize.ShloMosaic.Lib.Tactic
public import Idealize.ShloMosaic.Lib.WholeRead
public import Idealize.ShloMosaic.Lib.WritesUnit
public import Idealize.ShloMosaic.Lib.VecWindow
public import Idealize.ShloMosaic.Lib.Pipeline.FrameBody
public import Idealize.ShloMosaic.Lib.WordCmp

/-! The weighted value sum (`peer_values`): what one run of the body does, from the contents of its buffers. -/

@[expose] public section

set_option maxRecDepth 16384

noncomputable section

namespace Cert.ValuesIdeal.Hand

open Cert.ValuesIdeal Cert.ValuesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the body computes -/

/-- Row `t` of a block of 512 tokens. -/
def rowAt (X : Vec F S512x128 .f32) (t : Fin k0_t1_loop.trips) : Vec F S1x128 .f32 :=
  fun y => X ((Rect.unit (s := S512x128) (k0_off1 t) S1x128.size (by rw [k0_off1_eq]; have := k0_t1_abs.2.1; have := t.isLt; intro a; fin_cases a <;> simp <;> omega)).toLoadRect.idx y)

/-- The table of token `t`: at (p, q) the weight of every choice whose group is p and lane is q, summed. -/
def gateTile (a b w : Vec F S512x128 .f32) (t : Fin k0_t1_loop.trips) : FVec F S128x128 .f32 :=
  k0_pay4 (rowAt a t) (rowAt b t) (rowAt w t)

/-- The tables of all tokens are in the big buffer, token `t` at rows 136·t onwards. -/
def Tabled (a b w : Vec F S512x128 .f32) (D : Vec F S69632x128 .f32) : Prop :=
  ∀ (t : Fin k0_t1_loop.trips) (h : ∀ a, (k0_off2 t) a + S128x128.size a ≤ S69632x128.size a) (y : S128x128.Idx),
    D ((Rect.unit (s := S69632x128) (k0_off2 t) S128x128.size h).emb y) = gateTile a b w t y

/-- One table row of every token: row `16·e + r`, at step `e`. -/
def stripe (i : grid0.Coords) (D : Vec F S69632x128 .f32) (r : Fin 16) : Vec F S512x128 .f32 :=
  fun x => D ((⟨k0_off3 i (BitVec.ofNat 32 r.val), S512x128.size, ![136, 1], k0_off3_inb i r⟩ : LoadRect S69632x128).idx x)

/-- The sum one step adds to. -/
def accStep (i : grid0.Coords) (D : Vec F S69632x128 .f32) (v : Vec F S2048x1024 .bf16) (A : Vec F S512x1024 .f32) :
    FVec F S512x1024 .f32 :=
  k0_pay1 (k0_pay14 (k0_pay6 (stripe i D 0)) (k0_pay7 (stripe i D 1)) (k0_pay8 (stripe i D 2)) (k0_pay9 (stripe i D 3))
    (k0_pay10 (stripe i D 4)) (k0_pay11 (stripe i D 5)) (k0_pay12 (stripe i D 6)) (k0_pay13 (stripe i D 7))
    (stripe i D 8) (stripe i D 9) (stripe i D 10) (stripe i D 11) (stripe i D 12) (stripe i D 13) (stripe i D 14)
    (stripe i D 15) A v)

/-- The sum a step leaves, from the sixteen rows it reads off the big buffer. -/
theorem stepRead (i : grid0.Coords) (arg13 : Memref sig .tc .vmem S69632x128 .f32) (f : BufTy.Contents (Elt F) arg13.view.ty)
    {D : Vec F S69632x128 .f32} {v LV : Vec F S2048x1024 .bf16} {A LA : Vec F S512x1024 .f32}
    (hD : arg13.view.read (Elt F) f = D) (hA : LA = A) (hV : LV = v) :
    k0_pay1 (k0_pay14 (k0_pay6 (arg13.view.readAt (Elt F) (⟨k0_off3 i 0#32, S512x128.size, ![136, 1], k0_off3_inb i 0⟩ : LoadRect S69632x128) f)) (k0_pay7 (arg13.view.readAt (Elt F) (⟨k0_off3 i 1#32, S512x128.size, ![136, 1], k0_off3_inb i 1⟩ : LoadRect S69632x128) f)) (k0_pay8 (arg13.view.readAt (Elt F) (⟨k0_off3 i 2#32, S512x128.size, ![136, 1], k0_off3_inb i 2⟩ : LoadRect S69632x128) f)) (k0_pay9 (arg13.view.readAt (Elt F) (⟨k0_off3 i 3#32, S512x128.size, ![136, 1], k0_off3_inb i 3⟩ : LoadRect S69632x128) f)) (k0_pay10 (arg13.view.readAt (Elt F) (⟨k0_off3 i 4#32, S512x128.size, ![136, 1], k0_off3_inb i 4⟩ : LoadRect S69632x128) f)) (k0_pay11 (arg13.view.readAt (Elt F) (⟨k0_off3 i 5#32, S512x128.size, ![136, 1], k0_off3_inb i 5⟩ : LoadRect S69632x128) f)) (k0_pay12 (arg13.view.readAt (Elt F) (⟨k0_off3 i 6#32, S512x128.size, ![136, 1], k0_off3_inb i 6⟩ : LoadRect S69632x128) f)) (k0_pay13 (arg13.view.readAt (Elt F) (⟨k0_off3 i 7#32, S512x128.size, ![136, 1], k0_off3_inb i 7⟩ : LoadRect S69632x128) f))
      (arg13.view.readAt (Elt F) (⟨k0_off3 i 8#32, S512x128.size, ![136, 1], k0_off3_inb i 8⟩ : LoadRect S69632x128) f) (arg13.view.readAt (Elt F) (⟨k0_off3 i 9#32, S512x128.size, ![136, 1], k0_off3_inb i 9⟩ : LoadRect S69632x128) f) (arg13.view.readAt (Elt F) (⟨k0_off3 i 10#32, S512x128.size, ![136, 1], k0_off3_inb i 10⟩ : LoadRect S69632x128) f) (arg13.view.readAt (Elt F) (⟨k0_off3 i 11#32, S512x128.size, ![136, 1], k0_off3_inb i 11⟩ : LoadRect S69632x128) f) (arg13.view.readAt (Elt F) (⟨k0_off3 i 12#32, S512x128.size, ![136, 1], k0_off3_inb i 12⟩ : LoadRect S69632x128) f) (arg13.view.readAt (Elt F) (⟨k0_off3 i 13#32, S512x128.size, ![136, 1], k0_off3_inb i 13⟩ : LoadRect S69632x128) f) (arg13.view.readAt (Elt F) (⟨k0_off3 i 14#32, S512x128.size, ![136, 1], k0_off3_inb i 14⟩ : LoadRect S69632x128) f) (arg13.view.readAt (Elt F) (⟨k0_off3 i 15#32, S512x128.size, ![136, 1], k0_off3_inb i 15⟩ : LoadRect S69632x128) f) LA LV)
      = accStep i D v A := by
  subst hD hA hV; rfl

theorem pay2_congr {a a' : Vec F S512x1024 .f32} {b b' : Vec F S1x1x1024 .f32} {d d' : Vec F S512x1024 .f32}
    {g g' h h' : Vec F S1x1024 .f32} (ha : a = a') (hb : b = b') (hd : d = d') (hg : g = g') (hh : h = h') :
    k0_pay2 a b d g h = k0_pay2 a' b' d' g' h' := by subst ha hb hd hg hh; rfl

theorem pay3_congr {a a' : Vec F S2x512x128 .f32} {b b' : Vec F S512x128 .f32} (ha : a = a') (hb : b = b') :
    k0_pay3 a b = k0_pay3 a' b' := by subst ha hb; rfl

theorem pay4_congr {a a' b b' d d' : Vec F S1x128 .f32} (ha : a = a') (hb : b = b') (hd : d = d') :
    k0_pay4 a b d = k0_pay4 a' b' d' := by subst ha hb hd; rfl

/-! ## The loop over the tokens -/

/-- The big buffer before trip `k`, over the tables `P` written into it. -/
@[irreducible] def fillStep (arg13 : Memref sig .tc .vmem S69632x128 .f32) (P : Fin k0_t1_loop.trips → FVec F S128x128 .f32)
    (ok : ∀ t : Fin k0_t1_loop.trips, ∀ a, (k0_off2 t) a + S128x128.size a ≤ S69632x128.size a) (k : ℕ)
    (prev : BufTy.Contents (Elt F) arg13.view.ty) : BufTy.Contents (Elt F) arg13.view.ty :=
  if h : k < k0_t1_loop.trips then
    arg13.view.writes (Elt F) prev [⟨Rect.unit (s := S69632x128) (k0_off2 ⟨k, h⟩) S128x128.size (ok ⟨k, h⟩), P ⟨k, h⟩⟩]
  else prev

def fill (arg13 : Memref sig .tc .vmem S69632x128 .f32) (P : Fin k0_t1_loop.trips → FVec F S128x128 .f32)
    (ok : ∀ t : Fin k0_t1_loop.trips, ∀ a, (k0_off2 t) a + S128x128.size a ≤ S69632x128.size a)
    (G : BufTy.Contents (Elt F) arg13.view.ty) : ℕ → BufTy.Contents (Elt F) arg13.view.ty
  | 0 => G
  | k + 1 => fillStep arg13 P ok k (fill arg13 P ok G k)

theorem fill_succ (arg13 : Memref sig .tc .vmem S69632x128 .f32) (P : Fin k0_t1_loop.trips → FVec F S128x128 .f32)
    (ok : ∀ t : Fin k0_t1_loop.trips, ∀ a, (k0_off2 t) a + S128x128.size a ≤ S69632x128.size a)
    (G : BufTy.Contents (Elt F) arg13.view.ty) (k : Fin k0_t1_loop.trips) :
    fill arg13 P ok G (k.val + 1)
      = arg13.view.writes (Elt F) (fill arg13 P ok G k.val) [⟨Rect.unit (s := S69632x128) (k0_off2 k) S128x128.size (ok k), P k⟩] := by
  rw [fill.eq_2]; unfold fillStep; exact dif_pos k.isLt

/-- After `n` trips the buffer holds the tables of the first `n` tokens, each where it was written. -/
theorem fill_read (arg13 : Memref sig .tc .vmem S69632x128 .f32) (P : Fin k0_t1_loop.trips → FVec F S128x128 .f32)
    (ok : ∀ t : Fin k0_t1_loop.trips, ∀ a, (k0_off2 t) a + S128x128.size a ≤ S69632x128.size a)
    (G : BufTy.Contents (Elt F) arg13.view.ty) (t : Fin k0_t1_loop.trips) (y : S128x128.Idx) :
    ∀ n : ℕ, t.val < n → n ≤ k0_t1_loop.trips →
      arg13.view.read (Elt F) (fill arg13 P ok G n)
        ((Rect.unit (s := S69632x128) (k0_off2 t) S128x128.size (ok t)).emb y) = P t y := by
  intro n
  induction n with
  | zero => intro h; exact absurd h (Nat.not_lt_zero _)
  | succ k ih =>
    intro h hn
    rw [fill_succ arg13 P ok G ⟨k, hn⟩]
    by_cases htk : t.val = k
    · have e : (⟨k, hn⟩ : Fin k0_t1_loop.trips) = t := Fin.ext htk.symm
      rw [e]
      exact View.read_writes_cons_unit_of_mem (Val := Elt F) (e := .f32) arg13.view _ (ok t) (P t) [] _ y rfl fun a => by
        show (k0_off2 t) a + 1 * (y a).val = (k0_off2 t) a + (y a).val
        rw [Nat.one_mul]
    · have hlt : t.val < k := by omega
      refine (View.read_writes_cons_rows_of_not_mem (d := S69632x128.size) arg13.view _ (o := 136 * k) (W := 128) _ _ _ _
        (k0_off2_eq ⟨k, hn⟩) rfl (.inl ?_)).trans (ih hlt (Nat.le_of_succ_le hn))
      show (k0_off2 t) 0 + 1 * (y 0).val < 136 * k
      have hy : (y 0).val < 128 := (y 0).isLt
      have e : (k0_off2 t) 0 = 136 * t.val := congrFun (k0_off2_eq t) 0
      omega

/-- The table trip `k` writes, from the contents of the three buffers it reads. -/
def tileOf (i : grid0.Coords) (h1 : k0_cond1 i = 1#1) (arg3 arg4 arg12 : Memref sig .tc .vmem S512x128 .f32)
    (X3 : BufTy.Contents (Elt F) arg3.view.ty) (X4 : BufTy.Contents (Elt F) arg4.view.ty)
    (X12 : BufTy.Contents (Elt F) arg12.view.ty) (k : Fin k0_t1_loop.trips) : FVec F S128x128 .f32 :=
  k0_pay4
    (arg3.view.readAt (Elt F) (Rect.unit (s := S512x128) (k0_off1 k) S1x128.size (k0_off1_inb i k h1)).toLoadRect X3)
    (arg4.view.readAt (Elt F) (Rect.unit (s := S512x128) (k0_off1 k) S1x128.size (k0_off1_inb i k h1)).toLoadRect X4)
    (arg12.view.readAt (Elt F) (Rect.unit (s := S512x128) (k0_off1 k) S1x128.size (k0_off1_inb i k h1)).toLoadRect X12)

variable (c : Dev nD) (E : Set ℕ) (i : grid0.Coords)
  (arg2 : Memref sig .tc .vmem S2x512x128 .f32) (harg2 : arg2.IsWhole)
  (arg3 : Memref sig .tc .vmem S512x128 .f32) (harg3 : arg3.IsWhole)
  (arg4 : Memref sig .tc .vmem S512x128 .f32) (harg4 : arg4.IsWhole)
  (arg5 : Memref sig .tc .vmem S512x128 .f32) (harg5 : arg5.IsWhole)
  (arg6 : Memref sig .tc .vmem S2048x1024 .bf16) (harg6 : arg6.IsWhole)
  (arg7 : Memref sig .tc .vmem S512x1024 .f32) (harg7 : arg7.IsWhole)
  (arg8 : Memref sig .tc .vmem S1x1x1024 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S512x1024 .f32) (harg11 : arg11.IsWhole)
  (arg12 : Memref sig .tc .vmem S512x128 .f32) (harg12 : arg12.IsWhole)
  (arg13 : Memref sig .tc .vmem S69632x128 .f32) (harg13 : arg13.IsWhole)
  (arg14 : Memref sig .tc .vmem S512x1024 .f32) (harg14 : arg14.IsWhole)

set_option warn.classDefReducibility false in
@[sl_loop] def tokenLoop (𝒱 : Variants) (bd : Option 𝒱.V) (h1 : k0_cond1 i = 1#1)
    (X3 : BufTy.Contents (Elt F) arg3.view.ty) (X4 : BufTy.Contents (Elt F) arg4.view.ty)
    (X12 : BufTy.Contents (Elt F) arg12.view.ty) (G : BufTy.Contents (Elt F) arg13.view.ty) :
    Idealize.ShloMosaic.LoopInv (M := 𝕄) Idealize.ShloMosaic.frame (wpE (defs₀ (F := F)) 𝒱 (c : Thread nD τ) bd) E
      k0_t1_loop.lb k0_t1_loop.ub k0_t1_loop.st (k0_t1_ok i h1) ()
      (k0_t1_body (F := F) i arg2 harg2 arg3 harg3 arg4 harg4 arg5 harg5 arg6 harg6 arg7 harg7 arg8 harg8 arg9 harg9 arg10 harg10 arg11 harg11 arg12 harg12 arg13 harg13 arg14 harg14 h1) where
  inv k _ := iprop((arg3.view.loc (c : Thread nD τ) ↦[arg3.view.set]{fullShare} X3)
    ∗ (arg4.view.loc (c : Thread nD τ) ↦[arg4.view.set]{fullShare} X4)
    ∗ (arg12.view.loc (c : Thread nD τ) ↦[arg12.view.set]{fullShare} X12)
    ∗ (∃ f, (arg13.view.loc (c : Thread nD τ) ↦[arg13.view.set]{fullShare} f)
        ∗ ⌜f = fill arg13 (tileOf i h1 arg3 arg4 arg12 X3 X4 X12) (fun t => k0_off2_inb i t h1) G k⌝))
  step k acc := by
    have hk : k.val < 512 := Nat.lt_of_lt_of_le k.isLt k0_t1_abs.2.1
    unfold k0_t1_body
    iintro ⟨H3, H4, H12, ⟨%f, H13, %hf⟩⟩
    subst hf
    sl_exec
    sl_step
    isplitl [H3]; · iexact H3
    isplitl [H4]; · iexact H4
    isplitl [H12]; · iexact H12
    iexists _; isplitl [H13]; · iexact H13
    ipureintro; rw [fill_succ]; rfl

/-! ## The three shapes of a run -/

set_option maxHeartbeats 4000000 in
theorem run_mid (hc0 : ¬k0_cond1 i = 1#1) (hc1 : ¬k0_cond2 i = 1#1)
    (x0 : Vec F S2x512x128 .f32) (x1 : Vec F S512x128 .f32) (x2 : Vec F S512x128 .f32) (x3 : Vec F S512x128 .f32) (x4 : Vec F S2048x1024 .bf16) (x5 : Vec F S512x1024 .f32) (x6 : Vec F S1x1x1024 .f32) (x7 : Vec F S1x1024 .f32) (x8 : Vec F S1x1024 .f32)
    (o : Vec F S512x1024 .f32) (W : Vec F S512x128 .f32) (D : Vec F S69632x128 .f32) (A : Vec F S512x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare o ∗ owns (c : Thread nD τ) arg12 fullShare W ∗ owns (c : Thread nD τ) arg13 fullShare D ∗ owns (c : Thread nD τ) arg14 fullShare A
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare o ∗ owns (c : Thread nD τ) arg12 fullShare W ∗ owns (c : Thread nD τ) arg13 fullShare D ∗ owns (c : Thread nD τ) arg14 fullShare (accStep i D x4 A)) -∗ K ⟨⟩))
    ⊢ wp frame (wpE (defs₀ (F := F)) Variants.none c none) E (cc0_peer_values i arg2 harg2 arg3 harg3 arg4 harg4 arg5 harg5 arg6 harg6 arg7 harg7 arg8 harg8 arg9 harg9 arg10 harg10 arg11 harg11 arg12 harg12 arg13 harg13 arg14 harg14) K := by
  simp only [cc0_peer_values_eq_skeleton]; unfold cc0_peer_values_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hs0, HS0⟩, ⟨%fs1, %hs1, HS1⟩, ⟨%fs2, %hs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hs0; obtain rfl := harg13.eq_unread hs1; obtain rfl := harg14.eq_unread hs2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [HS0]
  · iexists _; isplitr; · ipureintro; exact harg12.read_unread _
    iexact HS0
  isplitl [HS1]
  · iexists _; isplitr; · ipureintro; exact harg13.read_unread _
    iexact HS1
  iexists _; isplitr; swap; · iexact HS2
  ipureintro
  exact (View.read_writes_full _ _ _ _ _).trans (stepRead i arg13 (harg13.unread D) (harg13.read_unread D)
    ((View.readAt_full _ _ _).trans (harg14.read_unread A)) ((View.readAt_full _ _ _).trans (harg6.read_unread x4)))

set_option maxHeartbeats 4000000 in
theorem run_last (hc0 : ¬k0_cond1 i = 1#1) (hc1 : k0_cond2 i = 1#1)
    (x0 : Vec F S2x512x128 .f32) (x1 : Vec F S512x128 .f32) (x2 : Vec F S512x128 .f32) (x3 : Vec F S512x128 .f32) (x4 : Vec F S2048x1024 .bf16) (x5 : Vec F S512x1024 .f32) (x6 : Vec F S1x1x1024 .f32) (x7 : Vec F S1x1024 .f32) (x8 : Vec F S1x1024 .f32)
    (W : Vec F S512x128 .f32) (D : Vec F S69632x128 .f32) (A : Vec F S512x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ o, owns (c : Thread nD τ) arg11 fullShare o) ∗ owns (c : Thread nD τ) arg12 fullShare W ∗ owns (c : Thread nD τ) arg13 fullShare D ∗ owns (c : Thread nD τ) arg14 fullShare A
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay2 x5 x6 (accStep i D x4 A) x7 x8) ∗ owns (c : Thread nD τ) arg12 fullShare W ∗ owns (c : Thread nD τ) arg13 fullShare D ∗ owns (c : Thread nD τ) arg14 fullShare (accStep i D x4 A)) -∗ K ⟨⟩))
    ⊢ wp frame (wpE (defs₀ (F := F)) Variants.none c none) E (cc0_peer_values i arg2 harg2 arg3 harg3 arg4 harg4 arg5 harg5 arg6 harg6 arg7 harg7 arg8 harg8 arg9 harg9 arg10 harg10 arg11 harg11 arg12 harg12 arg13 harg13 arg14 harg14) K := by
  simp only [cc0_peer_values_eq_skeleton]; unfold cc0_peer_values_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%fs0, %hs0, HS0⟩, ⟨%fs1, %hs1, HS1⟩, ⟨%fs2, %hs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hs0; obtain rfl := harg13.eq_unread hs1; obtain rfl := harg14.eq_unread hs2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    exact (View.read_writes_full _ _ _ _ _).trans (pay2_congr
      ((View.readAt_full _ _ _).trans (harg7.read_unread x5)) ((View.readAt_full _ _ _).trans (harg8.read_unread x6))
      ((View.readCov_full _ _ _ _ _).trans (stepRead i arg13 (harg13.unread D) (harg13.read_unread D)
        ((View.readAt_full _ _ _).trans (harg14.read_unread A)) ((View.readAt_full _ _ _).trans (harg6.read_unread x4))))
      ((View.readAt_full _ _ _).trans (harg9.read_unread x7)) ((View.readAt_full _ _ _).trans (harg10.read_unread x8)))
  isplitl [HS0]
  · iexists _; isplitr; · ipureintro; exact harg12.read_unread _
    iexact HS0
  isplitl [HS1]
  · iexists _; isplitr; · ipureintro; exact harg13.read_unread _
    iexact HS1
  iexists _; isplitr; swap; · iexact HS2
  ipureintro
  exact (View.read_writes_full _ _ _ _ _).trans (stepRead i arg13 (harg13.unread D) (harg13.read_unread D)
    ((View.readAt_full _ _ _).trans (harg14.read_unread A)) ((View.readAt_full _ _ _).trans (harg6.read_unread x4)))

set_option maxHeartbeats 8000000 in
theorem run_first (hc0 : k0_cond1 i = 1#1) (hc1 : ¬k0_cond2 i = 1#1)
    (x0 : Vec F S2x512x128 .f32) (x1 : Vec F S512x128 .f32) (x2 : Vec F S512x128 .f32) (x3 : Vec F S512x128 .f32) (x4 : Vec F S2048x1024 .bf16) (x5 : Vec F S512x1024 .f32) (x6 : Vec F S1x1x1024 .f32) (x7 : Vec F S1x1024 .f32) (x8 : Vec F S1x1024 .f32)
    (o : Vec F S512x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare o ∗ (∃ W, owns (c : Thread nD τ) arg12 fullShare W) ∗ (∃ D, owns (c : Thread nD τ) arg13 fullShare D) ∗ (∃ A, owns (c : Thread nD τ) arg14 fullShare A)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare o ∗ (∃ W, owns (c : Thread nD τ) arg12 fullShare W)
          ∗ (∃ D, owns (c : Thread nD τ) arg13 fullShare D ∗ owns (c : Thread nD τ) arg14 fullShare (accStep i D x4 k0_pay5) ∗ ⌜Tabled x1 x2 (k0_pay3 x0 x3) D⌝)) -∗ K ⟨⟩))
    ⊢ wp frame (wpE (defs₀ (F := F)) Variants.none c none) E (cc0_peer_values i arg2 harg2 arg3 harg3 arg4 harg4 arg5 harg5 arg6 harg6 arg7 harg7 arg8 harg8 arg9 harg9 arg10 harg10 arg11 harg11 arg12 harg12 arg13 harg13 arg14 harg14) K := by
  simp only [cc0_peer_values_eq_skeleton]; unfold cc0_peer_values_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [HS0]
  · iexists _, _; isplitr; swap; · iexact HS0
    ipureintro; rfl
  iexists _
  isplitl [HS1]
  · iexists _; isplitr; swap; · iexact HS1
    ipureintro; rfl
  isplitl [HS2]
  · iexists _; isplitr; swap; · iexact HS2
    ipureintro
    exact (View.read_writes_full _ _ _ _ _).trans (stepRead i arg13 _ rfl (View.readCov_full _ _ _ _ _)
      ((View.readAt_full _ _ _).trans (harg6.read_unread x4)))
  ipureintro
  intro t h y
  refine (fill_read arg13 _ _ _ t y _ t.isLt (Nat.le_refl _)).trans ?_
  unfold tileOf gateTile
  refine congrFun (pay4_congr (F := F) ?_ ?_ ?_) y
  · funext z; exact harg3.readAt_unread x1 _ z
  · funext z; exact harg4.readAt_unread x2 _ z
  · funext z
    exact congrFun ((View.read_writes_full arg12.view arg12.view.junk inb_S512x128_S512x128_0_0 _ _).trans
      (pay3_congr ((View.readAt_full _ _ _).trans (harg2.read_unread x0))
        ((View.readAt_full _ _ _).trans (harg5.read_unread x3)))) _

end Cert.ValuesIdeal.Hand

end
-- ==== Proof.ValuesFrame.lean ====
module

public import proofs.«01_k».proof.Proof.ValuesRun
public import proofs.«01_k».proof.Proof.Gen.ValuesIdeal.Points
public import proofs.«01_k».proof.Proof.Gen.ValuesIdeal.Launch
public import Idealize.ShloMosaic.Lib.Pipeline.FrameBody
public import Idealize.ShloMosaic.Lib.Claim

/-! The weighted value sum: the whole grid. A block of 512 tokens takes eight points; the first fills the big buffer
with the tokens' tables, every point adds 2048 experts' rows, the last normalises and stores. -/

@[expose] public section

set_option maxRecDepth 16384

noncomputable section

namespace Cert.ValuesIdeal.Hand

open Cert.ValuesIdeal Cert.ValuesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The big buffer, every entry named -/

/-- The tables of all tokens, laid out as the buffer lays them out (the rows between two tables, which no point reads,
named by a row of the table before them). -/
def tabOf (a b w : Vec F S512x128 .f32) : Vec F S69632x128 .f32 := fun z =>
  gateTile a b w ⟨(z 0).val / 136, by have h : (z 0).val < 69632 := (z 0).isLt; have e : k0_t1_loop.trips = 512 := rfl; omega⟩
    (fun ax => match ax with
      | ⟨0, _⟩ => ⟨(z 0).val % 136 % 128, Nat.mod_lt _ (by decide)⟩
      | ⟨1, _⟩ => z 1)

/-- The rows a point reads are rows of tables, so they are what `tabOf` names. -/
theorem accStep_eq {a b w : Vec F S512x128 .f32} {D : Vec F S69632x128 .f32} (hD : Tabled a b w D) (i : grid0.Coords)
    (v : Vec F S2048x1024 .bf16) (A : Vec F S512x1024 .f32) :
    accStep i D v A = accStep i (tabOf a b w) v A := by
  have hs : ∀ r : Fin 16, stripe i D r = stripe i (tabOf a b w) r := by
    intro r
    funext x
    have hx : (x 0).val < 512 := (x 0).isLt
    have hi : (i 1).val < 8 := (i 1).isLt
    have hr : r.val < 16 := r.isLt
    let t : Fin k0_t1_loop.trips := ⟨(x 0).val, hx⟩
    have hok : ∀ ax, (k0_off2 t) ax + S128x128.size ax ≤ S69632x128.size ax := by
      rw [k0_off2_eq]; intro ax
      have : t.val < 512 := hx
      fin_cases ax <;> simp <;> omega
    let y : S128x128.Idx := fun ax => match ax with
      | ⟨0, _⟩ => ⟨16 * (i 1).val + r.val, by show _ < 128; omega⟩
      | ⟨1, _⟩ => x 1
    have h0 : (k0_off3 i (BitVec.ofNat 32 r.val)) 0 = 16 * (i 1).val + r.val := congrFun (k0_off3_eq i r) 0
    have h1 : (k0_off3 i (BitVec.ofNat 32 r.val)) 1 = 0 := congrFun (k0_off3_eq i r) 1
    have g0 : (k0_off2 t) 0 = 136 * (x 0).val := congrFun (k0_off2_eq t) 0
    have g1 : (k0_off2 t) 1 = 0 := congrFun (k0_off2_eq t) 1
    unfold stripe
    have e0 : (((⟨k0_off3 i (BitVec.ofNat 32 r.val), S512x128.size, ![136, 1], k0_off3_inb i r⟩ : LoadRect S69632x128).idx x) 0).val
        = 136 * (x 0).val + (16 * (i 1).val + r.val) := by
      show (k0_off3 i (BitVec.ofNat 32 r.val)) 0 + 136 * (x 0).val = _
      omega
    have e1 : (((⟨k0_off3 i (BitVec.ofNat 32 r.val), S512x128.size, ![136, 1], k0_off3_inb i r⟩ : LoadRect S69632x128).idx x) 1).val
        = (x 1).val := by
      show (k0_off3 i (BitVec.ofNat 32 r.val)) 1 + 1 * (x 1).val = _
      omega
    generalize ((⟨k0_off3 i (BitVec.ofNat 32 r.val), S512x128.size, ![136, 1], k0_off3_inb i r⟩ : LoadRect S69632x128).idx x) = z at e0 e1
    have ez : z = (Rect.unit (s := S69632x128) (k0_off2 t) S128x128.size hok).emb y := by
      funext ax
      apply Fin.ext
      fin_cases ax
      · show (z 0).val = (k0_off2 t) 0 + 1 * (16 * (i 1).val + r.val)
        omega
      · show (z 1).val = (k0_off2 t) 1 + 1 * (x 1).val
        omega
    have et : tabOf a b w z = gateTile a b w t y := by
      unfold tabOf
      congr 1
      · apply Fin.ext; show (z 0).val / 136 = (x 0).val; omega
      · funext ax
        apply Fin.ext
        fin_cases ax
        · show (z 0).val % 136 % 128 = 16 * (i 1).val + r.val
          have h136 : (z 0).val % 136 = 16 * (i 1).val + r.val := by omega
          rw [h136]; exact Nat.mod_eq_of_lt (by omega)
        · show (z 1).val = (x 1).val; exact e1
    rw [et, ez]
    exact hD t hok y
  unfold accStep
  simp only [hs]

/-! ## What the buffers hold, point by point -/

abbrev b0 (c : Dev nD) (t : Fin cfg0.N) : Vec F S2x512x128 .f32 := iblk m c 0 t
abbrev b1 (c : Dev nD) (t : Fin cfg0.N) : Vec F S512x128 .f32 := iblk m c 1 t
abbrev b2 (c : Dev nD) (t : Fin cfg0.N) : Vec F S512x128 .f32 := iblk m c 2 t
abbrev b3 (c : Dev nD) (t : Fin cfg0.N) : Vec F S512x128 .f32 := iblk m c 3 t
abbrev b4 (c : Dev nD) (t : Fin cfg0.N) : Vec F S2048x1024 .bf16 := iblk m c 4 t
abbrev b5 (c : Dev nD) (t : Fin cfg0.N) : Vec F S512x1024 .f32 := iblk m c 5 t
abbrev b6 (c : Dev nD) (t : Fin cfg0.N) : Vec F S1x1x1024 .f32 := iblk m c 6 t
abbrev b7 (c : Dev nD) (t : Fin cfg0.N) : Vec F S1x1024 .f32 := iblk m c 7 t
abbrev b8 (c : Dev nD) (t : Fin cfg0.N) : Vec F S1x1024 .f32 := iblk m c 8 t

/-- The first of the eight points of `t`'s block of tokens. -/
def t0 (t : Fin cfg0.N) : Fin cfg0.N := ⟨t.val - t.val % 8, Nat.lt_of_le_of_lt (Nat.sub_le _ _) t.isLt⟩

/-- The tables at point `t`, -/
def tabAt (c : Dev nD) (t : Fin cfg0.N) : Vec F S69632x128 .f32 :=
  tabOf (b1 m c (t0 t)) (b2 m c (t0 t)) (k0_pay3 (b0 m c (t0 t)) (b3 m c (t0 t)))

/-- and the sum after it. -/
def accAt (c : Dev nD) : (n : ℕ) → n < cfg0.N → FVec F S512x1024 .f32
  | 0, h => accStep (grid0.coords ⟨0, h⟩) (tabAt m c ⟨0, h⟩) (b4 m c ⟨0, h⟩) k0_pay5
  | n + 1, h => accStep (grid0.coords ⟨n + 1, h⟩) (tabAt m c ⟨n + 1, h⟩) (b4 m c ⟨n + 1, h⟩)
      (if (n + 1) % 8 = 0 then k0_pay5 else accAt c n (Nat.lt_of_succ_lt h))

theorem accAt_first (c : Dev nD) (t : Fin cfg0.N) (h0 : t.val % 8 = 0) :
    accAt m c t.val t.isLt = accStep (grid0.coords t) (tabAt m c t) (b4 m c t) k0_pay5 := by
  obtain ⟨n, hn⟩ := t
  cases n with
  | zero => rfl
  | succ n => unfold accAt; rw [if_pos h0]

theorem accAt_next (c : Dev nD) (t : Fin cfg0.N) (h0 : t.val % 8 ≠ 0) :
    accAt m c t.val t.isLt = accStep (grid0.coords t) (tabAt m c t) (b4 m c t)
      (accAt m c (t.val - 1) (Nat.lt_of_le_of_lt (Nat.sub_le _ _) t.isLt)) := by
  obtain ⟨n, hn⟩ := t
  cases n with
  | zero => exact absurd (Nat.zero_mod 8) h0
  | succ n =>
    conv_lhs => unfold accAt
    rw [if_neg h0]; rfl

/-- What the two carried buffers hold after point `t`. -/
def Held (c : Dev nD) (t : Fin cfg0.N) (D : Vec F S69632x128 .f32) (A : Vec F S512x1024 .f32) : Prop :=
  Tabled (b1 m c (t0 t)) (b2 m c (t0 t)) (k0_pay3 (b0 m c (t0 t)) (b3 m c (t0 t))) D ∧ A = accAt m c t.val t.isLt

theorem held_first (c : Dev nD) (t : Fin cfg0.N) (h0 : t.val % 8 = 0) {D : Vec F S69632x128 .f32}
    (h : Tabled (b1 m c t) (b2 m c t) (k0_pay3 (b0 m c t) (b3 m c t)) D) :
    Held m c t D (accStep (grid0.coords t) D (b4 m c t) k0_pay5) := by
  have e : t0 t = t := Fin.ext (by show t.val - t.val % 8 = t.val; omega)
  unfold Held
  rw [e]
  refine ⟨h, ?_⟩
  rw [accAt_first m c t h0, accStep_eq h]
  unfold tabAt
  rw [e]

theorem held_next (c : Dev nD) (t p : Fin cfg0.N) (h0 : t.val % 8 ≠ 0) (hp : p.val = t.val - 1)
    {D : Vec F S69632x128 .f32} {A : Vec F S512x1024 .f32} (h : Held m c p D A) :
    Held m c t D (accStep (grid0.coords t) D (b4 m c t) A) := by
  have e : t0 p = t0 t := Fin.ext (by show p.val - p.val % 8 = t.val - t.val % 8; omega)
  unfold Held at h ⊢
  rw [e] at h
  refine ⟨h.1, ?_⟩
  rw [accAt_next m c t h0, accStep_eq h.1, h.2]
  have e2 : ∀ (a b : ℕ) (ha : a < cfg0.N) (hb : b < cfg0.N), a = b → accAt m c a ha = accAt m c b hb := by
    intro a b ha hb hab; subst hab; rfl
  rw [e2 _ _ p.isLt (Nat.lt_of_le_of_lt (Nat.sub_le _ _) t.isLt) hp]
  rfl

/-! ## The conditions of the body over the points -/

theorem hc0 : ∀ t : Fin cfg0.N, k0_cond1 (grid0.coords t) = 1#1 ↔ t.val % 8 = 0 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [k0_cond1, e0, e1]
    word_cmp
   : ∀ t : Fin grid0.N, k0_cond1 (grid0.coords t) = 1#1 ↔ t.val % 8 = 0)

theorem hc1 : ∀ t : Fin cfg0.N, k0_cond2 (grid0.coords t) = 1#1 ↔ t.val % 8 = 7 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [k0_cond2, e0, e1]
    word_cmp
   : ∀ t : Fin grid0.N, k0_cond2 (grid0.coords t) = 1#1 ↔ t.val % 8 = 7)

/-- The inputs' windows are live at every point; -/
theorem live (w : Fin cfg0.W) (hw : w ≠ 9) (t : Fin cfg0.N) : cfg0.idle w (grid0.coords t) = false := by
  fin_cases w <;> first | rfl | exact absurd rfl hw

/-- the output's is idle, and not written back, at every point but a block's last. -/
theorem idle9 : ∀ t : Fin cfg0.N, ¬k0_cond2 (grid0.coords t) = 1#1 → cfg0.idle 9 (grid0.coords t) = true := by decide +kernel
theorem noFlush9 : ∀ t : Fin cfg0.N, ¬k0_cond2 (grid0.coords t) = 1#1 → (cfg0.win 9).flush t = false := by decide +kernel
theorem live9 : ∀ t : Fin cfg0.N, k0_cond2 (grid0.coords t) = 1#1 → cfg0.idle 9 (grid0.coords t) = false := by decide +kernel

/-! ## The proof data -/

abbrev ms0_0 (t : Fin cfg0.N) : Memref sig .tc .vmem S2x512x128 .f32 := win0_0.stage (cfg0.slots t 0)
abbrev ms0_1 (t : Fin cfg0.N) : Memref sig .tc .vmem S512x128 .f32 := win0_1.stage (cfg0.slots t 1)
abbrev ms0_2 (t : Fin cfg0.N) : Memref sig .tc .vmem S512x128 .f32 := win0_2.stage (cfg0.slots t 2)
abbrev ms0_3 (t : Fin cfg0.N) : Memref sig .tc .vmem S512x128 .f32 := win0_3.stage (cfg0.slots t 3)
abbrev ms0_4 (t : Fin cfg0.N) : Memref sig .tc .vmem S2048x1024 .bf16 := win0_4.stage (cfg0.slots t 4)
abbrev ms0_5 (t : Fin cfg0.N) : Memref sig .tc .vmem S512x1024 .f32 := win0_5.stage (cfg0.slots t 5)
abbrev ms0_6 (t : Fin cfg0.N) : Memref sig .tc .vmem S1x1x1024 .f32 := win0_6.stage (cfg0.slots t 6)
abbrev ms0_7 (t : Fin cfg0.N) : Memref sig .tc .vmem S1x1024 .f32 := win0_7.stage (cfg0.slots t 7)
abbrev ms0_8 (t : Fin cfg0.N) : Memref sig .tc .vmem S1x1024 .f32 := win0_8.stage (cfg0.slots t 8)
abbrev ms0_9 (t : Fin cfg0.N) : Memref sig .tc .vmem S512x1024 .f32 := win0_9.stage (cfg0.slots t 9)
abbrev scM0_0 : Memref sig .tc .vmem S512x128 .f32 := Memref.whole cc0_scratch0
abbrev scM0_1 : Memref sig .tc .vmem S69632x128 .f32 := Memref.whole cc0_scratch1
abbrev scM0_2 : Memref sig .tc .vmem S512x1024 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- Before position `n`: the three scratch buffers, the carried ones as the point before left them unless a block of
tokens starts here. -/
def PhiS (c : Dev nD) (n : ℕ) : sProp 𝕄 :=
  iprop(∃ W D A, owns (c : Thread nD τ) scM0_0 fullShare W ∗ owns (c : Thread nD τ) scM0_1 fullShare D
    ∗ owns (c : Thread nD τ) scM0_2 fullShare A ∗ (∃ r, prngReg c r)
    ∗ ⌜n % 8 ≠ 0 → ∀ p : Fin cfg0.N, p.val = n - 1 → Held m c p D A⌝)

/-- What the last point of a block stores. -/
def outAt (c : Dev nD) (t : Fin cfg0.N) : Vec F S512x1024 .f32 :=
  k0_pay2 (b5 m c t) (b6 m c t) (accAt m c t.val t.isLt) (b7 m c t) (b8 m c t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := rfl
theorem Phi_succ (c : Dev nD) (t : Fin cfg0.N) : (dats m 0 c).Φ t.succ = PhiS m c (t.val + 1) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

theorem leaves (c : Dev nD) (w : Fin cfg0.W) (t : Fin cfg0.N) (h : cfg0.idle w (grid0.coords t) = false) :
    (dats m 0 c).leavesExact w t
      = owns (c : Thread nD τ) ((cfg0.win w).stage (cfg0.slots t w)) fullShare ((dats m 0 c).after w t) := by
  unfold Dat.leavesExact; rw [h]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl, Phi_succ, Phi_castSucc]
  rw [leaves m c 0 t (live 0 (by decide) t), after0_0, leaves m c 1 t (live 1 (by decide) t), after0_1,
    leaves m c 2 t (live 2 (by decide) t), after0_2, leaves m c 3 t (live 3 (by decide) t), after0_3,
    leaves m c 4 t (live 4 (by decide) t), after0_4, leaves m c 5 t (live 5 (by decide) t), after0_5,
    leaves m c 6 t (live 6 (by decide) t), after0_6, leaves m c 7 t (live 7 (by decide) t), after0_7,
    leaves m c 8 t (live 8 (by decide) t), after0_8]
  have hN : t.val < 256 := lt_of_lt_of_eq t.isLt (show cfg0.N = 256 from N_0)
  unfold PhiS
  by_cases h1 : t.val % 8 = 7
  · have h0 : t.val % 8 ≠ 0 := by omega
    rw [leaves m c 9 t (live9 t ((hc1 t).mpr h1)), after0_9]
    iintro ⟨⟨%W, %D, %A, HS0, HS1, HS2, Hg, %hh⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hheld : Held m c ⟨t.val - 1, by have := t.isLt; omega⟩ D A := hh h0 _ rfl
    have hnew := held_next m c t _ h0 rfl hheld
    iapply (run_last c Set.univ (grid0.coords t) _ _ _ _ _ _ _ _ _ _ _ _ _ _ _ _ _ _ _ _ _ _ _ _ _ _ (fun h => h0 ((hc0 t).mp h)) ((hc1 t).mpr h1) (b0 m c t) (b1 m c t) (b2 m c t) (b3 m c t) (b4 m c t) (b5 m c t) (b6 m c t) (b7 m c t) (b8 m c t) W D A _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · iexists _, _, _
      isplitl [HS0]; · iexact HS0
      isplitl [HS1]; · iexact HS1
      isplitl [HS2]; · iexact HS2
      isplitl [Hg]; · iexact Hg
      ipureintro
      intro _ p hp
      have : p = t := Fin.ext (by rw [hp]; rfl)
      rw [this]; exact hnew
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold outAt
    rw [← hnew.2]
    iexact H9
  · rw [Dat.leavesExact_idle (dats m 0 c) 9 t (idle9 t (fun h => h1 ((hc1 t).mp h))) (noFlush9 t (fun h => h1 ((hc1 t).mp h)))]
    by_cases h0 : t.val % 8 = 0
    · iintro ⟨⟨%W, %D, %A, HS0, HS1, HS2, Hg, %hh⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_first c Set.univ (grid0.coords t) _ _ _ _ _ _ _ _ _ _ _ _ _ _ _ _ _ _ _ _ _ _ _ _ _ _ ((hc0 t).mpr h0) (fun h => h1 ((hc1 t).mp h)) (b0 m c t) (b1 m c t) (b2 m c t) (b3 m c t) (b4 m c t) (b5 m c t) (b6 m c t) (b7 m c t) (b8 m c t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexists _; iexact HS0
      isplitl [HS1]; · iexists _; iexact HS1
      isplitl [HS2]; · iexists _; iexact HS2
      iintro ⟨H0, H1, H2, H3, H4, H5, H6, H7, H8, H9, ⟨%W', HS0⟩, ⟨%D', HS1, HS2, %ht⟩⟩
      isplitl [HS0 HS1 HS2 Hg]
      · iexists _, _, _
        isplitl [HS0]; · iexact HS0
        isplitl [HS1]; · iexact HS1
        isplitl [HS2]; · iexact HS2
        isplitl [Hg]; · iexact Hg
        ipureintro
        intro _ p hp
        have : p = t := Fin.ext (by rw [hp]; rfl)
        rw [this]; exact held_first m c t h0 ht
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    · iintro ⟨⟨%W, %D, %A, HS0, HS1, HS2, Hg, %hh⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      have hheld : Held m c ⟨t.val - 1, by have := t.isLt; omega⟩ D A := hh h0 _ rfl
      have hnew := held_next m c t _ h0 rfl hheld
      iapply (run_mid c Set.univ (grid0.coords t) _ _ _ _ _ _ _ _ _ _ _ _ _ _ _ _ _ _ _ _ _ _ _ _ _ _ (fun h => h0 ((hc0 t).mp h)) (fun h => h1 ((hc1 t).mp h)) (b0 m c t) (b1 m c t) (b2 m c t) (b3 m c t) (b4 m c t) (b5 m c t) (b6 m c t) (b7 m c t) (b8 m c t) _ W D A _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      iintro ⟨H0, H1, H2, H3, H4, H5, H6, H7, H8, H9, HS0, HS1, HS2⟩
      isplitl [HS0 HS1 HS2 Hg]
      · iexists _, _, _
        isplitl [HS0]; · iexact HS0
        isplitl [HS1]; · iexact HS1
        isplitl [HS2]; · iexact HS2
        isplitl [Hg]; · iexact Hg
        ipureintro
        intro _ p hp
        have : p = t := Fin.ext (by rw [hp]; rfl)
        rw [this]; exact hnew
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-! ## The launch -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiA0_eq]
  unfold PhiS
  iintro ⟨⟨⟨%W, HS0⟩, ⟨%D, HS1⟩, ⟨%A, HS2⟩⟩, Hg⟩
  iexists W, D, A
  isplitl [HS0]; · iexact HS0
  isplitl [HS1]; · iexact HS1
  isplitl [HS2]; · iexact HS2
  isplitl [Hg]; · iexact Hg
  ipureintro
  exact fun h => absurd (Nat.zero_mod 8) h

theorem hout (c : Dev nD) : (dats m 0 c).Φ (Fin.last cfg0.N) ⊢ Pipeline.ΦA spec0 c := by
  rw [show (dats m 0 c).Φ (Fin.last cfg0.N) = PhiS m c cfg0.N from rfl, PhiA0_eq]
  unfold PhiS
  iintro ⟨%W, %D, %A, HS0, HS1, HS2, Hg, %hh⟩
  isplitl [HS0 HS1 HS2]
  · isplitl [HS0]
    · iexists _; iexact HS0
    isplitl [HS1]
    · iexists _; iexact HS1
    iexists _; iexact HS2
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The call ends, its arguments are unchanged, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.ValuesIdeal.Hand

end
-- ==== Proof.ValuesBits.lean ====
module

public import proofs.«01_k».proof.Proof.ValuesFrame
public import proofs.«01_k».proof.Proof.Gen.Values

/-! The hardware's program of the weighted value sum is, operation for operation, the one over ideal numbers read at
bits: its frame is that program's. -/

@[expose] public section

set_option maxRecDepth 65536

noncomputable section

namespace Cert.Values.Hand

open Cert.Values Cert.Values.Gen
open Idealize.ShloMosaic Idealize.ShloMosaic.TcCoe Idealize.SL.Sem

variable {F : FTy → Type} [FloatOps F]

theorem main_eq : Cert.Values.main (F := F) = Cert.ValuesIdeal.main (F := F) := rfl

theorem body_eq (i : grid0.Coords) : cc0_peer_values (F := F) i = Cert.ValuesIdeal.cc0_peer_values (F := F) i := rfl

theorem defs₀_eq : Cert.Values.defs₀ (F := F) = Cert.ValuesIdeal.defs₀ (F := F) := by
  unfold Cert.Values.defs₀ Cert.ValuesIdeal.defs₀
  refine congrArg Defs.onTc (funext fun l => funext fun x => ?_)
  match l, x with
  | 0, (t, s) => rfl
  | ⟨_ + 1, h⟩, _ => exact absurd h (Nat.not_lt.2 (Nat.le_add_left _ _))

theorem defs_eq : Cert.Values.defs (F := F) = Cert.ValuesIdeal.defs (F := F) := by
  unfold Cert.Values.defs Cert.ValuesIdeal.defs
  exact congrArg (Pipeline.defs _) defs₀_eq

/-- The call ends, its arguments are unchanged, and every counter is at zero. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  rw [defs_eq]
  exact Cert.ValuesIdeal.Hand.frame m ρ

end Cert.Values.Hand

end
-- ==== Proof.ValuesSum.lean ====
/- `peer_values`: what one step adds, at an index, and the sum over all the table rows as a sum over the choices. -/
module

public import proofs.«01_k».proof.Defs
public import proofs.«01_k».proof.Proof.Kit
public import proofs.«01_k».proof.Proof.ValuesFrame
public import Idealize.ShloMosaic.Lib.IdealHost
public import Idealize.ShloMosaic.Lib.Pipeline.Value

@[expose] public section

set_option maxRecDepth 16384

noncomputable section

open Idealize.ShloMosaic Idealize.ShloMosaic.TcCoe Idealize.SL.Sem Idealize.ShloMosaic.ValueIdx
open Idealize.ShloMosaic.Pipeline (Dat)

namespace Cert.PeerValues

/-- The weight on expert `n`: the gates of the choices of it, summed. -/
def onExpert (E : Fin 128 → ℕ) (w : Fin 128 → EReal) (n : ℕ) : EReal := ∑ k, if E k = n then w k else 0

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over finite gates and finite rows, the weights on all experts times their rows are the gates times the chosen rows. -/
theorem sum_chosen (N : ℕ) (E : Fin 128 → ℕ) (hE : ∀ k, E k < N) (w : Fin 128 → EReal) (v : ℕ → EReal)
    (hw : ∀ k, ∃ r : ℝ, w k = r) (hv : ∀ n, ∃ r : ℝ, v n = r) :
    (∑ n ∈ Finset.range N, onExpert E w n * v n) = ∑ k, w k * v (E k) := by
  choose w' hw' using hw
  choose v' hv' using hv
  have e1 : ∀ n, onExpert E w n * v n = (((∑ k, if E k = n then w' k else 0) * v' n : ℝ) : EReal) := fun n => by
    rw [EReal.coe_mul, coe_sum, hv']
    congr 1
    refine Finset.sum_congr rfl fun k _ => ?_
    rw [hw']; split <;> simp
  have e2 : ∀ k, w k * v (E k) = ((w' k * v' (E k) : ℝ) : EReal) := fun k => by rw [EReal.coe_mul, hw', hv']
  simp only [e1, e2]
  rw [← coe_sum, ← coe_sum]
  congr 1
  simp only [Finset.sum_mul]
  rw [Finset.sum_comm]
  refine Finset.sum_congr rfl fun k _ => ?_
  simp only [ite_mul, zero_mul]
  rw [Finset.sum_ite_eq, if_pos (Finset.mem_range.2 (hE k))]

end Cert.PeerValues

namespace Cert.ValuesIdeal.Hand

open Cert.ValuesIdeal Cert.ValuesIdeal.Gen Cert.PeerValues Cert.Kit

/-! ## A token's table -/

/-- Whether a row is the one a word names. -/
theorem hot_apply (v : Vec Ideal S1x128 .f32) (p k : Fin 128) (n : ℕ) (h : v (ix2 0 k) = ((n : ℝ) : EReal)) :
    cmpf .oeq (sitofp (F := Ideal) .f32 (iota .tc S128x128 32 [0] iota_S128x128_d0_w32)) (broadcastTo S128x128 (shapeCast S1x128 v shapeCasts_S1x128_S1x128) broadcasts_S1x128_S128x128) (ix2 p k)
      = if n = p.val then 1#1 else 0#1 := by
  show Ideal.cmp .oeq (((iota .tc S128x128 32 [0] iota_S128x128_d0_w32 (ix2 p k)).toInt : ℝ) : EReal) (broadcastTo S128x128 (shapeCast S1x128 v shapeCasts_S1x128_S1x128) broadcasts_S1x128_S128x128 (ix2 p k)) = _
  rw [bcRow, castSelf, h, iota_single_apply]
  have hp : (BitVec.ofNat 32 ((ix2 p k : S128x128.Idx) 0).val).toInt = ((p.val : ℕ) : ℤ) := by
    show (BitVec.ofNat 32 p.val).toInt = _
    have := p.isLt
    have e : (BitVec.ofNat 32 p.val).toNat = p.val := by rw [BitVec.toNat_ofNat]; exact Nat.mod_eq_of_lt (by omega)
    rw [BitVec.toInt_eq_toNat_of_lt (by omega), e]
  rw [hp]
  show BitVec.ofBool (decide ((((p.val : ℤ) : ℝ) : EReal) = ((n : ℝ) : EReal))) = _
  by_cases hn : n = p.val
  · rw [if_pos hn, hn]; simp
  · rw [if_neg hn, decide_eq_false]; · rfl
    intro hh
    have h2 := EReal.coe_eq_coe_iff.1 hh
    have h3 : (p.val : ℝ) = (n : ℝ) := by simpa using h2
    exact hn (Nat.cast_injective h3).symm

theorem tile_lhs (j : S128x128.Idx) (q : dot_S128x128_S128x128_S128x128_1_1_0_0_n_n.contr.Idx) :
    (dot_S128x128_S128x128_S128x128_1_1_0_0_n_n.lhsIdx j q 0).val = (j 0).val := by
  unfold DotDims.lhsIdx
  rw [dif_neg (show ¬(0 : Fin S128x128.rank) ∈ dot_S128x128_S128x128_S128x128_1_1_0_0_n_n.lhsBatch by decide), dif_pos (show (0 : Fin S128x128.rank) ∈ dot_S128x128_S128x128_S128x128_1_1_0_0_n_n.lhsNonContracting by decide)]
  rfl

theorem tile_rhs (j : S128x128.Idx) (q : dot_S128x128_S128x128_S128x128_1_1_0_0_n_n.contr.Idx) :
    (dot_S128x128_S128x128_S128x128_1_1_0_0_n_n.rhsIdx j q 0).val = (j 1).val := by
  unfold DotDims.rhsIdx
  rw [dif_neg (show ¬(0 : Fin S128x128.rank) ∈ dot_S128x128_S128x128_S128x128_1_1_0_0_n_n.rhsBatch by decide), dif_pos (show (0 : Fin S128x128.rank) ∈ dot_S128x128_S128x128_S128x128_1_1_0_0_n_n.rhsNonContracting by decide)]
  rfl

theorem pay4_apply (va vb vw : Vec Ideal S1x128 .f32) (E : Fin 128 → ℕ) (ha : ∀ k, va (ix2 0 k) = (((E k / 128 : ℕ) : ℝ) : EReal))
    (hb : ∀ k, vb (ix2 0 k) = (((E k % 128 : ℕ) : ℝ) : EReal)) (p q : Fin 128) :
    k0_pay4 va vb vw (ix2 p q) = onExpert E (fun k => vw (ix2 0 k)) (p.val * 128 + q.val) := by
  unfold k0_pay4 onExpert
  refine (castSelf _ _ _).trans ((matmul_sum _ none 128 rfl rfl _ _ _ (fun k => ix2 p k) (fun k => ix2 q k) ?_ ?_).trans (Finset.sum_congr rfl fun k _ => ?_))
  · intro x k hx
    funext a; apply Fin.ext
    match a with
    | ⟨0, _⟩ => exact tile_lhs _ x
    | ⟨1, _⟩ => exact (DotDims.lhsIdx_val_of_single _ rfl _ x).trans hx
  · intro x k hx
    funext a; apply Fin.ext
    match a with
    | ⟨0, _⟩ => exact tile_rhs _ x
    | ⟨1, _⟩ => exact (DotDims.rhsIdx_val_of_single _ rfl _ x).trans hx
  · have e1 : truncf (F := Ideal) .bf16 (select (cmpf .oeq (sitofp (F := Ideal) .f32 (iota .tc S128x128 32 [0] iota_S128x128_d0_w32)) (broadcastTo S128x128 (shapeCast S1x128 va shapeCasts_S1x128_S1x128) broadcasts_S1x128_S128x128))
        (broadcastTo S128x128 (shapeCast S1x128 vw shapeCasts_S1x128_S1x128) broadcasts_S1x128_S128x128) (broadcast S128x128 (Scalar.ofBits (F := Ideal) .f32 0x00000000#32))) bitsLt_bf16_f32 (ix2 p k)
        = if E k / 128 = p.val then vw (ix2 0 k) else 0 := by
      show (if cmpf .oeq _ _ (ix2 p k) = 1#1 then broadcastTo S128x128 (shapeCast S1x128 vw shapeCasts_S1x128_S1x128) broadcasts_S1x128_S128x128 (ix2 p k) else Ideal.ofBits .f32 0x00000000#32) = _
      rw [hot_apply va p k _ (ha k), bcRow, castSelf, Ideal.ofBits_zero_f32]
      by_cases h : E k / 128 = p.val <;> simp [h]
    have e2 : truncf (F := Ideal) .bf16 (select (cmpf .oeq (sitofp (F := Ideal) .f32 (iota .tc S128x128 32 [0] iota_S128x128_d0_w32)) (broadcastTo S128x128 (shapeCast S1x128 vb shapeCasts_S1x128_S1x128) broadcasts_S1x128_S128x128))
        (broadcast S128x128 (Scalar.ofBits (F := Ideal) .f32 0x3F800000#32)) (broadcast S128x128 (Scalar.ofBits (F := Ideal) .f32 0x00000000#32))) bitsLt_bf16_f32 (ix2 q k)
        = if E k % 128 = q.val then 1 else 0 := by
      show (if cmpf .oeq _ _ (ix2 q k) = 1#1 then Ideal.ofBits .f32 0x3F800000#32 else Ideal.ofBits .f32 0x00000000#32) = _
      rw [hot_apply vb q k _ (hb k), Ideal.ofBits_zero_f32, Ideal.ofBits_one_f32]
      by_cases h : E k % 128 = q.val <;> simp [h]
    refine (congrArg₂ (· * ·) e1 e2).trans ?_
    have hq := q.isLt
    show _ = if E k = p.val * 128 + q.val then vw (ix2 0 k) else 0
    by_cases h1 : E k / 128 = p.val
    · by_cases h2 : E k % 128 = q.val
      · rw [if_pos h1, if_pos h2, if_pos (show E k = p.val * 128 + q.val by omega)]; exact mul_one _
      · rw [if_neg h2, if_neg (show ¬E k = p.val * 128 + q.val by omega)]; exact mul_zero _
    · rw [if_neg h1, if_neg (show ¬E k = p.val * 128 + q.val by omega)]; exact zero_mul _

theorem rowAt_apply (X : Vec Ideal S512x128 .f32) (s : Fin 512) (k : Fin 128) : rowAt X s (ix2 0 k) = X (ix2 s k) := by
  unfold rowAt
  refine congrArg X ?_
  have h0 : (k0_off1 s) 0 = s.val := congrFun (k0_off1_eq s) 0
  have h1 : (k0_off1 s) 1 = 0 := congrFun (k0_off1_eq s) 1
  funext a; apply Fin.ext
  match a with
  | ⟨0, _⟩ => show (k0_off1 s) 0 + 1 * 0 = s.val; omega
  | ⟨1, _⟩ => show (k0_off1 s) 1 + 1 * k.val = k.val; omega

theorem gateTile_apply (a b w : Vec Ideal S512x128 .f32) (s : Fin 512) (E : Fin 128 → ℕ) (ha : ∀ k, a (ix2 s k) = (((E k / 128 : ℕ) : ℝ) : EReal))
    (hb : ∀ k, b (ix2 s k) = (((E k % 128 : ℕ) : ℝ) : EReal)) (p q : Fin 128) :
    gateTile a b w s (ix2 p q) = onExpert E (fun k => w (ix2 s k)) (p.val * 128 + q.val) := by
  unfold gateTile
  refine (pay4_apply _ _ _ E (fun k => (rowAt_apply a s k).trans (ha k)) (fun k => (rowAt_apply b s k).trans (hb k)) p q).trans ?_
  exact congrArg (fun f => onExpert E f _) (funext fun k => rowAt_apply w s k)

/-! ## What a step adds -/

theorem stripe_apply (i : grid0.Coords) (a b w : Vec Ideal S512x128 .f32) (r : Fin 16) (s : Fin 512) (q : Fin 128) (p : Fin 128)
    (hp : p.val = 16 * (i 1).val + r.val) : stripe i (tabOf a b w) r (ix2 s q) = gateTile a b w s (ix2 p q) := by
  have hs : s.val < 512 := s.isLt
  have hp' : p.val < 128 := p.isLt
  have h0 : (k0_off3 i (BitVec.ofNat 32 r.val)) 0 = 16 * (i 1).val + r.val := congrFun (k0_off3_eq i r) 0
  have h1 : (k0_off3 i (BitVec.ofNat 32 r.val)) 1 = 0 := congrFun (k0_off3_eq i r) 1
  unfold stripe
  have e0 : (((⟨k0_off3 i (BitVec.ofNat 32 r.val), S512x128.size, ![136, 1], k0_off3_inb i r⟩ : LoadRect S69632x128).idx (ix2 s q)) 0).val
      = 136 * s.val + p.val := by
    show (k0_off3 i (BitVec.ofNat 32 r.val)) 0 + 136 * s.val = _
    omega
  have e1 : (((⟨k0_off3 i (BitVec.ofNat 32 r.val), S512x128.size, ![136, 1], k0_off3_inb i r⟩ : LoadRect S69632x128).idx (ix2 s q)) 1).val
      = q.val := by
    show (k0_off3 i (BitVec.ofNat 32 r.val)) 1 + 1 * q.val = _
    omega
  generalize ((⟨k0_off3 i (BitVec.ofNat 32 r.val), S512x128.size, ![136, 1], k0_off3_inb i r⟩ : LoadRect S69632x128).idx (ix2 s q)) = z at e0 e1
  unfold tabOf
  congr 1
  · apply Fin.ext; show (z 0).val / 136 = s.val; omega
  · funext ax
    apply Fin.ext
    match ax with
    | ⟨0, _⟩ =>
      show (z 0).val % 136 % 128 = p.val
      have h136 : (z 0).val % 136 = p.val := by omega
      rw [h136]; exact Nat.mod_eq_of_lt hp'
    | ⟨1, _⟩ => exact e1

theorem accStep_apply (i : grid0.Coords) (D : Vec Ideal S69632x128 .f32) (v : Vec Ideal S2048x1024 .bf16) (A : Vec Ideal S512x1024 .f32)
    (s : Fin 512) (d : Fin 1024) :
    accStep i D v A (ix2 s d) = A (ix2 s d) + ∑ j : Fin 2048, stripe i D ⟨j.val / 128, by omega⟩ (ix2 s ⟨j.val % 128, by omega⟩) * v (ix2 j d) := by
  unfold accStep k0_pay1 k0_pay14
  refine (castSelf _ _ _).trans (congrArg₂ (· + ·) rfl ?_)
  refine (mm2 dot_S512x2048_S2048x1024_S512x1024_1_0_0_1_n_n rfl rfl rfl rfl rfl rfl none _ _ s d).trans (Finset.sum_congr rfl fun j _ => ?_)
  refine congrArg₂ (· * ·) ?_ (castSelf v _ _)
  exact concatenate_ofFn_apply (t := S512x2048) (s₁ := S512x128) 1 (N := 16) (fun n : Fin 16 => stripe i D n) _ rfl 128 rfl (ix2 s j) ⟨j.val / 128, by omega⟩ rfl
    (ix2 s ⟨j.val % 128, by omega⟩) rfl (fun a => match a with
      | ⟨0, _⟩ => fun _ => rfl
      | ⟨1, _⟩ => fun h => absurd rfl h)

/-- One step adds its 2048 experts' weights times their rows. -/
theorem step_apply (i : grid0.Coords) (e : ℕ) (hi : (i 1).val = e) (he : e < 8) (a b w : Vec Ideal S512x128 .f32) (v : Vec Ideal S2048x1024 .bf16)
    (A : Vec Ideal S512x1024 .f32) (s : Fin 512) (d : Fin 1024) (E : Fin 128 → ℕ) (ha : ∀ k, a (ix2 s k) = (((E k / 128 : ℕ) : ℝ) : EReal))
    (hb : ∀ k, b (ix2 s k) = (((E k % 128 : ℕ) : ℝ) : EReal)) (V : ℕ → EReal) (hV : ∀ j : Fin 2048, v (ix2 j d) = V (e * 2048 + j.val)) :
    accStep i (tabOf a b w) v A (ix2 s d)
      = A (ix2 s d) + ∑ x ∈ Finset.range 2048, onExpert E (fun k => w (ix2 s k)) (e * 2048 + x) * V (e * 2048 + x) := by
  rw [accStep_apply, Finset.sum_range]
  congr 1
  refine Finset.sum_congr rfl fun j _ => ?_
  have hj := j.isLt
  rw [stripe_apply i a b w ⟨j.val / 128, by omega⟩ s ⟨j.val % 128, by omega⟩ ⟨16 * e + j.val / 128, by omega⟩ (by rw [hi]),
    gateTile_apply a b w s E ha hb, hV j]
  congr 2
  show (16 * e + j.val / 128) * 128 + j.val % 128 = e * 2048 + j.val
  omega

theorem pay5_apply (s : Fin 512) (d : Fin 1024) : (k0_pay5 (F := Ideal)) (ix2 s d) = 0 := by
  unfold k0_pay5
  exact (castSelf _ _ _).trans Ideal.ofBits_zero_f32

end Cert.ValuesIdeal.Hand

end
-- ==== Proof.ValuesOut.lean ====
/- `peer_values`: the array the kernel leaves, as the layer norm of the residual and the gated sum of the chosen rows. -/
module

public import proofs.«01_k».proof.Defs
public import proofs.«01_k».proof.Proof.ValuesSum
public import proofs.«01_k».proof.Proof.Scores
public import Idealize.ShloMosaic.Lib.ReduceAll

@[expose] public section

set_option maxRecDepth 16384

noncomputable section

open Idealize.ShloMosaic Idealize.ShloMosaic.TcCoe Idealize.SL.Sem Idealize.ShloMosaic.ValueIdx
open Idealize.ShloMosaic.Pipeline (Dat)

namespace Cert.PeerValues

open Cert.Kit

/-- A choice's weight: its gate times the activation of its score, the score being the two halves' sum. -/
def gate (s g : EReal) : EReal :=
  g * ((Ideal.ofBits .f32 0x3F000000#32 * s) * (Ideal.ofBits .f32 0x3F800000#32 + Ideal.erf (s * Ideal.ofBits .f32 0x3F3504F3#32)))

theorem word_real (b : BitVec 32) (h : (b.extractLsb' 23 8).toNat ≠ 2 ^ 8 - 1) : ∃ r : ℝ, Ideal.ofBits .f32 b = r := by
  show ∃ r : ℝ, Ideal.ieee 8 23 b = r
  unfold Ideal.ieee
  dsimp only
  rw [if_neg h]
  split
  · exact ⟨_, rfl⟩
  · exact ⟨_, rfl⟩

theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem add_real {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem erf_real {x : EReal} (hx : ∃ r : ℝ, x = r) : ∃ r : ℝ, Ideal.erf x = r := by
  obtain ⟨a, rfl⟩ := hx
  exact ⟨_, Ideal.erf_coe a⟩

theorem gate_real {s g : EReal} (hs : ∃ r : ℝ, s = r) (hg : ∃ r : ℝ, g = r) : ∃ r : ℝ, gate s g = r :=
  mul_real hg (mul_real (mul_real (word_real _ (by decide)) hs)
    (add_real (word_real _ (by decide)) (erf_real (mul_real hs (word_real _ (by decide))))))

variable (ss : Vec Ideal ⟨3, ![2, 16384, 128]⟩ .f32) (E : IVec ⟨2, ![16384, 128]⟩ 32) (g : Vec Ideal ⟨2, ![16384, 128]⟩ .f32)
  (v : Vec Ideal ⟨3, ![1, 16384, 1024]⟩ .f32) (x1 : Vec Ideal ⟨2, ![16384, 1024]⟩ .f32) (g2 : Vec Ideal ⟨3, ![4, 1, 1024]⟩ .f32)
  (lg lb : Vec Ideal ⟨2, ![1, 1024]⟩ .f32)

/-- The gated sum of the rows a token has chosen. -/
def peer (t : Fin 16384) (o : Fin 1024) : EReal :=
  ∑ k : Fin 128, gate (ss (ix3 0 t k) + ss (ix3 1 t k)) (g (ix2 t k)) * v (ix3 0 ⟨(E (ix2 t k)).toNat % 16384, Nat.mod_lt _ (by decide)⟩ o)

/-- The residual stream before the norm. -/
def res (t : Fin 16384) (o : Fin 1024) : EReal :=
  Ideal.ofBits .f32 0x3F9837F0#32 * x1 (ix2 t o) + g2 (ix3 ⟨t.val / 4096, by omega⟩ 0 o) * peer ss E g v t o

/-- The layer's output. -/
def out : Vec Ideal ⟨2, ![16384, 1024]⟩ .f32 := fun j =>
  lnRow (res ss E g v x1 g2 (j 0)) (fun o => lg (ix2 0 o)) (fun o => lb (ix2 0 o)) (j 1)

end Cert.PeerValues

namespace Cert.ValuesIdeal.Hand

open Cert.ValuesIdeal Cert.ValuesIdeal.Gen Cert.PeerValues Cert.Kit

/-! ## The payloads at an index -/

theorem pay3_apply (v80 : Vec Ideal S2x512x128 .f32) (v90 : Vec Ideal S512x128 .f32) (s : Fin 512) (k : Fin 128) :
    k0_pay3 v80 v90 (ix2 s k) = gate (v80 (ix3 0 s k) + v80 (ix3 1 s k)) (v90 (ix2 s k)) := by
  have e : multiReduction (F := Ideal) (φ := .f32) .add [0] S512x128 v80 0x00000000#32 reduces_S2x512x128_S512x128 (.inl rfl) rfl (ix2 s k) = v80 (ix3 0 s k) + v80 (ix3 1 s k) := by
    refine (Ideal.multiReduction_add_single v80 _ reduces_S2x512x128_S512x128 (.inl rfl) rfl (ix2 s k)).trans ?_
    refine (Fin.sum_univ_two _).trans (congrArg₂ (· + ·) (congrArg v80 ?_) (congrArg v80 ?_))
    all_goals
      funext a; apply Fin.ext
      match a with
      | ⟨0, _⟩ => rfl
      | ⟨1, _⟩ => rfl
      | ⟨2, _⟩ => rfl
  unfold k0_pay3 gate
  refine (castSelf _ _ _).trans ?_
  rw [← e]
  rfl

section Norm

variable (v80 : Vec Ideal S512x1024 .f32) (v83 : Vec Ideal S1x1x1024 .f32) (v85 : Vec Ideal S512x1024 .f32) (v89 v90 : Vec Ideal S1x1024 .f32)

def brow (r : Fin 512) (o : Fin 1024) : EReal :=
  Ideal.ofBits .f32 0x3F9837F0#32 * v80 (ix2 r o) + v83 (ix3 0 0 o) * v85 (ix2 r o)

/-- The mean of each row, as the body writes it. -/
def meanCol (y : FVec Ideal S512x1024 .f32) : FVec Ideal S512x1 .f32 :=
  divf (shapeCast S512x1 (multiReduction .add [1] S512 y 0x00000000#32 reduces_S512x1024_S512 (.inl rfl) rfl) shapeCasts_S512_S512x1) (broadcast S512x1 (Scalar.ofBits (F := Ideal) .f32 0x44800000#32))

theorem meanCol_apply (y : FVec Ideal S512x1024 .f32) (w : Fin 1024 → EReal) (r : Fin 512) (hy : ∀ o, y (ix2 r o) = w o) :
    meanCol y (ix2 r 0) = mean w :=
  congrArg₂ Ideal.div (((castCol _ _ r).trans (laneSum _ _ _ _ r)).trans (Finset.sum_congr rfl fun k _ => hy k)) rfl

/-- A matrix less the mean of each row. -/
def devs (y : FVec Ideal S512x1024 .f32) : FVec Ideal S512x1024 .f32 :=
  subf y (broadcastTo S512x1024 (meanCol y) broadcasts_S512x1_S512x1024)

theorem devs_apply (y : FVec Ideal S512x1024 .f32) (w : Fin 1024 → EReal) (r : Fin 512) (hy : ∀ o, y (ix2 r o) = w o) (o : Fin 1024) :
    devs y (ix2 r o) = w o - mean w :=
  congrArg₂ (· - ·) (hy o) ((bcCol _ _ r o).trans (meanCol_apply y w r hy))

/-- A matrix normed along its rows, as the body writes it. -/
def normed (y : FVec Ideal S512x1024 .f32) : FVec Ideal S512x1024 .f32 :=
  addf (mulf (mulf (devs y) (broadcastTo S512x1024 (rsqrt (addf (meanCol (mulf (devs y) (devs y))) (broadcast S512x1 (Scalar.ofBits (F := Ideal) .f32 0x3727C5AC#32)))) broadcasts_S512x1_S512x1024)) (broadcastTo S512x1024 v89 broadcasts_S1x1024_S512x1024)) (broadcastTo S512x1024 v90 broadcasts_S1x1024_S512x1024)

theorem normed_apply (y : FVec Ideal S512x1024 .f32) (w : Fin 1024 → EReal) (r : Fin 512) (hy : ∀ o, y (ix2 r o) = w o) (o : Fin 1024) :
    normed v89 v90 y (ix2 r o) = lnRow w (fun o => v89 (ix2 0 o)) (fun o => v90 (ix2 0 o)) o := by
  have hva := meanCol_apply (mulf (devs y) (devs y)) (fun k => (w k - mean w) * (w k - mean w)) r
    fun k => congrArg₂ (· * ·) (devs_apply y w r hy k) (devs_apply y w r hy k)
  unfold lnRow
  refine congrArg₂ (· + ·) (congrArg₂ (· * ·) (congrArg₂ (· * ·) (devs_apply y w r hy o) ?_) (bcRow _ _ r o)) (bcRow _ _ r o)
  exact (bcCol _ _ r o).trans (congrArg (FloatOps.rsqrt (F := Ideal) (φ := .f32)) (congrArg₂ (· + ·) hva rfl))

theorem pay2_apply (r : Fin 512) (o : Fin 1024) :
    k0_pay2 v80 v83 v85 v89 v90 (ix2 r o) = lnRow (brow v80 v83 v85 r) (fun o => v89 (ix2 0 o)) (fun o => v90 (ix2 0 o)) o := by
  refine Eq.trans ?_ (normed_apply v89 v90 (addf (mulf (broadcast S512x1024 (Scalar.ofBits (F := Ideal) .f32 0x3F9837F0#32)) v80)
    (mulf (broadcastTo S512x1024 (shapeCast S1x1024 v83 shapeCasts_S1x1x1024_S1x1024) broadcasts_S1x1024_S512x1024) v85)) (brow v80 v83 v85 r) r (fun o => ?_) o)
  · rfl
  · exact congrArg₂ (· + ·) rfl (congrArg₂ (· * ·) ((bcRow _ _ r o).trans (cast32 _ _ 0 o)) rfl)

end Norm

/-! ## The blocks -/

variable (m : (ℓ : Loc nD τ sig) → Buf (Elt Ideal) ℓ) (ρ : Dev nD → PrngReg)

abbrev M0 (c : Dev nD) : Vec Ideal S2x16384x128 .f32 := m ((c : Thread nD τ).loc main_arg0)
abbrev M1 (c : Dev nD) : IVec S16384x128 32 := m ((c : Thread nD τ).loc main_arg1)
abbrev M2 (c : Dev nD) : Vec Ideal S16384x128 .f32 := m ((c : Thread nD τ).loc main_arg2)
abbrev M3 (c : Dev nD) : Vec Ideal S1x16384x1024 .f32 := m ((c : Thread nD τ).loc main_arg3)
abbrev M4 (c : Dev nD) : Vec Ideal S16384x1024 .f32 := m ((c : Thread nD τ).loc main_arg4)
abbrev M5 (c : Dev nD) : Vec Ideal S4x1x1024 .f32 := m ((c : Thread nD τ).loc main_arg5)
abbrev M6 (c : Dev nD) : Vec Ideal S1x1024 .f32 := m ((c : Thread nD τ).loc main_arg6)
abbrev M7 (c : Dev nD) : Vec Ideal S1x1024 .f32 := m ((c : Thread nD τ).loc main_arg7)

set_option maxHeartbeats 2000000 in
theorem V_v2 (c : Dev nD) : (V m c main_v2 : Vec Ideal S16384x128 .f32)
    = sitofp (F := Ideal) .f32 (Host.shrsi (M1 m c) (broadcastInDim S16384x128 ![] bcast_S_S16384x128 (constantI S_ 32 7#32))) := by
  simp only [V, hostOps0]
  after_results <;> rfl

set_option maxHeartbeats 2000000 in
theorem V_v5 (c : Dev nD) : (V m c main_v5 : Vec Ideal S16384x128 .f32)
    = sitofp (F := Ideal) .f32 (andi (M1 m c) (broadcastInDim S16384x128 ![] bcast_S_S16384x128 (constantI S_ 32 127#32))) := by
  simp only [V, hostOps0]
  after_results <;> rfl

set_option maxHeartbeats 2000000 in
theorem V_v7 (c : Dev nD) : (V m c main_v7 : Vec Ideal S16384x1024 .bf16)
    = truncf (F := Ideal) .bf16 (shapeCast S16384x1024 (M3 m c) shapeCasts_S1x16384x1024_S16384x1024) bitsLt_bf16_f32 := by
  simp only [V, hostOps0]
  after_results <;> rfl

theorem idx_facts : ∀ t : Fin cfg0.N,
    (win0_0.index t (0 : Fin 3) = 0 ∧ win0_0.index t (1 : Fin 3) = t.val / 8 ∧ win0_0.index t (2 : Fin 3) = 0)
    ∧ (win0_1.index t (0 : Fin 2) = t.val / 8 ∧ win0_1.index t (1 : Fin 2) = 0)
    ∧ (win0_2.index t (0 : Fin 2) = t.val / 8 ∧ win0_2.index t (1 : Fin 2) = 0)
    ∧ (win0_3.index t (0 : Fin 2) = t.val / 8 ∧ win0_3.index t (1 : Fin 2) = 0)
    ∧ (win0_4.index t (0 : Fin 2) = t.val % 8 ∧ win0_4.index t (1 : Fin 2) = 0)
    ∧ (win0_5.index t (0 : Fin 2) = t.val / 8 ∧ win0_5.index t (1 : Fin 2) = 0)
    ∧ (win0_6.index t (0 : Fin 3) = t.val / 64 ∧ win0_6.index t (1 : Fin 3) = 0 ∧ win0_6.index t (2 : Fin 3) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val / 8 ∧ win0_9.index t (1 : Fin 2) = 0)
    ∧ (grid0.coords t 1).val = t.val % 8 :=
  (by decide +kernel : ∀ t : Fin grid0.N, _)

/-! ### The output's blocks -/

theorem disjoint9 : ∀ t t' : Fin cfg0.N, (cfg0.win 9).flush t = true → (cfg0.win 9).flush t' = true → t ≠ t' →
    Disjoint ((cfg0.win 9).blk t).view.set ((cfg0.win 9).blk t').view.set :=
  fun t t' h h' hne => (cfg0.win 9).disjoint_blk fun he => hne (Fin.ext (by
    have e : win0_9.index t (0 : Fin 2) = win0_9.index t' (0 : Fin 2) := congrFun he (0 : Fin 2)
    have e1 := (idx_facts t).2.2.2.2.2.2.2.2.2.1.1
    have e2 := (idx_facts t').2.2.2.2.2.2.2.2.2.1.1
    have f1 := (flush0_9 t).1 h
    have f2 := (flush0_9 t').1 h'
    omega))

theorem blocks9 (c : Dev nD) (t : Fin cfg0.N) (hf : (cfg0.win 9).flush t = true) :
    ((cfg0.win 9).blk t).view.read (Elt Ideal) ((dats m 0 c).arrAt 9 cfg0.N) = (dats m 0 c).flushed 9 t :=
  (dats m 0 c).read_blk_arrAt_eq_flushed 9 disjoint9 cfg0.N t t.isLt hf

theorem flushed9 (c : Dev nD) (t : Fin cfg0.N) : (dats m 0 c).flushed 9 t = (cfg0.win 9).cut (grid0.coords t) (outAt m c t) := by
  show (cfg0.win 9).cut (grid0.coords t) ((dats m 0 c).after 9 t) = _
  rw [after0_9]

variable (t : Fin cfg0.N)

theorem iblk7_apply (c : Dev nD) (d : Fin 1024) : iblk m c 7 t (ix2 0 d) = M6 m c (ix2 0 d) := by
  show V m c main_arg6 (((cfg0.win 7).blk t).view.emb (ix2 0 d)) = _
  rw [V_main_arg6]
  obtain ⟨-, -, -, -, -, -, -, ⟨e0, e1⟩, -⟩ := idx_facts t
  refine congrArg (M6 m c) ?_
  funext a; apply Fin.ext
  match a with
  | ⟨0, _⟩ => show win0_7.index t (0 : Fin 2) * 1 + 1 * 0 = 0; omega
  | ⟨1, _⟩ => show win0_7.index t (1 : Fin 2) * 1024 + 1 * d.val = d.val; omega

theorem iblk8_apply (c : Dev nD) (d : Fin 1024) : iblk m c 8 t (ix2 0 d) = M7 m c (ix2 0 d) := by
  show V m c main_arg7 (((cfg0.win 8).blk t).view.emb (ix2 0 d)) = _
  rw [V_main_arg7]
  obtain ⟨-, -, -, -, -, -, -, -, ⟨e0, e1⟩, -⟩ := idx_facts t
  refine congrArg (M7 m c) ?_
  funext a; apply Fin.ext
  match a with
  | ⟨0, _⟩ => show win0_8.index t (0 : Fin 2) * 1 + 1 * 0 = 0; omega
  | ⟨1, _⟩ => show win0_8.index t (1 : Fin 2) * 1024 + 1 * d.val = d.val; omega

theorem iblk4_apply (c : Dev nD) (j : Fin 2048) (d : Fin 1024) :
    iblk m c 4 t (ix2 j d) = M3 m c (ix3 0 ⟨t.val % 8 * 2048 + j.val, by omega⟩ d) := by
  show V m c main_v7 (((cfg0.win 4).blk t).view.emb (ix2 j d)) = _
  obtain ⟨-, -, -, -, ⟨e0, e1⟩, -⟩ := idx_facts t
  have e : ((cfg0.win 4).blk t).view.emb (ix2 j d) = (ix2 ⟨t.val % 8 * 2048 + j.val, by omega⟩ d : S16384x1024.Idx) := by
    funext a; apply Fin.ext
    match a with
    | ⟨0, _⟩ => show win0_4.index t (0 : Fin 2) * 2048 + 1 * j.val = t.val % 8 * 2048 + j.val; omega
    | ⟨1, _⟩ => show win0_4.index t (1 : Fin 2) * 1024 + 1 * d.val = d.val; omega
  rw [e, V_v7]
  exact cast32 (M3 m c) _ _ d

variable (i : Fin 32) (ht : t.val / 8 = i.val)
include ht

theorem emb1 (r : Fin 512) (k : Fin 128) :
    ((cfg0.win 1).blk t).view.emb (ix2 r k) = (ix2 ⟨i.val * 512 + r.val, by omega⟩ k : S16384x128.Idx) := by
  obtain ⟨-, ⟨e0, e1⟩, -⟩ := idx_facts t
  funext a; apply Fin.ext
  match a with
  | ⟨0, _⟩ => show win0_1.index t (0 : Fin 2) * 512 + 1 * r.val = i.val * 512 + r.val; omega
  | ⟨1, _⟩ => show win0_1.index t (1 : Fin 2) * 128 + 1 * k.val = k.val; omega

theorem emb2 (r : Fin 512) (k : Fin 128) :
    ((cfg0.win 2).blk t).view.emb (ix2 r k) = (ix2 ⟨i.val * 512 + r.val, by omega⟩ k : S16384x128.Idx) := by
  obtain ⟨-, -, ⟨e0, e1⟩, -⟩ := idx_facts t
  funext a; apply Fin.ext
  match a with
  | ⟨0, _⟩ => show win0_2.index t (0 : Fin 2) * 512 + 1 * r.val = i.val * 512 + r.val; omega
  | ⟨1, _⟩ => show win0_2.index t (1 : Fin 2) * 128 + 1 * k.val = k.val; omega

theorem emb9 (r : Fin 512) (d : Fin 1024) :
    ((cfg0.win 9).blk t).view.emb (ix2 r d) = (ix2 ⟨i.val * 512 + r.val, by omega⟩ d : S16384x1024.Idx) := by
  obtain ⟨-, -, -, -, -, -, -, -, -, ⟨e0, e1⟩, -⟩ := idx_facts t
  funext a; apply Fin.ext
  match a with
  | ⟨0, _⟩ => show win0_9.index t (0 : Fin 2) * 512 + 1 * r.val = i.val * 512 + r.val; omega
  | ⟨1, _⟩ => show win0_9.index t (1 : Fin 2) * 1024 + 1 * d.val = d.val; omega

theorem iblk0_apply (c : Dev nD) (h : Fin 2) (r : Fin 512) (k : Fin 128) :
    iblk m c 0 t (ix3 h r k) = M0 m c (ix3 h ⟨i.val * 512 + r.val, by omega⟩ k) := by
  show V m c main_arg0 (((cfg0.win 0).blk t).view.emb (ix3 h r k)) = _
  rw [V_main_arg0]
  obtain ⟨⟨e0, e1, e2⟩, -⟩ := idx_facts t
  refine congrArg (M0 m c) ?_
  funext a; apply Fin.ext
  match a with
  | ⟨0, _⟩ => show win0_0.index t (0 : Fin 3) * 2 + 1 * h.val = h.val; omega
  | ⟨1, _⟩ => show win0_0.index t (1 : Fin 3) * 512 + 1 * r.val = i.val * 512 + r.val; omega
  | ⟨2, _⟩ => show win0_0.index t (2 : Fin 3) * 128 + 1 * k.val = k.val; omega

theorem iblk1_apply (c : Dev nD) (r : Fin 512) (k : Fin 128) (hE : (M1 m c (ix2 ⟨i.val * 512 + r.val, by omega⟩ k)).toNat < 16384) :
    iblk m c 1 t (ix2 r k) = ((((M1 m c (ix2 ⟨i.val * 512 + r.val, by omega⟩ k)).toNat / 128 : ℕ) : ℝ) : EReal) := by
  have key : ∀ X : Vec Ideal S16384x128 .f32, ((cfg0.win 1).blk t).view.read (Elt Ideal) X (ix2 r k) = X (ix2 ⟨i.val * 512 + r.val, by omega⟩ k) :=
    fun X => congrArg X (emb1 t i ht r k)
  refine (key (V m c main_v2)).trans ?_
  rw [V_v2]
  show (((IntOp.shrsi .host (M1 m c (ix2 ⟨i.val * 512 + r.val, _⟩ k)) 7#32).toInt : ℝ) : EReal) = _
  rw [Cert.PeerScores.group_word _ hE]
  rfl

theorem iblk2_apply (c : Dev nD) (r : Fin 512) (k : Fin 128) (hE : (M1 m c (ix2 ⟨i.val * 512 + r.val, by omega⟩ k)).toNat < 16384) :
    iblk m c 2 t (ix2 r k) = ((((M1 m c (ix2 ⟨i.val * 512 + r.val, by omega⟩ k)).toNat % 128 : ℕ) : ℝ) : EReal) := by
  have key : ∀ X : Vec Ideal S16384x128 .f32, ((cfg0.win 2).blk t).view.read (Elt Ideal) X (ix2 r k) = X (ix2 ⟨i.val * 512 + r.val, by omega⟩ k) :=
    fun X => congrArg X (emb2 t i ht r k)
  refine (key (V m c main_v5)).trans ?_
  rw [V_v5]
  show (((IntOp.andi (M1 m c (ix2 ⟨i.val * 512 + r.val, _⟩ k)) 127#32).toInt : ℝ) : EReal) = _
  rw [Cert.PeerScores.lane_word _ hE]
  rfl

theorem iblk3_apply (c : Dev nD) (r : Fin 512) (k : Fin 128) : iblk m c 3 t (ix2 r k) = M2 m c (ix2 ⟨i.val * 512 + r.val, by omega⟩ k) := by
  show V m c main_arg2 (((cfg0.win 3).blk t).view.emb (ix2 r k)) = _
  rw [V_main_arg2]
  obtain ⟨-, -, -, ⟨e0, e1⟩, -⟩ := idx_facts t
  refine congrArg (M2 m c) ?_
  funext a; apply Fin.ext
  match a with
  | ⟨0, _⟩ => show win0_3.index t (0 : Fin 2) * 512 + 1 * r.val = i.val * 512 + r.val; omega
  | ⟨1, _⟩ => show win0_3.index t (1 : Fin 2) * 128 + 1 * k.val = k.val; omega

theorem iblk5_apply (c : Dev nD) (r : Fin 512) (d : Fin 1024) : iblk m c 5 t (ix2 r d) = M4 m c (ix2 ⟨i.val * 512 + r.val, by omega⟩ d) := by
  show V m c main_arg4 (((cfg0.win 5).blk t).view.emb (ix2 r d)) = _
  rw [V_main_arg4]
  obtain ⟨-, -, -, -, -, ⟨e0, e1⟩, -⟩ := idx_facts t
  refine congrArg (M4 m c) ?_
  funext a; apply Fin.ext
  match a with
  | ⟨0, _⟩ => show win0_5.index t (0 : Fin 2) * 512 + 1 * r.val = i.val * 512 + r.val; omega
  | ⟨1, _⟩ => show win0_5.index t (1 : Fin 2) * 1024 + 1 * d.val = d.val; omega

theorem iblk6_apply (c : Dev nD) (r : Fin 512) (d : Fin 1024) :
    iblk m c 6 t (ix3 0 0 d) = M5 m c (ix3 ⟨(i.val * 512 + r.val) / 4096, by omega⟩ 0 d) := by
  show V m c main_arg5 (((cfg0.win 6).blk t).view.emb (ix3 0 0 d)) = _
  rw [V_main_arg5]
  obtain ⟨-, -, -, -, -, -, ⟨e0, e1, e2⟩, -⟩ := idx_facts t
  refine congrArg (M5 m c) ?_
  funext a; apply Fin.ext
  match a with
  | ⟨0, _⟩ => show win0_6.index t (0 : Fin 3) * 1 + 1 * 0 = (i.val * 512 + r.val) / 4096; omega
  | ⟨1, _⟩ => show win0_6.index t (1 : Fin 3) * 1 + 1 * 0 = 0; omega
  | ⟨2, _⟩ => show win0_6.index t (2 : Fin 3) * 1024 + 1 * d.val = d.val; omega

end Cert.ValuesIdeal.Hand

end
-- ==== Proof.ValuesVal.lean ====
/- `peer_values`: the eight points' sum is the gated sum of the chosen rows, and the final array is the layer's output. -/
module

public import proofs.«01_k».proof.Defs
public import proofs.«01_k».proof.Proof.ValuesOut

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ValuesIdeal.Hand

open Cert.ValuesIdeal Cert.ValuesIdeal.Gen Cert.PeerValues Cert.Kit

variable (m : (ℓ : Loc nD τ sig) → Buf (Elt Ideal) ℓ) (ρ : Dev nD → PrngReg)

section Row

variable (c : Dev nD) (s : Fin 16384) (d : Fin 1024)

/-- The experts token `s` has chosen, their weights, and a column of the table. -/
def chosen (k : Fin 128) : ℕ := (M1 m c (ix2 s k)).toNat
def weight (k : Fin 128) : EReal := gate (M0 m c (ix3 0 s k) + M0 m c (ix3 1 s k)) (M2 m c (ix2 s k))
def column (x : ℕ) : EReal := M3 m c (ix3 0 ⟨x % 16384, Nat.mod_lt _ (by decide)⟩ d)

end Row

variable (i : Fin 32) (c : Dev nD) (hE : ∀ j, (M1 m c j).toNat < 16384) (r : Fin 512) (d : Fin 1024)
include hE

theorem point_apply (t : Fin cfg0.N) (ht : t.val / 8 = i.val) (A : Vec Ideal S512x1024 .f32) :
    accStep (grid0.coords t) (tabAt m c t) (b4 m c t) A (ix2 r d)
      = A (ix2 r d) + ∑ x ∈ Finset.range 2048, onExpert (chosen m c ⟨i.val * 512 + r.val, by omega⟩) (weight m c ⟨i.val * 512 + r.val, by omega⟩) (t.val % 8 * 2048 + x)
          * column m c d (t.val % 8 * 2048 + x) := by
  have ht0 : (t0 t).val / 8 = i.val := by
    show (t.val - t.val % 8) / 8 = i.val
    omega
  have hw : (fun k => k0_pay3 (b0 m c (t0 t)) (b3 m c (t0 t)) (ix2 r k)) = weight m c ⟨i.val * 512 + r.val, by omega⟩ := funext fun k =>
    (pay3_apply _ _ r k).trans (congrArg₂ gate (congrArg₂ (· + ·) (iblk0_apply m (t0 t) i ht0 c 0 r k) (iblk0_apply m (t0 t) i ht0 c 1 r k)) (iblk3_apply m (t0 t) i ht0 c r k))
  rw [← hw]
  refine step_apply (grid0.coords t) (t.val % 8) (idx_facts t).2.2.2.2.2.2.2.2.2.2 (Nat.mod_lt _ (by decide)) _ _ _ _ A r d
    (chosen m c ⟨i.val * 512 + r.val, by omega⟩) (fun k => iblk1_apply m (t0 t) i ht0 c r k (hE _)) (fun k => iblk2_apply m (t0 t) i ht0 c r k (hE _))
    (column m c d) (fun j => (iblk4_apply m t c j d).trans ?_)
  unfold column
  refine congrArg (fun n => M3 m c (ix3 0 n d)) (Fin.ext ?_)
  show t.val % 8 * 2048 + j.val = (t.val % 8 * 2048 + j.val) % 16384
  omega

theorem sum_apply (e : ℕ) : e < 8 → ∀ t : Fin cfg0.N, t.val = i.val * 8 + e →
    accAt m c t.val t.isLt (ix2 r d)
      = ∑ x ∈ Finset.range ((e + 1) * 2048), onExpert (chosen m c ⟨i.val * 512 + r.val, by omega⟩) (weight m c ⟨i.val * 512 + r.val, by omega⟩) x * column m c d x := by
  induction e with
  | zero =>
    intro _ t ht
    have h8 : t.val % 8 = 0 := by omega
    rw [accAt_first m c t h8, point_apply m i c hE r d t (by omega), pay5_apply, h8, zero_add]
    simp only [Nat.zero_mul, Nat.zero_add, Nat.one_mul]
  | succ e ih =>
    intro he t ht
    have h8 : t.val % 8 = e + 1 := by omega
    rw [accAt_next m c t (by omega), point_apply m i c hE r d t (by omega), h8,
      ih (by omega) ⟨t.val - 1, Nat.lt_of_le_of_lt (Nat.sub_le _ _) t.isLt⟩ (by show t.val - 1 = _; omega),
      show (e + 1 + 1) * 2048 = (e + 1) * 2048 + 2048 by omega, Finset.sum_range_add]

variable (h0 : ∀ j, ∃ x : ℝ, M0 m c j = x) (h2 : ∀ j, ∃ x : ℝ, M2 m c j = x) (h3 : ∀ j, ∃ x : ℝ, M3 m c j = x)
include h0 h2 h3

/-- After a block's last point the sum is over the chosen experts alone. -/
theorem last_apply (t : Fin cfg0.N) (ht : t.val = i.val * 8 + 7) :
    accAt m c t.val t.isLt (ix2 r d) = peer (M0 m c) (M1 m c) (M2 m c) (M3 m c) ⟨i.val * 512 + r.val, by omega⟩ d := by
  rw [sum_apply m i c hE r d 7 (by omega) t ht, show (7 + 1) * 2048 = 16384 from rfl]
  exact sum_chosen 16384 _ (fun k => hE _) _ _ (fun k => gate_real (add_real (h0 _) (h0 _)) (h2 _)) (fun n => h3 _)

theorem final_at : (dats m 0 c).arrAt 9 cfg0.N (ix2 ⟨i.val * 512 + r.val, by omega⟩ d : S16384x1024.Idx)
    = out (M0 m c) (M1 m c) (M2 m c) (M3 m c) (M4 m c) (M5 m c) (M6 m c) (M7 m c) (ix2 ⟨i.val * 512 + r.val, by omega⟩ d) := by
  obtain ⟨t, ht⟩ : ∃ t : Fin cfg0.N, t.val = i.val * 8 + 7 := ⟨⟨i.val * 8 + 7, by show _ < 256; omega⟩, rfl⟩
  have ht8 : t.val / 8 = i.val := by omega
  have h := congrFun (blocks9 m c t ((flush0_9 t).2 (by omega))) (ix2 r d)
  rw [flushed9] at h
  have h' : (dats m 0 c).arrAt 9 cfg0.N (((cfg0.win 9).blk t).view.emb (ix2 r d)) = outAt m c t (ix2 r d) := h
  rw [emb9 t i ht8] at h'
  refine (h'.trans (pay2_apply _ _ _ _ _ r d)).trans ?_
  have hb : brow (b5 m c t) (b6 m c t) (accAt m c t.val t.isLt) r = res (M0 m c) (M1 m c) (M2 m c) (M3 m c) (M4 m c) (M5 m c) ⟨i.val * 512 + r.val, by omega⟩ := funext fun o =>
    congrArg₂ (· + ·) (congrArg₂ (· * ·) rfl (iblk5_apply m t i ht8 c r o)) (congrArg₂ (· * ·) (iblk6_apply m t i ht8 c r o) (last_apply m i c hE r o h0 h2 h3 t ht))
  rw [hb]
  exact congrArg₂ (fun g b => lnRow _ g b d) (funext fun o => iblk7_apply m t c o) (funext fun o => iblk8_apply m t c o)

omit hE h0 h2 h3 in
theorem final_eq (hE : ∀ j, (M1 m c j).toNat < 16384) (h0 : ∀ j, ∃ x : ℝ, M0 m c j = x) (h2 : ∀ j, ∃ x : ℝ, M2 m c j = x) (h3 : ∀ j, ∃ x : ℝ, M3 m c j = x) :
    (dats m 0 c).arrAt 9 cfg0.N = out (M0 m c) (M1 m c) (M2 m c) (M3 m c) (M4 m c) (M5 m c) (M6 m c) (M7 m c) := by
  refine funext fun (j : S16384x1024.Idx) => ?_
  have l0 : (j 0).val < 16384 := (j 0).isLt
  have l1 : (j 1).val < 1024 := (j 1).isLt
  have hj : j = ix2 (⟨(⟨(j 0).val / 512, by omega⟩ : Fin 32).val * 512 + (⟨(j 0).val % 512, by omega⟩ : Fin 512).val, by dsimp only; omega⟩ : Fin 16384) (⟨(j 1).val, l1⟩ : Fin 1024) :=
    ix2_ext (by show (j 0).val = (j 0).val / 512 * 512 + (j 0).val % 512; omega) rfl
  rw [hj]
  exact final_at m ⟨(j 0).val / 512, by omega⟩ c hE ⟨(j 0).val % 512, by omega⟩ ⟨(j 1).val, l1⟩ h0 h2 h3

omit hE h0 h2 h3 in
/-- The run, with the output array named and the arguments unchanged. -/
theorem run_blocks : θ_run defs (onTc (τ := τ) (main (F := Ideal))) ⟨m, fun _ => 0, ρ⟩ fun r => ∀ c : Dev nD,
      r.2.mem ((c.tc : Thread nD τ).loc main_v8) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h.1 c).1 9, h.2.1 c⟩) (θ_run_and (run_main m ρ) (frame m ρ))

end Cert.ValuesIdeal.Hand

end
-- ==== Proof.ValuesRef.lean ====
/- The reference of `peer_values` read at an index, and the claims. -/
module

public import proofs.«01_k».proof.Defs
public import proofs.«01_k».proof.Proof.ValuesVal
public import proofs.«01_k».proof.Proof.Gen.ValuesRefIdeal.Run
public import proofs.«01_k».proof.Proof.Gen.ValuesRefIdeal.Read
public import proofs.«01_k».proof.Proof.Gen.Pre_chosen_and_finite
public import Idealize.ShloMosaic.Lib.IdealHost
public import Idealize.ShloMosaic.Lib.Quiescent
public import Idealize.ShloMosaic.Lib.ReduceAll

@[expose] public section

set_option maxRecDepth 16384

noncomputable section

open Idealize.ShloMosaic Idealize.ShloMosaic.TcCoe Idealize.SL.Sem Idealize.ShloMosaic.ValueIdx
open Idealize.ShloMosaic.Pipeline (Dat)

namespace Cert.PeerValues

/-! ## The precondition -/

theorem andi_split (p q : BitVec 1) (h : IntOp.andi p q = 1#1) : p = 1#1 ∧ q = 1#1 := by
  revert h
  show p &&& q = 1#1 → _
  revert p q
  decide

theorem inf_word : (FloatOps.ofBits (F := Ideal) .f32 0x7F800000#32 : EReal) = ⊤ := by
  show Ideal.ieee 8 23 0x7F800000#32 = ⊤
  simp [Ideal.ieee]

theorem real_of_abs (a : EReal) (h : FloatOps.cmpf (F := Ideal) (φ := .f32) .olt (max a (-a)) (FloatOps.ofBits (F := Ideal) .f32 0x7F800000#32) = 1#1) : ∃ x : ℝ, a = x := by
  rw [inf_word] at h
  have hlt : max a (-a) < ⊤ := by
    by_contra hn
    have e : FloatOps.cmpf (F := Ideal) (φ := .f32) .olt (max a (-a)) (⊤ : EReal) = 0#1 := by
      show BitVec.ofBool (decide (max a (-a) < ⊤)) = 0#1
      rw [decide_eq_false hn]
      rfl
    rw [e] at h
    exact absurd h (by decide)
  have h1 : a ≠ ⊤ := fun e => by rw [e] at hlt; simp at hlt
  have h2 : a ≠ ⊥ := fun e => by rw [e] at hlt; simp at hlt
  exact ⟨a.toReal, (EReal.coe_toReal h1 h2).symm⟩

theorem lt_of_range (b : BitVec 32) (h : IntOp.andi (IntOp.cmpi .sge b 0#32) (IntOp.cmpi .slt b 16384#32) = 1#1) : b.toNat < 16384 := by
  obtain ⟨h1, h2⟩ := andi_split _ _ h
  have h3 := IntOp.cmpi_sge.1 h1
  have h4 := IntOp.cmpi_slt.1 h2
  have e0 : (0#32 : BitVec 32).toInt = 0 := by decide
  have e1 : (16384#32 : BitVec 32).toInt = 16384 := by decide
  rw [e0] at h3
  rw [e1] at h4
  have h5 := BitVec.toInt_eq_toNat_cond b
  have h6 := b.isLt
  split_ifs at h5 <;> omega

open Cert.Pre_chosen_and_finite in
theorem decode (x0 : Vec Ideal S2x16384x128 .f32) (x1 : IVec S16384x128 32) (x2 : Vec Ideal S16384x128 .f32) (x3 : Vec Ideal S1x16384x1024 .f32)
    (x4 : Vec Ideal S16384x1024 .f32) (x5 : Vec Ideal S4x1x1024 .f32) (x6 x7 : Vec Ideal S1x1024 .f32) [Facts] (h : fn (F := Ideal) x0 x1 x2 x3 x4 x5 x6 x7 = (fun _ => 1#1)) :
    (∀ j, (x1 j).toNat < 16384) ∧ (∀ j, ∃ x : ℝ, x0 j = x) ∧ (∀ j, ∃ x : ℝ, x2 j = x) ∧ (∀ j, ∃ x : ℝ, x3 j = x) := by
  obtain ⟨ha, h3⟩ := andi_split _ _ (congrFun h (fun a => a.elim0))
  obtain ⟨hb, h2⟩ := andi_split _ _ ha
  obtain ⟨h1, h0⟩ := andi_split _ _ hb
  exact ⟨fun j => lt_of_range _ (Host.reduce_andi_all _ _ _ _ _ h1 j), fun j => real_of_abs _ (Host.reduce_andi_all _ _ _ _ _ h0 j),
    fun j => real_of_abs _ (Host.reduce_andi_all _ _ _ _ _ h2 j), fun j => real_of_abs _ (Host.reduce_andi_all _ _ _ _ _ h3 j)⟩

end Cert.PeerValues

namespace Cert.ValuesRefIdeal.Hand

open Cert.ValuesRefIdeal Cert.ValuesRefIdeal.Gen Cert.ValuesRefIdeal.Read Cert.PeerValues Cert.Kit

variable (x0 : Vec Ideal S2x16384x128 .f32) (x1 : IVec S16384x128 32) (x2 : Vec Ideal S16384x128 .f32) (x3 : Vec Ideal S1x16384x1024 .f32)
  (x4 : Vec Ideal S16384x1024 .f32) (x5 : Vec Ideal S4x1x1024 .f32) (x6 x7 : Vec Ideal S1x1024 .f32) (hE : ∀ j, (x1 j).toNat < 16384)

theorem v4_apply (t : Fin 16384) (k : Fin 128) : val_main_v4 x0 (ix2 t k) = x0 (ix3 0 t k) + x0 (ix3 1 t k) := by
  rw [val_main_v4_apply]
  refine congrArg₂ (· + ·) ?_ ?_
  · unfold val_main_v1
    refine (cast32 (val_main_v0 x0) _ t k).trans ?_
    rw [val_main_v0_apply, show idx_main_v0 (ix3 0 t k) = ix3 0 t k from ix3_ext rfl rfl rfl]
  · unfold val_main_v3
    refine (cast32 (val_main_v2 x0) _ t k).trans ?_
    rw [val_main_v2_apply, show idx_main_v2 (ix3 0 t k) = ix3 1 t k from ix3_ext rfl rfl rfl]

theorem v13_apply (t : Fin 16384) (k : Fin 128) : val_main_v13 x0 x2 (ix2 t k) = gate (x0 (ix3 0 t k) + x0 (ix3 1 t k)) (x2 (ix2 t k)) := by
  rw [val_main_v13_apply, val_main_v12_apply, val_main_v6_apply, val_main_v5_apply, val_main_cst_apply, val_main_v11_apply, val_main_v10_apply, val_main_cst_1_apply,
    val_main_v9_apply, val_main_v8_apply, val_main_v7_apply, val_main_cst_0_apply, v4_apply]
  rfl

include hE in
theorem v19_apply (t : Fin 16384) (k : Fin 128) : val_main_v19 (F := Ideal) x1 (ix2 t k) = x1 (ix2 t k) := by
  rw [val_main_v19_apply]
  have h0 : val_main_v16 (F := Ideal) x1 (ix2 t k) = 0#1 := by
    show BitVec.ofBool (BitVec.slt (x1 (ix2 t k)) 0#32) = 0#1
    have := hE (ix2 t k)
    have h2 : BitVec.slt (x1 (ix2 t k)) 0#32 = false := by
      rw [BitVec.slt, BitVec.toInt_eq_toNat_of_lt (by omega)]
      simp
    rw [h2]; rfl
  rw [h0]
  exact if_neg (by decide)

include hE in
theorem v22_apply (t : Fin 16384) (o : Fin 1024) : val_main_v22 x0 x1 x2 x3 (ix2 t o) = peer x0 x1 x2 x3 t o := by
  rw [val_main_v22_apply]
  refine Finset.sum_congr rfl fun k _ => ?_
  rw [show lidx_main_v22 (ix2 t o) k = ix2 t k from ix2_ext rfl rfl, show ridx_main_v22 (ix2 t o) k = ix3 t k o from ix3_ext rfl rfl rfl, v13_apply]
  refine congrArg₂ (· * ·) rfl ?_
  have hn := hE (ix2 t k)
  unfold val_main_v21
  refine (Cert.ScoresRefIdeal.Hand.gather_apply _ _ t k o _ (Nat.mod_lt (x1 (ix2 t k)).toNat (by decide : 0 < 16384)) ?_).trans ?_
  · rw [val_main_v20_apply, show idx_main_v20 (ix3 t k 0) = ix2 t k from ix2_ext rfl rfl, v19_apply x1 hE,
      BitVec.toInt_eq_toNat_of_lt (by omega), Nat.mod_eq_of_lt hn]
  · unfold val_main_v14
    exact cast32 x3 _ _ o

theorem v26_apply (t : Fin 16384) (o : Fin 1024) : val_main_v26 x5 (ix2 t o) = x5 (ix3 ⟨t.val / 4096, by omega⟩ 0 o) := by
  rw [val_main_v26_apply, val_main_v25_apply]
  refine congrArg x5 (ix3_ext ?_ rfl ?_)
  · show (t.val * 1024 + o.val) / 4194304 = t.val / 4096
    omega
  · show (t.val * 1024 + o.val) % 1024 = o.val
    omega

include hE in
theorem v28_apply (t : Fin 16384) (o : Fin 1024) : val_main_v28 x0 x1 x2 x3 x4 x5 (ix2 t o) = res x0 x1 x2 x3 x4 x5 t o := by
  rw [val_main_v28_apply, val_main_v24_apply, val_main_v23_apply, val_main_cst_3_apply, val_main_v27_apply, v26_apply, v22_apply x0 x1 x2 x3 hE]
  rfl

theorem zero_word : (FloatOps.ofBits (F := Ideal) .f32 0x00000000#32 : EReal) = 0 := Ideal.ofBits_zero_f32

include hE in
theorem v32_apply (t : Fin 16384) : val_main_v32 x0 x1 x2 x3 x4 x5 (ix2 t 0) = mean (res x0 x1 x2 x3 x4 x5 t) := by
  rw [val_main_v32_apply, val_main_v30_apply, val_main_v31_apply, val_main_cst_5_apply, val_main_v29_apply, val_main_cst_4_apply]
  refine congrArg₂ Ideal.div ?_ rfl
  refine (congrArg₂ (· + ·) zero_word (Finset.sum_congr rfl fun k _ => ?_)).trans (zero_add _)
  rw [show idx_main_v29 (idx_main_v30 (ix2 t 0)) k = ix2 t k from ix2_ext rfl rfl, v28_apply x0 x1 x2 x3 x4 x5 hE]

include hE in
theorem v34_apply (t : Fin 16384) (o : Fin 1024) : val_main_v34 x0 x1 x2 x3 x4 x5 (ix2 t o) = res x0 x1 x2 x3 x4 x5 t o - mean (res x0 x1 x2 x3 x4 x5 t) := by
  rw [val_main_v34_apply, val_main_v33_apply, show idx_main_v33 (ix2 t o) = ix2 t 0 from ix2_ext rfl rfl, v28_apply x0 x1 x2 x3 x4 x5 hE, v32_apply x0 x1 x2 x3 x4 x5 hE]
  rfl

include hE in
theorem v39_apply (t : Fin 16384) : val_main_v39 x0 x1 x2 x3 x4 x5 (ix2 t 0)
    = mean fun k => (res x0 x1 x2 x3 x4 x5 t k - mean (res x0 x1 x2 x3 x4 x5 t)) * (res x0 x1 x2 x3 x4 x5 t k - mean (res x0 x1 x2 x3 x4 x5 t)) := by
  rw [val_main_v39_apply, val_main_v37_apply, val_main_v38_apply, val_main_cst_7_apply, val_main_v36_apply, val_main_cst_6_apply]
  refine congrArg₂ Ideal.div ?_ rfl
  refine (congrArg₂ (· + ·) zero_word (Finset.sum_congr rfl fun k _ => ?_)).trans (zero_add _)
  rw [show idx_main_v36 (idx_main_v37 (ix2 t 0)) k = ix2 t k from ix2_ext rfl rfl, val_main_v35_apply, v34_apply x0 x1 x2 x3 x4 x5 hE]
  rfl

include hE in
theorem v54_apply (t : Fin 16384) (o : Fin 1024) : val_main_v54 x0 x1 x2 x3 x4 x5 x6 x7 (ix2 t o) = out x0 x1 x2 x3 x4 x5 x6 x7 (ix2 t o) := by
  rw [val_main_v54_apply, val_main_v50_apply, val_main_v46_apply, val_main_v41_apply, val_main_v40_apply, val_main_v45_apply, val_main_v44_apply,
    val_main_v43_apply, val_main_v42_apply, val_main_cst_8_apply, val_main_v49_apply, val_main_v48_apply, val_main_v47_apply, val_main_v53_apply,
    val_main_v52_apply, val_main_v51_apply, show idx_main_v40 (ix2 t o) = ix2 t 0 from ix2_ext rfl rfl,
    show idx_main_v45 (ix2 t o) = ix2 t 0 from ix2_ext rfl rfl, v28_apply x0 x1 x2 x3 x4 x5 hE, v32_apply x0 x1 x2 x3 x4 x5 hE, v39_apply x0 x1 x2 x3 x4 x5 hE,
    show idx_main_v47 (idx_main_v48 (idx_main_v49 (ix2 t o))) = ix2 0 o from ix2_ext rfl (Nat.mod_eq_of_lt o.isLt),
    show idx_main_v51 (idx_main_v52 (idx_main_v53 (ix2 t o))) = ix2 0 o from ix2_ext rfl (Nat.mod_eq_of_lt o.isLt)]
  rfl

include hE in
theorem v54_eq : val_main_v54 x0 x1 x2 x3 x4 x5 x6 x7 = out x0 x1 x2 x3 x4 x5 x6 x7 := by
  refine funext fun (j : S16384x1024.Idx) => ?_
  have hj : j = ix2 (j 0) (j 1) := ix2_ext rfl rfl
  rw [hj]
  exact v54_apply x0 x1 x2 x3 x4 x5 x6 x7 hE ..

end Cert.ValuesRefIdeal.Hand

namespace Cert.Proof

theorem values_reference_frame : Cert.quiescent_ValuesRefIdeal := fun m ρ _ =>
  (θ_run Cert.ValuesRefIdeal.defs _ _).mono
    (fun r h => ⟨fun c => (h c).2, Idealize.ShloMosaic.sem_eq_zero_of_no_sems (by decide) r.2⟩)
    (Cert.ValuesRefIdeal.Value.run (F := Ideal) m ρ)

open Cert.ValuesIdeal.Hand in
theorem values_algebraic [Cert.Pre_chosen_and_finite.Facts] : Cert.algebraic_ValuesIdeal_ValuesRefIdeal_pre_chosen_and_finite := by
  intro m ρ m' ρ' hpre hagree
  have hd := fun c => Cert.PeerValues.decode _ _ _ _ _ _ _ _ (hpre c)
  refine ⟨fun c => Cert.PeerValues.out (M0 m c) (M1 m c) (M2 m c) (M3 m c) (M4 m c) (M5 m c) (M6 m c) (M7 m c), ?_, ?_⟩
  · exact (θ_run Cert.ValuesIdeal.defs _ _).mono
      (fun _ h c => ⟨(h c).1.trans (final_eq m c (hd c).1 (hd c).2.1 (hd c).2.2.1 (hd c).2.2.2), (h c).2⟩) (run_blocks m ρ)
  · refine (θ_run Cert.ValuesRefIdeal.defs _ _).mono (fun _ h c => ⟨?_, (h c).2⟩) (Cert.ValuesRefIdeal.Value.run (F := Ideal) m' ρ')
    refine ((h c).1.trans (Cert.ValuesRefIdeal.Read.val_main_v54_eq _ _)).trans ?_
    rw [(hagree c).1, (hagree c).2.1, (hagree c).2.2.1, (hagree c).2.2.2.1, (hagree c).2.2.2.2.1, (hagree c).2.2.2.2.2.1, (hagree c).2.2.2.2.2.2.1,
      (hagree c).2.2.2.2.2.2.2]
    exact Cert.ValuesRefIdeal.Hand.v54_eq _ _ _ _ _ _ _ _ (hd c).1

end Cert.Proof

end
-- ==== Proof.Modulation.lean ====
/- `modulation`: the conditioning through `x * logistic x` and the modulation weights, one stack of eight rows, against the
   rows written one kind at a time. -/
module

public import proofs.«01_k».proof.Defs
public import proofs.«01_k».proof.Proof.Kit
public import Idealize.ShloMosaic.Lib.IdealHost
public import Idealize.ShloMosaic.Lib.Quiescent
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal.Value
public import proofs.«01_k».proof.Proof.Gen.ModulationRefIdeal.Run
public import proofs.«01_k».proof.Proof.Gen.ModulationRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ModulationRows

/-- The stack's row `i`: four sequences' conditioning, the context's, then zeros. -/
def condRow (x : Vec Ideal ⟨2, ![4, 1024]⟩ .f32) (y : Vec Ideal ⟨1, ![1024]⟩ .f32) (i : Fin 8) (d : Fin 1024) : EReal :=
  if h : i.val < 4 then x (ix2 ⟨i.val, h⟩ d) else if i.val < 5 then y (ix1 d) else 0

/-- What both programs compute, over the arrays they take. -/
def spec (x : Vec Ideal ⟨2, ![4, 1024]⟩ .f32) (y : Vec Ideal ⟨1, ![1024]⟩ .f32) (w : Vec Ideal ⟨3, ![1, 1024, 6144]⟩ .f32)
    (b : Vec Ideal ⟨2, ![1, 6144]⟩ .f32) : Vec Ideal ⟨2, ![8, 6144]⟩ .f32 := fun i =>
  (∑ d : Fin 1024, condRow x y (i 0) d * Ideal.logistic (condRow x y (i 0) d) * w (ix3 0 d (i 1))) + b (ix2 0 (i 1))

/-- Four rows, one row and three rows stacked. -/
theorem stack {α : Type} {C : Nat} (x0 : (⟨2, ![4, C]⟩ : Shape).Idx → α) (x1 : (⟨2, ![1, C]⟩ : Shape).Idx → α)
    (x2 : (⟨2, ![3, C]⟩ : Shape).Idx → α) (h) (r : Fin 8) (c : Fin C) :
    concatenate ⟨2, ![8, C]⟩ (0 : Fin 2) [⟨⟨2, ![4, C]⟩, x0⟩, ⟨⟨2, ![1, C]⟩, x1⟩, ⟨⟨2, ![3, C]⟩, x2⟩] h (ix2 r c)
      = if h : r.val < 4 then x0 (ix2 ⟨r.val, h⟩ c) else if r.val < 5 then x1 (ix2 0 c)
        else x2 (ix2 ⟨r.val - 5, by have := r.isLt; omega⟩ c) := by
  have hr := r.isLt
  have off : ∀ {n : Nat} (k : Fin n) (b : Fin 2), b.cast (rfl : 2 = 2) ≠ (0 : Fin 2) → ((ix2 k c : (⟨2, ![n, C]⟩ : Shape).Idx) b).val = ((ix2 r c : (⟨2, ![8, C]⟩ : Shape).Idx) (b.cast rfl)).val := fun k b hb => by
    match b with
    | ⟨0, _⟩ => exact absurd rfl hb
    | ⟨1, _⟩ => rfl
  split_ifs with h0 h1
  · exact concatenate_apply_piece _ _ h _ 0 (by decide : 0 < 3) _ x0 rfl rfl 0 rfl (ix2 ⟨r.val, h0⟩ c) (off _) (by show 0 + r.val = r.val; omega)
  · exact concatenate_apply_piece _ _ h _ 1 (by decide : 1 < 3) _ x1 rfl rfl 4 rfl (ix2 0 c) (off _) (by show 4 + 0 = r.val; omega)
  · exact concatenate_apply_piece _ _ h _ 2 (by decide : 2 < 3) _ x2 rfl rfl 5 rfl (ix2 ⟨r.val - 5, by omega⟩ c) (off _) (by show 5 + (r.val - 5) = r.val; omega)

end Cert.ModulationRows

namespace Cert.ModulationIdeal.Hand

open Cert.ModulationIdeal Cert.ModulationIdeal.Gen Cert.ModulationRows

variable (m : (ℓ : Loc nD τ sig) → Buf (Elt Ideal) ℓ) (ρ : Dev nD → PrngReg)

abbrev M0 (c : Dev nD) : Vec Ideal S4x1024 .f32 := m ((c : Thread nD τ).loc main_arg0)
abbrev M1 (c : Dev nD) : Vec Ideal S1024 .f32 := m ((c : Thread nD τ).loc main_arg1)
abbrev M2 (c : Dev nD) : Vec Ideal S1x1024x6144 .f32 := m ((c : Thread nD τ).loc main_arg2)
abbrev M3 (c : Dev nD) : Vec Ideal S1x6144 .f32 := m ((c : Thread nD τ).loc main_arg3)

set_option maxHeartbeats 2000000 in
theorem V_c (c : Dev nD) : (V m c main_v2 : Vec Ideal S8x1024 .f32) =
    concatenate S8x1024 0 [⟨S4x1024, M0 m c⟩, ⟨S1x1024, broadcastInDim S1x1024 ![1] bcast_S1024_S1x1024_1 (M1 m c)⟩,
      ⟨S3x1024, broadcastInDim S3x1024 ![] bcast_S_S3x1024 (constant (F := Ideal) S_ .f32 0x00000000#32)⟩] concatenates_S4x1024_S1x1024_S3x1024_S8x1024_d0 := by
  simp only [V, hostOps0]
  after_results <;> rfl

set_option maxHeartbeats 2000000 in
theorem V_w (c : Dev nD) : (V m c main_v3 : Vec Ideal S1024x6144 .f32) = shapeCast S1024x6144 (M2 m c) shapeCasts_S1x1024x6144_S1024x6144 := by
  simp only [V, hostOps0]
  after_results <;> rfl

set_option maxHeartbeats 2000000 in
theorem V_b (c : Dev nD) : (V m c main_v5 : Vec Ideal S1x6144 .f32) =
    broadcastInDim S1x6144 ![1] bcast_S6144_S1x6144_1 (shapeCast S6144 (M3 m c) shapeCasts_S1x6144_S6144) := by
  simp only [V, hostOps0]
  after_results <;> rfl

theorem V_c_apply (c : Dev nD) (i : Fin 8) (d : Fin 1024) : (V m c main_v2 : Vec Ideal S8x1024 .f32) (ix2 i d) = condRow (M0 m c) (M1 m c) i d := by
  rw [V_c]
  refine (stack (α := EReal) _ _ _ concatenates_S4x1024_S1x1024_S3x1024_S8x1024_d0 i d).trans ?_
  unfold condRow
  split_ifs
  · rfl
  · exact broadcastInDim_apply _ bcast_S1024_S1x1024_1 (M1 m c) _ (ix1 d) fun a => match a with
      | ⟨0, _⟩ => rfl
  · refine (broadcastInDim_apply _ bcast_S_S3x1024 _ _ (fun a => a.elim0) fun a => a.elim0).trans ?_
    exact Ideal.ofBits_zero_f32

theorem V_b_apply (c : Dev nD) (k : Fin 6144) : (V m c main_v5 : Vec Ideal S1x6144 .f32) (ix2 0 k) = M3 m c (ix2 0 k) := by
  rw [V_b]
  refine (broadcastInDim_apply _ bcast_S6144_S1x6144_1 _ _ (ix1 k) fun a => match a with
    | ⟨0, _⟩ => rfl).trans ?_
  refine shapeCast_apply (s := S1x6144) (t := S6144) _ _ _ _ ?_
  rewrite [Shape.rowMajor_val_two, Shape.rowMajor_val_one]
  show 0 * 6144 + k.val = k.val
  omega

/-- What the body stores, at an index. -/
theorem pay_apply (x0 : Vec Ideal S8x1024 .f32) (x1 : Vec Ideal S1024x1536 .f32) (x2 : Vec Ideal S1x1536 .f32) (i : Fin 8) (k : Fin 1536) :
    k0_pay1 x0 x1 x2 (ix2 i k) = (∑ d : Fin 1024, x0 (ix2 i d) * Ideal.logistic (x0 (ix2 i d)) * x1 (ix2 d k)) + x2 (ix2 0 k) := by
  unfold k0_pay1
  show matmul dot_S8x1024_S1024x1536_S8x1536_1_0_0_1_n_n (some .fp32) _ _ (constant S8x1536 .f32 0x00000000#32) (ix2 i k)
      + broadcastTo S8x1536 _ broadcasts_S1x1536_S8x1536 (ix2 i k) = _
  rw [Kit.bcRow, Kit.castSelf, Kit.mm2 dot_S8x1024_S1024x1536_S8x1536_1_0_0_1_n_n rfl rfl rfl rfl rfl rfl]
  congr 1
  refine Finset.sum_congr rfl fun d _ => ?_
  rw [Kit.castSelf]
  congr 1
  show shapeCast S8x1024 x0 shapeCasts_S8x1024_S8x1024 (ix2 i d) * Ideal.logistic (shapeCast S8x1024 x0 shapeCasts_S8x1024_S8x1024 (ix2 i d)) = _
  rw [Kit.castSelf]

/-! ## The blocks -/

theorem hz2 : (![0, 0] : Fin 2 → Nat) = fun _ => 0 := funext fun a => by fin_cases a <;> rfl

theorem idx_facts : ∀ t : Fin cfg0.N,
    (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val)
    ∧ (cfg0.win 3).flush t = true :=
  (by decide +kernel : ∀ t : Fin grid0.N, _)

variable (t : Fin cfg0.N)

theorem iblk0_apply (c : Dev nD) (i : Fin 8) (d : Fin 1024) : iblk m c 0 t (ix2 i d) = condRow (M0 m c) (M1 m c) i d := by
  obtain ⟨⟨e0, e1⟩, -⟩ := idx_facts t
  have e : ((cfg0.win 0).blk t).view.emb (ix2 i d) = (ix2 i d : S8x1024.Idx) := by
    funext a; apply Fin.ext
    match a with
    | ⟨0, _⟩ => show win0_0.index t (0 : Fin 2) * 8 + 1 * i.val = i.val; omega
    | ⟨1, _⟩ => show win0_0.index t (1 : Fin 2) * 1024 + 1 * d.val = d.val; omega
  show V m c main_v2 (((cfg0.win 0).blk t).view.emb (ix2 i d)) = _
  rw [e]
  exact V_c_apply m c i d

variable (q : Fin 4) (ht : t.val = q.val)
include ht

theorem iblk1_apply (c : Dev nD) (d : Fin 1024) (k : Fin 1536) :
    iblk m c 1 t (ix2 d k) = M2 m c (ix3 0 d ⟨q.val * 1536 + k.val, by omega⟩) := by
  obtain ⟨-, ⟨e0, e1⟩, -⟩ := idx_facts t
  have e : ((cfg0.win 1).blk t).view.emb (ix2 d k) = (ix2 d ⟨q.val * 1536 + k.val, by omega⟩ : S1024x6144.Idx) := by
    funext a; apply Fin.ext
    match a with
    | ⟨0, _⟩ => show win0_1.index t (0 : Fin 2) * 1024 + 1 * d.val = d.val; omega
    | ⟨1, _⟩ => show win0_1.index t (1 : Fin 2) * 1536 + 1 * k.val = q.val * 1536 + k.val; omega
  show V m c main_v3 (((cfg0.win 1).blk t).view.emb (ix2 d k)) = _
  rw [e, V_w]
  exact Kit.cast32 (M2 m c) shapeCasts_S1x1024x6144_S1024x6144 d _

theorem iblk2_apply (c : Dev nD) (k : Fin 1536) : iblk m c 2 t (ix2 0 k) = M3 m c (ix2 0 ⟨q.val * 1536 + k.val, by omega⟩) := by
  obtain ⟨-, -, ⟨e0, e1⟩, -⟩ := idx_facts t
  have e : ((cfg0.win 2).blk t).view.emb (ix2 0 k) = (ix2 0 ⟨q.val * 1536 + k.val, by omega⟩ : S1x6144.Idx) := by
    funext a; apply Fin.ext
    match a with
    | ⟨0, _⟩ => show win0_2.index t (0 : Fin 2) * 1 + 1 * 0 = 0; omega
    | ⟨1, _⟩ => show win0_2.index t (1 : Fin 2) * 1536 + 1 * k.val = q.val * 1536 + k.val; omega
  show V m c main_v5 (((cfg0.win 2).blk t).view.emb (ix2 0 k)) = _
  rw [e]
  exact V_b_apply m c _

theorem emb3 (i : Fin 8) (k : Fin 1536) : ((cfg0.win 3).blk t).view.emb (ix2 i k) = (ix2 i ⟨q.val * 1536 + k.val, by omega⟩ : S8x6144.Idx) := by
  obtain ⟨-, -, -, ⟨e0, e1⟩, -⟩ := idx_facts t
  funext a; apply Fin.ext
  match a with
  | ⟨0, _⟩ => show win0_3.index t (0 : Fin 2) * 8 + 1 * i.val = i.val; omega
  | ⟨1, _⟩ => show win0_3.index t (1 : Fin 2) * 1536 + 1 * k.val = q.val * 1536 + k.val; omega

/-- The array that the run leaves, at an index of block `t`. -/
theorem final_at (c : Dev nD) (i : Fin 8) (k : Fin 1536) :
    (dats m 0 c).arrAt 3 cfg0.N (ix2 i ⟨q.val * 1536 + k.val, by omega⟩ : S8x6144.Idx)
      = spec (M0 m c) (M1 m c) (M2 m c) (M3 m c) (ix2 i ⟨q.val * 1536 + k.val, by omega⟩) := by
  have h := congrFun (Value.blocks3 m c t (idx_facts t).2.2.2.2) (ix2 i k)
  rw [Value.flushed3] at h
  have h' : (dats m 0 c).arrAt 3 cfg0.N (((cfg0.win 3).blk t).view.emb (ix2 i k)) = out0_3 (iblk m c 0 t) (iblk m c 1 t) (iblk m c 2 t) (ix2 i k) := h
  rw [emb3 t q ht] at h'
  refine h'.trans ?_
  unfold out0_3
  rw [View.canon_unit_zero hz2, View.ld_unit_zero hz2, View.ld_unit_zero hz2, View.ld_unit_zero hz2, pay_apply, iblk2_apply m t q ht]
  show _ = (∑ d : Fin 1024, _ * _) + _
  congr 1
  refine Finset.sum_congr rfl fun d _ => ?_
  rw [iblk0_apply m t, iblk1_apply m t q ht]

omit ht in
theorem final_eq (c : Dev nD) : (dats m 0 c).arrAt 3 cfg0.N = spec (M0 m c) (M1 m c) (M2 m c) (M3 m c) := by
  refine funext fun (j : S8x6144.Idx) => ?_
  have h1 : (j 1).val < 6144 := (j 1).isLt
  have hj : j = ix2 (j 0 : Fin 8) ⟨(⟨(j 1).val / 1536, by omega⟩ : Fin 4).val * 1536 + (⟨(j 1).val % 1536, by omega⟩ : Fin 1536).val, by dsimp only; omega⟩ :=
    Kit.ix2_ext rfl (by show (j 1).val = (j 1).val / 1536 * 1536 + (j 1).val % 1536; omega)
  rw [hj]
  exact final_at m ⟨(j 1).val / 1536, by show _ < 4; omega⟩ ⟨(j 1).val / 1536, by omega⟩ rfl c (j 0) ⟨(j 1).val % 1536, by omega⟩

end Cert.ModulationIdeal.Hand

namespace Cert.ModulationRefIdeal.Hand

open Cert.ModulationRefIdeal Cert.ModulationRefIdeal.Gen Cert.ModulationRefIdeal.Read Cert.ModulationRows

variable (x0 : Vec Ideal S4x1024 .f32) (x1 : Vec Ideal S1024 .f32) (x2 : Vec Ideal S1x1024x6144 .f32) (x3 : Vec Ideal S1x6144 .f32)

theorem silu0 (i : Fin 4) (d : Fin 1024) : val_main_v2 x0 (ix2 i d) = x0 (ix2 i d) * Ideal.logistic (x0 (ix2 i d)) := by
  rw [val_main_v2_apply, val_main_call0_v5_apply, val_main_call0_v4_apply, val_main_call0_cst_0_apply, val_main_call0_v3_apply, val_main_call0_v2_apply,
    val_main_call0_cst_apply, val_main_call0_v1_apply, val_main_call0_v0_apply]
  show _ * Ideal.div (Ideal.ofBits .f32 0x3F800000#32) (Ideal.ofBits .f32 0x3F800000#32 + Ideal.exp (-x0 (ix2 i d))) = _
  rw [Ideal.ofBits_one_f32]
  rfl

theorem silu1 (d : Fin 1024) : val_main_v7 x1 (ix1 d) = x1 (ix1 d) * Ideal.logistic (x1 (ix1 d)) := by
  rw [val_main_v7_apply, val_main_call1_v5_apply, val_main_call1_v4_apply, val_main_call1_cst_0_apply, val_main_call1_v3_apply, val_main_call1_v2_apply,
    val_main_call1_cst_apply, val_main_call1_v1_apply, val_main_call1_v0_apply]
  show _ * Ideal.div (Ideal.ofBits .f32 0x3F800000#32) (Ideal.ofBits .f32 0x3F800000#32 + Ideal.exp (-x1 (ix1 d))) = _
  rw [Ideal.ofBits_one_f32]
  rfl

theorem ix1_ext {a : Nat} {i j : (⟨1, ![a]⟩ : Shape).Idx} (h0 : (i 0).val = (j 0).val) : i = j :=
  funext fun x => Fin.ext (match x with | ⟨0, _⟩ => h0)

theorem v0_apply (d : Fin 1024) (k : Fin 6144) : val_main_v0 x2 (ix2 d k) = x2 (ix3 0 d k) := by
  unfold val_main_v0
  exact Kit.cast32 x2 _ d k

theorem v1_apply (k : Fin 6144) : val_main_v1 x3 (ix1 k) = x3 (ix2 0 k) := by
  rw [val_main_v1_apply]
  exact congrArg x3 (Kit.ix2_ext rfl (Nat.mod_eq_of_lt k.isLt))

theorem v12_eq : val_main_v12 x0 x1 x2 x3 = spec x0 x1 x2 x3 := by
  refine funext fun (j : S8x6144.Idx) => ?_
  obtain ⟨i, k, rfl⟩ : ∃ (i : Fin 8) (k : Fin 6144), j = ix2 i k := ⟨j 0, j 1, Kit.ix2_ext rfl rfl⟩
  unfold val_main_v12
  refine (stack (α := EReal) _ _ _ concatenates_S4x6144_S1x6144_S3x6144_S8x6144_d0 i k).trans ?_
  show _ = (∑ d : Fin 1024, condRow x0 x1 i d * Ideal.logistic (condRow x0 x1 i d) * x2 (ix3 0 d k)) + x3 (ix2 0 k)
  unfold condRow
  by_cases h0 : i.val < 4
  · simp only [dif_pos h0]
    rw [val_main_v6_apply, val_main_v3_apply, val_main_v5_apply, val_main_v4_apply]
    show (∑ d : Fin 1024, _) + _ = _
    rw [show idx_main_v4 (idx_main_v5 (ix2 (⟨i.val, h0⟩ : Fin 4) k)) = ix1 k from ix1_ext rfl, v1_apply]
    congr 1
    refine Finset.sum_congr rfl fun d _ => ?_
    rw [show lidx_main_v3 (ix2 (⟨i.val, h0⟩ : Fin 4) k) d = ix2 ⟨i.val, h0⟩ d from Kit.ix2_ext rfl rfl,
      show ridx_main_v3 (ix2 (⟨i.val, h0⟩ : Fin 4) k) d = ix2 d k from Kit.ix2_ext rfl rfl, silu0, v0_apply]
  by_cases h1 : i.val < 5
  · simp only [dif_neg h0, if_pos h1]
    rw [val_main_v10_apply, show idx_main_v10 (ix2 (0 : Fin 1) k) = ix1 k from ix1_ext rfl, val_main_v9_apply, val_main_v8_apply, v1_apply]
    show (∑ d : Fin 1024, _) + _ = _
    congr 1
    refine Finset.sum_congr rfl fun d _ => ?_
    rw [show lidx_main_v8 (ix1 k) d = ix1 d from ix1_ext rfl, show ridx_main_v8 (ix1 k) d = ix2 d k from Kit.ix2_ext rfl rfl, silu1, v0_apply]
  · simp only [dif_neg h0, if_neg h1]
    rw [val_main_v11_apply, show idx_main_v11 (ix2 (⟨i.val - 5, by have := i.isLt; omega⟩ : Fin 3) k) = ix1 k from ix1_ext rfl, v1_apply]
    simp

end Cert.ModulationRefIdeal.Hand

namespace Cert.Proof

theorem modulation_reference_frame : Cert.quiescent_ModulationRefIdeal := fun m ρ _ =>
  (θ_run Cert.ModulationRefIdeal.defs _ _).mono
    (fun r h => ⟨fun c => (h c).2, Idealize.ShloMosaic.sem_eq_zero_of_no_sems (by decide) r.2⟩)
    (Cert.ModulationRefIdeal.Value.run (F := Ideal) m ρ)

theorem modulation_algebraic : Cert.algebraic_ModulationIdeal_ModulationRefIdeal := by
  intro m ρ m' ρ' _ hagree
  refine ⟨fun c => Cert.ModulationRows.spec (Cert.ModulationIdeal.Hand.M0 m c) (Cert.ModulationIdeal.Hand.M1 m c) (Cert.ModulationIdeal.Hand.M2 m c) (Cert.ModulationIdeal.Hand.M3 m c), ?_, ?_⟩
  · exact (θ_run Cert.ModulationIdeal.defs _ _).mono (fun _ h c => ⟨(h c).1.trans (Cert.ModulationIdeal.Hand.final_eq m c), (h c).2⟩)
      (Cert.ModulationIdeal.Value.run_blocks (F := Ideal) m ρ)
  · refine (θ_run Cert.ModulationRefIdeal.defs _ _).mono (fun _ h c => ⟨?_, (h c).2⟩) (Cert.ModulationRefIdeal.Value.run (F := Ideal) m' ρ')
    refine ((h c).1.trans (Cert.ModulationRefIdeal.Read.val_main_v12_eq _ _ _ _)).trans ?_
    rw [(hagree c).1, (hagree c).2.1, (hagree c).2.2.1, (hagree c).2.2.2]
    exact Cert.ModulationRefIdeal.Hand.v12_eq _ _ _ _

end Cert.Proof

end
-- ==== Proof.CtxProj.lean ====
/- `ctx_kv_proj`: the modulated context times the packed key and value weights, against the two products written plainly,
   each head padded to 128 lanes. -/
module

public import proofs.«01_k».proof.Defs
public import proofs.«01_k».proof.Proof.InProj
public import proofs.«01_k».proof.Proof.Gen.CtxProj
public import proofs.«01_k».proof.Proof.Gen.CtxProj.Skeleton
public import proofs.«01_k».proof.Proof.Gen.CtxProj.Launch
public import proofs.«01_k».proof.Proof.Gen.CtxProj.Points
public import proofs.«01_k».proof.Proof.Gen.CtxProj.Frame
public import proofs.«01_k».proof.Proof.Gen.CtxProjIdeal.Value
public import proofs.«01_k».proof.Proof.Gen.CtxProjRefIdeal.Run
public import proofs.«01_k».proof.Proof.Gen.CtxProjRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)

namespace Cert.CtxProjCols

/-- The result's column `col` out of the 2304 projected ones: the two key heads, then the two value heads, each head's 64
    lanes followed by 64 zeros. -/
def kvOf (g : Fin 2304 → EReal) (col : Fin 512) : EReal :=
  if h : col.val < 256 then
    if h' : col.val % 128 < 64 then g ⟨2048 + (col.val / 128 * 64 + col.val % 128), by omega⟩ else 0
  else
    if h' : (col.val - 256) % 128 < 64 then
      g ⟨2176 + ((col.val - 256) / 128 * 64 + (col.val - 256) % 128), by have := col.isLt; omega⟩ else 0

/-- A sum over the contraction with packed weights is the packed sum. -/
theorem sum_kvOf {n : Nat} (h : Fin n → EReal) (w : Fin n → Fin 2304 → EReal) (col : Fin 512) :
    ∑ d, h d * kvOf (w d) col = kvOf (fun k => ∑ d, h d * w d k) col := by
  unfold kvOf
  split_ifs <;> simp

/-- Two pieces side by side. -/
theorem concat2 {α : Type} {R : Nat} (x0 x1 : (⟨2, ![R, 256]⟩ : Shape).Idx → α) (h) (r : Fin R) (col : Fin 512) :
    concatenate ⟨2, ![R, 512]⟩ (1 : Fin 2) [⟨⟨2, ![R, 256]⟩, x0⟩, ⟨⟨2, ![R, 256]⟩, x1⟩] h (ix2 r col)
      = if h : col.val < 256 then x0 (ix2 r ⟨col.val, h⟩) else x1 (ix2 r ⟨col.val - 256, by have := col.isLt; omega⟩) := by
  have hcol := col.isLt
  have off : ∀ {n : Nat} (k : Fin n) (b : Fin 2), b.cast (rfl : 2 = 2) ≠ (1 : Fin 2) → ((ix2 r k : (⟨2, ![R, n]⟩ : Shape).Idx) b).val = ((ix2 r col : (⟨2, ![R, 512]⟩ : Shape).Idx) (b.cast rfl)).val := fun k b hb => by
    match b with
    | ⟨0, _⟩ => rfl
    | ⟨1, _⟩ => exact absurd rfl hb
  split_ifs with h0
  · exact concatenate_apply_piece _ _ h _ 0 (by decide : 0 < 2) _ x0 rfl rfl 0 rfl (ix2 r ⟨col.val, h0⟩) (off _) (by show 0 + col.val = col.val; omega)
  · exact concatenate_apply_piece _ _ h _ 1 (by decide : 1 < 2) _ x1 rfl rfl 256 rfl (ix2 r ⟨col.val - 256, by omega⟩) (off _) (by show 256 + (col.val - 256) = col.val; omega)

/-- The same with a leading batch axis. -/
theorem concat2b {α : Type} {B R : Nat} (x0 x1 : (⟨3, ![B, R, 256]⟩ : Shape).Idx → α) (h) (b : Fin B) (r : Fin R) (col : Fin 512) :
    concatenate ⟨3, ![B, R, 512]⟩ (2 : Fin 3) [⟨⟨3, ![B, R, 256]⟩, x0⟩, ⟨⟨3, ![B, R, 256]⟩, x1⟩] h (ix3 b r col)
      = if h : col.val < 256 then x0 (ix3 b r ⟨col.val, h⟩) else x1 (ix3 b r ⟨col.val - 256, by have := col.isLt; omega⟩) := by
  have hcol := col.isLt
  have off : ∀ {n : Nat} (k : Fin n) (a : Fin 3), a.cast (rfl : 3 = 3) ≠ (2 : Fin 3) → ((ix3 b r k : (⟨3, ![B, R, n]⟩ : Shape).Idx) a).val = ((ix3 b r col : (⟨3, ![B, R, 512]⟩ : Shape).Idx) (a.cast rfl)).val := fun k a hb => by
    match a with
    | ⟨0, _⟩ => rfl
    | ⟨1, _⟩ => rfl
    | ⟨2, _⟩ => exact absurd rfl hb
  split_ifs with h0
  · exact concatenate_apply_piece _ _ h _ 0 (by decide : 0 < 2) _ x0 rfl rfl 0 rfl (ix3 b r ⟨col.val, h0⟩) (off _) (by show 0 + col.val = col.val; omega)
  · exact concatenate_apply_piece _ _ h _ 1 (by decide : 1 < 2) _ x1 rfl rfl 256 rfl (ix3 b r ⟨col.val - 256, by omega⟩) (off _) (by show 256 + (col.val - 256) = col.val; omega)

/-- What both programs compute, over the arrays they take. -/
def spec (x : Vec Ideal ⟨3, ![4, 256, 1024]⟩ .f32) (sc sh : Vec Ideal ⟨3, ![1, 1, 1024]⟩ .f32)
    (w : Vec Ideal ⟨3, ![1, 1024, 2304]⟩ .f32) : Vec Ideal ⟨3, ![4, 256, 512]⟩ .f32 := fun i =>
  kvOf (fun k => ∑ d : Fin 1024, (x (ix3 (i 0) (i 1) d) * (1 + sc (ix3 0 0 d)) + sh (ix3 0 0 d)) * w (ix3 0 d k)) (i 2)

end Cert.CtxProjCols

namespace Cert.CtxProjIdeal.Hand

open Cert.CtxProjIdeal Cert.CtxProjIdeal.Gen Cert.CtxProjCols

variable (m : (ℓ : Loc nD τ sig) → Buf (Elt Ideal) ℓ) (ρ : Dev nD → PrngReg)

abbrev M0 (c : Dev nD) : Vec Ideal S4x256x1024 .f32 := m ((c : Thread nD τ).loc main_arg0)
abbrev M1 (c : Dev nD) : Vec Ideal S1x1x1024 .f32 := m ((c : Thread nD τ).loc main_arg1)
abbrev M2 (c : Dev nD) : Vec Ideal S1x1x1024 .f32 := m ((c : Thread nD τ).loc main_arg2)
abbrev M3 (c : Dev nD) : Vec Ideal S1x1024x2304 .f32 := m ((c : Thread nD τ).loc main_arg3)

/-- The weights without their unit axis. -/
abbrev wrow (c : Dev nD) : Vec Ideal S1024x2304 .f32 := shapeCast S1024x2304 (M3 m c) shapeCasts_S1x1024x2304_S1024x2304

set_option maxHeartbeats 2000000 in
theorem V_w (c : Dev nD) : (V m c main_v10 : Vec Ideal S1024x512 .bf16) = truncf .bf16
    (concatenate S1024x512 1
      [⟨S1024x256, shapeCast S1024x256 (pad S1024x2x128 ![0, 0, 0] ![0, 0, 64] ![0, 0, 0] (shapeCast S1024x2x64 (extractStridedSlice S1024x128 ![0, 2048] (wrow m c) slices_S1024x2304_S1024x128_0_2048) shapeCasts_S1024x128_S1024x2x64) (sitofp (F := Ideal) .f32 (constantI S_ 32 0#32)) pads_S1024x2x64_S1024x2x128_000_000_0640 h_S_) shapeCasts_S1024x2x128_S1024x256⟩,
       ⟨S1024x256, shapeCast S1024x256 (pad S1024x2x128 ![0, 0, 0] ![0, 0, 64] ![0, 0, 0] (shapeCast S1024x2x64 (extractStridedSlice S1024x128 ![0, 2176] (wrow m c) slices_S1024x2304_S1024x128_0_2176) shapeCasts_S1024x128_S1024x2x64) (sitofp (F := Ideal) .f32 (constantI S_ 32 0#32)) pads_S1024x2x64_S1024x2x128_000_000_0640 h_S_) shapeCasts_S1024x2x128_S1024x256⟩]
      concatenates_S1024x256_S1024x256_S1024x512_d1) bitsLt_bf16_f32 := by
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results <;> rfl

/-- The packed weights at an index. -/
theorem V_w_apply (c : Dev nD) (d : Fin 1024) (col : Fin 512) :
    (V m c main_v10 : Vec Ideal S1024x512 .bf16) (ix2 d col) = kvOf (fun k => M3 m c (ix3 0 d k)) col := by
  rw [V_w]
  refine (concat2 (α := EReal) _ _ concatenates_S1024x256_S1024x256_S1024x512_d1 d col).trans ?_
  have hc := col.isLt
  unfold kvOf
  have sl : ∀ {n : Nat} (o : Nat) (h : S1024x2304.Slices ![0, o] ⟨2, ![1024, n]⟩) (k : Fin n) (hk : o + k.val < 2304),
      extractStridedSlice ⟨2, ![1024, n]⟩ ![0, o] (wrow m c) h (ix2 d k) = M3 m c (ix3 0 d ⟨o + k.val, hk⟩) := fun o h k hk => by
    refine Eq.trans ?_ (Kit.cast32 (M3 m c) shapeCasts_S1x1024x2304_S1024x2304 d ⟨o + k.val, hk⟩)
    exact extractStridedSlice_apply _ _ h _ _ (fun a => match a with
      | ⟨0, _⟩ => by show d.val = 0 + d.val; omega
      | ⟨1, _⟩ => by show o + k.val = o + k.val; rfl)
  by_cases h0 : col.val < 256
  · rw [dif_pos h0, dif_pos h0]
    refine (Kit.padHeads2 (n := 2) rfl rfl _ _ _ _ _ _ d ⟨col.val, h0⟩).trans ?_
    by_cases h' : col.val % 128 < 64
    · rw [dif_pos h', dif_pos h']
      exact sl 2048 _ _ _
    · rw [dif_neg h', dif_neg h']
      exact InProjCols.pad_zero _
  rw [dif_neg h0, dif_neg h0]
  refine (Kit.padHeads2 (n := 2) rfl rfl _ _ _ _ _ _ d ⟨col.val - 256, by omega⟩).trans ?_
  by_cases h' : (col.val - 256) % 128 < 64
  · rw [dif_pos h', dif_pos h']
    exact sl 2176 _ _ _
  · rw [dif_neg h', dif_neg h']
    exact InProjCols.pad_zero _

/-- What the body stores, at an index. -/
theorem pay_apply (x0 : Vec Ideal S1x256x1024 .f32) (x1 x2 : Vec Ideal S1x1x1024 .f32) (x3 : Vec Ideal S1024x512 .bf16) (r : Fin 256) (col : Fin 512) :
    k0_pay1 x0 x1 x2 x3 (ix3 0 r col) = ∑ d : Fin 1024, (x0 (ix3 0 r d) * (1 + x1 (ix3 0 0 d)) + x2 (ix3 0 0 d)) * x3 (ix2 d col) := by
  unfold k0_pay1
  refine (Kit.cast23 _ _ r col).trans ?_
  refine (Kit.mm2 dot_S256x1024_S1024x512_S256x512_1_0_0_1_n_n rfl rfl rfl rfl rfl rfl none _ _ r col).trans (Finset.sum_congr rfl fun d _ => ?_)
  rw [Kit.castSelf]
  congr 1
  show shapeCast S256x1024 x0 shapeCasts_S1x256x1024_S256x1024 (ix2 r d)
      * broadcastTo S256x1024 (addf (broadcast S1x1024 (Scalar.ofBits (F := Ideal) .f32 0x3F800000#32)) (shapeCast S1x1024 x1 shapeCasts_S1x1x1024_S1x1024)) broadcasts_S1x1024_S256x1024 (ix2 r d)
      + broadcastTo S256x1024 (shapeCast S1x1024 x2 shapeCasts_S1x1x1024_S1x1024) broadcasts_S1x1024_S256x1024 (ix2 r d) = _
  rw [Kit.cast32, Kit.bcRow, Kit.bcRow, Kit.cast32]
  show _ * (Ideal.ofBits .f32 0x3F800000#32 + shapeCast S1x1024 x1 shapeCasts_S1x1x1024_S1x1024 (ix2 0 d)) + _ = _
  rw [Kit.cast32, Ideal.ofBits_one_f32]

/-! ## The blocks -/

theorem hz2 : (![0, 0] : Fin 2 → Nat) = fun _ => 0 := funext fun a => by fin_cases a <;> rfl
theorem hz3 : (![0, 0, 0] : Fin 3 → Nat) = fun _ => 0 := funext fun a => by fin_cases a <;> rfl

theorem idx_facts : ∀ t : Fin cfg0.N,
    (win0_0.index t (0 : Fin 3) = t.val ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 3) = t.val ∧ win0_4.index t (1 : Fin 3) = 0 ∧ win0_4.index t (2 : Fin 3) = 0)
    ∧ (cfg0.win 4).flush t = true :=
  (by decide +kernel : ∀ t : Fin grid0.N, _)

variable (t : Fin cfg0.N)

theorem iblk1_apply (c : Dev nD) (d : Fin 1024) : iblk m c 1 t (ix3 0 0 d) = M1 m c (ix3 0 0 d) := by
  obtain ⟨-, ⟨e0, e1, e2⟩, -⟩ := idx_facts t
  have e : ((cfg0.win 1).blk t).view.emb (ix3 0 0 d) = (ix3 0 0 d : S1x1x1024.Idx) := by
    funext a; apply Fin.ext
    match a with
    | ⟨0, _⟩ => show win0_1.index t (0 : Fin 3) * 1 + 1 * 0 = 0; omega
    | ⟨1, _⟩ => show win0_1.index t (1 : Fin 3) * 1 + 1 * 0 = 0; omega
    | ⟨2, _⟩ => show win0_1.index t (2 : Fin 3) * 1024 + 1 * d.val = d.val; omega
  show V m c main_arg1 (((cfg0.win 1).blk t).view.emb (ix3 0 0 d)) = _
  rw [e, V_main_arg1]

theorem iblk2_apply (c : Dev nD) (d : Fin 1024) : iblk m c 2 t (ix3 0 0 d) = M2 m c (ix3 0 0 d) := by
  obtain ⟨-, -, ⟨e0, e1, e2⟩, -⟩ := idx_facts t
  have e : ((cfg0.win 2).blk t).view.emb (ix3 0 0 d) = (ix3 0 0 d : S1x1x1024.Idx) := by
    funext a; apply Fin.ext
    match a with
    | ⟨0, _⟩ => show win0_2.index t (0 : Fin 3) * 1 + 1 * 0 = 0; omega
    | ⟨1, _⟩ => show win0_2.index t (1 : Fin 3) * 1 + 1 * 0 = 0; omega
    | ⟨2, _⟩ => show win0_2.index t (2 : Fin 3) * 1024 + 1 * d.val = d.val; omega
  show V m c main_arg2 (((cfg0.win 2).blk t).view.emb (ix3 0 0 d)) = _
  rw [e, V_main_arg2]

theorem iblk3_apply (c : Dev nD) (d : Fin 1024) (col : Fin 512) :
    iblk m c 3 t (ix2 d col) = kvOf (fun k => M3 m c (ix3 0 d k)) col := by
  obtain ⟨-, -, -, ⟨e0, e1⟩, -⟩ := idx_facts t
  have e : ((cfg0.win 3).blk t).view.emb (ix2 d col) = (ix2 d col : S1024x512.Idx) := by
    funext a; apply Fin.ext
    match a with
    | ⟨0, _⟩ => show win0_3.index t (0 : Fin 2) * 1024 + 1 * d.val = d.val; omega
    | ⟨1, _⟩ => show win0_3.index t (1 : Fin 2) * 512 + 1 * col.val = col.val; omega
  show V m c main_v10 (((cfg0.win 3).blk t).view.emb (ix2 d col)) = _
  rw [e]
  exact V_w_apply m c d col

variable (b : Fin 4) (ht : t.val = b.val)
include ht

theorem iblk0_apply (c : Dev nD) (r : Fin 256) (d : Fin 1024) : iblk m c 0 t (ix3 0 r d) = M0 m c (ix3 b r d) := by
  obtain ⟨⟨e0, e1, e2⟩, -⟩ := idx_facts t
  have e : ((cfg0.win 0).blk t).view.emb (ix3 0 r d) = (ix3 b r d : S4x256x1024.Idx) := by
    funext a; apply Fin.ext
    match a with
    | ⟨0, _⟩ => show win0_0.index t (0 : Fin 3) * 1 + 1 * 0 = b.val; omega
    | ⟨1, _⟩ => show win0_0.index t (1 : Fin 3) * 256 + 1 * r.val = r.val; omega
    | ⟨2, _⟩ => show win0_0.index t (2 : Fin 3) * 1024 + 1 * d.val = d.val; omega
  show V m c main_arg0 (((cfg0.win 0).blk t).view.emb (ix3 0 r d)) = _
  rw [e, V_main_arg0]

theorem emb4 (r : Fin 256) (col : Fin 512) : ((cfg0.win 4).blk t).view.emb (ix3 0 r col) = (ix3 b r col : S4x256x512.Idx) := by
  obtain ⟨-, -, -, -, ⟨e0, e1, e2⟩, -⟩ := idx_facts t
  funext a; apply Fin.ext
  match a with
  | ⟨0, _⟩ => show win0_4.index t (0 : Fin 3) * 1 + 1 * 0 = b.val; omega
  | ⟨1, _⟩ => show win0_4.index t (1 : Fin 3) * 256 + 1 * r.val = r.val; omega
  | ⟨2, _⟩ => show win0_4.index t (2 : Fin 3) * 512 + 1 * col.val = col.val; omega

/-- The array that the run leaves, at an index of block `t`. -/
theorem final_at (c : Dev nD) (r : Fin 256) (col : Fin 512) :
    (dats m 0 c).arrAt 4 cfg0.N (ix3 b r col : S4x256x512.Idx) = spec (M0 m c) (M1 m c) (M2 m c) (M3 m c) (ix3 b r col) := by
  have h := congrFun (Value.blocks4 m c t (idx_facts t).2.2.2.2.2) (ix3 0 r col)
  rw [Value.flushed4] at h
  have h' : (dats m 0 c).arrAt 4 cfg0.N (((cfg0.win 4).blk t).view.emb (ix3 0 r col)) = out0_4 (iblk m c 0 t) (iblk m c 1 t) (iblk m c 2 t) (iblk m c 3 t) (ix3 0 r col) := h
  rw [emb4 t b ht] at h'
  refine h'.trans ?_
  unfold out0_4
  rw [View.canon_unit_zero hz3, View.ld_unit_zero hz3, View.ld_unit_zero hz3, View.ld_unit_zero hz3, View.ld_unit_zero hz2, pay_apply]
  show _ = kvOf (fun k => ∑ d : Fin 1024, _ * _) col
  rw [← sum_kvOf]
  refine Finset.sum_congr rfl fun d _ => ?_
  rw [iblk0_apply m t b ht, iblk1_apply m t, iblk2_apply m t, iblk3_apply m t]

omit ht in
theorem final_eq (c : Dev nD) : (dats m 0 c).arrAt 4 cfg0.N = spec (M0 m c) (M1 m c) (M2 m c) (M3 m c) := by
  refine funext fun (j : S4x256x512.Idx) => ?_
  obtain ⟨b, r, col, rfl⟩ : ∃ (b : Fin 4) (r : Fin 256) (col : Fin 512), j = ix3 b r col := ⟨j 0, j 1, j 2, Kit.ix3_ext rfl rfl rfl⟩
  exact final_at m ⟨b.val, by show _ < 4; omega⟩ b rfl c r col

end Cert.CtxProjIdeal.Hand

namespace Cert.CtxProjRefIdeal.Hand

open Cert.CtxProjRefIdeal Cert.CtxProjRefIdeal.Gen Cert.CtxProjRefIdeal.Read Cert.CtxProjCols

variable (x0 : Vec Ideal S4x256x1024 .f32) (x1 x2 : Vec Ideal S1x1x1024 .f32) (x3 : Vec Ideal S1x1024x2304 .f32)

/-- Entry (b, r, k) of the projection. -/
abbrev prod (b : Fin 4) (r : Fin 256) (k : Fin 2304) : EReal :=
  ∑ d : Fin 1024, (x0 (ix3 b r d) * (1 + x1 (ix3 0 0 d)) + x2 (ix3 0 0 d)) * x3 (ix3 0 d k)

theorem v5_apply (b : Fin 4) (r : Fin 256) (d : Fin 1024) :
    val_main_v5 x0 x1 x2 (ix3 b r d) = x0 (ix3 b r d) * (1 + x1 (ix3 0 0 d)) + x2 (ix3 0 0 d) := by
  rw [val_main_v5_apply, val_main_v3_apply, val_main_v4_apply, val_main_v2_apply, val_main_v1_apply, val_main_v0_apply, val_main_cst_apply,
    show idx_main_v4 (ix3 b r d) = ix3 0 0 d from Kit.ix3_ext rfl rfl rfl, show idx_main_v2 (ix3 b r d) = ix3 0 0 d from Kit.ix3_ext rfl rfl rfl]
  show _ * (Ideal.ofBits .f32 0x3F800000#32 + _) + _ = _
  rw [Ideal.ofBits_one_f32]

theorem v6_apply (d : Fin 1024) (k : Fin 2304) : val_main_v6 x3 (ix2 d k) = x3 (ix3 0 d k) := by
  unfold val_main_v6
  exact Kit.cast32 x3 _ d k

theorem v8_apply (b : Fin 4) (r : Fin 256) (k : Fin 128) :
    val_main_v8 x0 x1 x2 x3 (ix3 b r k) = prod x0 x1 x2 x3 b r ⟨2048 + k.val, by omega⟩ := by
  rw [val_main_v8_apply]
  refine Finset.sum_congr rfl fun d _ => ?_
  rw [show lidx_main_v8 (ix3 b r k) d = ix3 b r d from Kit.ix3_ext rfl rfl rfl, show ridx_main_v8 (ix3 b r k) d = ix2 d k from Kit.ix2_ext rfl rfl, v5_apply,
    val_main_v7_apply, show idx_main_v7 (ix2 d k) = ix2 d ⟨2048 + k.val, by omega⟩ from Kit.ix2_ext rfl rfl, v6_apply]

theorem v13_apply (b : Fin 4) (r : Fin 256) (k : Fin 128) :
    val_main_v13 x0 x1 x2 x3 (ix3 b r k) = prod x0 x1 x2 x3 b r ⟨2176 + k.val, by omega⟩ := by
  rw [val_main_v13_apply]
  refine Finset.sum_congr rfl fun d _ => ?_
  rw [show lidx_main_v13 (ix3 b r k) d = ix3 b r d from Kit.ix3_ext rfl rfl rfl, show ridx_main_v13 (ix3 b r k) d = ix2 d k from Kit.ix2_ext rfl rfl, v5_apply,
    val_main_v12_apply, show idx_main_v12 (ix2 d k) = ix2 d ⟨2176 + k.val, by omega⟩ from Kit.ix2_ext rfl rfl, v6_apply]

theorem v17_eq : val_main_v17 x0 x1 x2 x3 = spec x0 x1 x2 x3 := by
  refine funext fun (j : S4x256x512.Idx) => ?_
  obtain ⟨b, r, col, rfl⟩ : ∃ (b : Fin 4) (r : Fin 256) (col : Fin 512), j = ix3 b r col := ⟨j 0, j 1, j 2, Kit.ix3_ext rfl rfl rfl⟩
  unfold val_main_v17
  refine (concat2b (α := EReal) _ _ concatenates_S4x256x256_S4x256x256_S4x256x512_d2 b r col).trans ?_
  have hc := col.isLt
  show _ = kvOf (prod x0 x1 x2 x3 b r) col
  unfold kvOf
  by_cases h0 : col.val < 256
  · rw [dif_pos h0, dif_pos h0]
    unfold val_main_v11 val_main_v10 val_main_v9
    refine (Kit.padHeads3 (n := 2) rfl rfl _ _ _ _ _ _ b r ⟨col.val, h0⟩).trans ?_
    by_cases h' : col.val % 128 < 64
    · rw [dif_pos h', dif_pos h']
      exact v8_apply x0 x1 x2 x3 b r _
    · rw [dif_neg h', dif_neg h']
      exact InProjCols.pad_zero _
  rw [dif_neg h0, dif_neg h0]
  unfold val_main_v16 val_main_v15 val_main_v14
  refine (Kit.padHeads3 (n := 2) rfl rfl _ _ _ _ _ _ b r ⟨col.val - 256, by omega⟩).trans ?_
  by_cases h' : (col.val - 256) % 128 < 64
  · rw [dif_pos h', dif_pos h']
    exact v13_apply x0 x1 x2 x3 b r _
  · rw [dif_neg h', dif_neg h']
    exact InProjCols.pad_zero _

end Cert.CtxProjRefIdeal.Hand

namespace Cert.Proof

theorem ctx_reference_frame : Cert.quiescent_CtxProjRefIdeal := fun m ρ _ =>
  (θ_run Cert.CtxProjRefIdeal.defs _ _).mono
    (fun r h => ⟨fun c => (h c).2, Idealize.ShloMosaic.sem_eq_zero_of_no_sems (by decide) r.2⟩)
    (Cert.CtxProjRefIdeal.Value.run (F := Ideal) m ρ)

theorem ctx_algebraic : Cert.algebraic_CtxProjIdeal_CtxProjRefIdeal := by
  intro m ρ m' ρ' _ hagree
  refine ⟨fun c => Cert.CtxProjCols.spec (Cert.CtxProjIdeal.Hand.M0 m c) (Cert.CtxProjIdeal.Hand.M1 m c) (Cert.CtxProjIdeal.Hand.M2 m c) (Cert.CtxProjIdeal.Hand.M3 m c), ?_, ?_⟩
  · exact (θ_run Cert.CtxProjIdeal.defs _ _).mono (fun _ h c => ⟨(h c).1.trans (Cert.CtxProjIdeal.Hand.final_eq m c), (h c).2⟩)
      (Cert.CtxProjIdeal.Value.run_blocks (F := Ideal) m ρ)
  · refine (θ_run Cert.CtxProjRefIdeal.defs _ _).mono (fun _ h c => ⟨?_, (h c).2⟩) (Cert.CtxProjRefIdeal.Value.run (F := Ideal) m' ρ')
    refine ((h c).1.trans (Cert.CtxProjRefIdeal.Read.val_main_v17_eq _ _ _ _)).trans ?_
    rw [(hagree c).1, (hagree c).2.1, (hagree c).2.2.1, (hagree c).2.2.2]
    exact Cert.CtxProjRefIdeal.Hand.v17_eq _ _ _ _

end Cert.Proof

end
-- ==== Proof.Filters.lean ====
/- `hyena_filters`: the filter network of three dense layers, each product split into high and low halves, times a decaying
   window, against the same network written plainly. -/
module

public import proofs.«01_k».proof.Defs
public import proofs.«01_k».proof.Proof.InProj
public import proofs.«01_k».proof.Proof.ValuesRef
public import proofs.«01_k».proof.Proof.Gen.Filters
public import proofs.«01_k».proof.Proof.Gen.Filters.Skeleton
public import proofs.«01_k».proof.Proof.Gen.Filters.Launch
public import proofs.«01_k».proof.Proof.Gen.Filters.Points
public import proofs.«01_k».proof.Proof.Gen.Filters.Frame
public import proofs.«01_k».proof.Proof.Gen.FiltersIdeal.Value
public import proofs.«01_k».proof.Proof.Gen.FiltersRefIdeal.Run
public import proofs.«01_k».proof.Proof.Gen.FiltersRefIdeal.Read
public import proofs.«01_k».proof.Proof.Gen.Pre_finite_w3

@[expose] public section

set_option maxRecDepth 16384

noncomputable section

open Idealize.ShloMosaic Idealize.ShloMosaic.TcCoe Idealize.SL.Sem Idealize.ShloMosaic.ValueIdx
open Idealize.ShloMosaic.Pipeline (Dat)

namespace Cert.FilterNet

/-! ## A product split into high and low parts

Over the extended reals the high part of `a` is `a` and the low part is `a - a`: zero when `a` is a real number, and `⊥`
when it is infinite. -/

/-- A sum of products with both factors split, the product of the two low parts left out. -/
def triple {n : Nat} (a b : Fin n → EReal) : EReal :=
  ∑ k, a k * b k + (∑ k, a k * (b k - b k) + ∑ k, (a k - a k) * b k)

theorem triple_eq_sum {n : Nat} (a b : Fin n → EReal) :
    triple a b = ∑ k, (a k * b k + (a k * (b k - b k) + (a k - a k) * b k)) := by
  unfold triple
  rw [Finset.sum_add_distrib, Finset.sum_add_distrib]

/-- With a factor that is not `⊤` and a real factor the split product is the product. -/
theorem split_mul (a b : EReal) (ha : a ≠ ⊤) (hb : ∃ x : ℝ, b = x) : a * b + (a * (b - b) + (a - a) * b) = a * b := by
  obtain ⟨x, rfl⟩ := hb
  have hx : (x : EReal) - x = 0 := by rw [← EReal.coe_sub, sub_self, EReal.coe_zero]
  rw [hx, mul_zero, zero_add]
  induction a using EReal.rec with
  | top => exact absurd rfl ha
  | coe y => rw [← EReal.coe_sub, sub_self, EReal.coe_zero, zero_mul, add_zero]
  | bot =>
    rw [EReal.bot_sub]
    rcases lt_trichotomy x 0 with h | h | h
    · rw [EReal.bot_mul_coe_of_neg h, EReal.top_add_top]
    · rw [h, EReal.coe_zero, mul_zero, add_zero]
    · rw [EReal.bot_mul_coe_of_pos h, EReal.bot_add]

theorem triple_eq {n : Nat} (a b : Fin n → EReal) (ha : ∀ k, a k ≠ ⊤) (hb : ∀ k, ∃ x : ℝ, b k = x) : triple a b = ∑ k, a k * b k := by
  rw [triple_eq_sum]
  exact Finset.sum_congr rfl fun k _ => split_mul _ _ (ha k) (hb k)

def IsInf (x : EReal) : Prop := x = ⊤ ∨ x = ⊥

/-- Equal, or both infinite. -/
def Sim (x y : EReal) : Prop := x = y ∨ (IsInf x ∧ IsInf y)

theorem inf_add {x : EReal} (h : IsInf x) (y : EReal) : IsInf (x + y) := by
  rcases h with rfl | rfl
  · induction y using EReal.rec with
    | bot => exact Or.inr (EReal.add_bot _)
    | coe r => exact Or.inl (EReal.top_add_coe r)
    | top => exact Or.inl EReal.top_add_top
  · exact Or.inr (EReal.bot_add _)

theorem inf_mul {a x : EReal} (ha : a ≠ 0) (h : IsInf x) : IsInf (a * x) := by
  rcases lt_or_gt_of_ne ha with l | l
  · rcases h with rfl | rfl
    · exact Or.inr (EReal.mul_top_of_neg l)
    · exact Or.inl (EReal.mul_bot_of_neg l)
  · rcases h with rfl | rfl
    · exact Or.inl (EReal.mul_top_of_pos l)
    · exact Or.inr (EReal.mul_bot_of_pos l)

theorem Sim.add {x y x' y' : EReal} (h : Sim x x') (h' : Sim y y') : Sim (x + y) (x' + y') := by
  rcases h with rfl | ⟨h1, h2⟩
  · rcases h' with rfl | ⟨h3, h4⟩
    · exact Or.inl rfl
    · rw [add_comm x y, add_comm x y']
      exact Or.inr ⟨inf_add h3 _, inf_add h4 _⟩
  · exact Or.inr ⟨inf_add h1 _, inf_add h2 _⟩

theorem Sim.mul (a : EReal) {x y : EReal} (h : Sim x y) : Sim (a * x) (a * y) := by
  rcases h with rfl | ⟨h1, h2⟩
  · exact Or.inl rfl
  · by_cases ha : a = 0
    · rw [ha, zero_mul, zero_mul]
      exact Or.inl rfl
    · exact Or.inr ⟨inf_mul ha h1, inf_mul ha h2⟩

theorem Sim.sum {n : Nat} (f g : Fin n → EReal) (h : ∀ k, Sim (f k) (g k)) : Sim (∑ k, f k) (∑ k, g k) := by
  classical
  have key : ∀ s : Finset (Fin n), Sim (∑ k ∈ s, f k) (∑ k ∈ s, g k) := fun s => by
    induction s using Finset.induction_on with
    | empty => exact Or.inl rfl
    | insert a s hn ih =>
      rw [Finset.sum_insert hn, Finset.sum_insert hn]
      exact (h a).add ih
  exact key Finset.univ

/-- The split product and the product are equal or both infinite, whatever the factors. -/
theorem split_sim (a b : EReal) : Sim (a * b + (a * (b - b) + (a - a) * b)) (a * b) := by
  by_cases ha : a = 0
  · subst ha
    exact Or.inl (by simp)
  by_cases hb : b = 0
  · subst hb
    exact Or.inl (by simp)
  by_cases ia : IsInf a
  · have h : IsInf (a * b) := by rw [mul_comm]; exact inf_mul hb ia
    exact Or.inr ⟨inf_add h _, h⟩
  by_cases ib : IsInf b
  · exact Or.inr ⟨inf_add (inf_mul ha ib) _, inf_mul ha ib⟩
  refine Or.inl (split_mul a b (fun e => ia (Or.inl e)) ⟨b.toReal, ?_⟩)
  exact (EReal.coe_toReal (fun e => ib (Or.inl e)) (fun e => ib (Or.inr e))).symm

/-- The sine of an infinity is `⊥` whichever the infinity. -/
theorem sin_sim {x y : EReal} (h : Sim x y) : Ideal.sin x = Ideal.sin y := by
  rcases h with rfl | ⟨rfl | rfl, rfl | rfl⟩ <;> rfl

theorem sin_ne_top (x : EReal) : Ideal.sin x ≠ ⊤ := by
  induction x using EReal.rec with
  | bot => exact bot_ne_top
  | coe r => exact EReal.coe_ne_top _
  | top => exact bot_ne_top

/-- One unit of a sine layer does not see the split. -/
theorem unit_eq {n : Nat} (a b : Fin n → EReal) (f c : EReal) : Ideal.sin (f * (triple a b + c)) = Ideal.sin (f * (∑ k, a k * b k + c)) := by
  rw [triple_eq_sum]
  exact sin_sim (((Sim.sum _ _ fun k => split_sim (a k) (b k)).add (Or.inl rfl)).mul f)

/-- A sum over 32 whose terms from 17 on are zero. -/
theorem sum_17 (g : Fin 32 → EReal) (h : ∀ k : Fin 32, 17 ≤ k.val → g k = 0) : ∑ k, g k = ∑ k : Fin 17, g ⟨k.val, by omega⟩ := by
  have e : ∑ k : Fin 15, g (Fin.natAdd 17 k) = 0 := Finset.sum_eq_zero fun k _ => h _ (by show 17 ≤ 17 + k.val; omega)
  rw [Fin.sum_univ_add (a := 17) (b := 15) g, e, add_zero]
  rfl

/-! ## What both programs compute -/

open Cert.FiltersRefIdeal.Read in
/-- The position features, the time and the decay rates: constants of the model. -/
abbrev zf (r : Fin 4096) (d : Fin 17) : EReal := val_main_v19 (F := Ideal) (ix2 r d)
open Cert.FiltersRefIdeal.Read in
abbrev time (r : Fin 4096) : EReal := val_main_v1 (F := Ideal) (ix2 r 0)
open Cert.FiltersRefIdeal.Read in
abbrev rate (c : Fin 2048) : EReal := val_main_v50 (F := Ideal) (ix1 ⟨c.val % 512, Nat.mod_lt _ (by decide)⟩)

section
variable (w1 : Vec Ideal ⟨3, ![1, 17, 64]⟩ .f32) (b1 f1 : Vec Ideal ⟨2, ![1, 64]⟩ .f32) (w2 : Vec Ideal ⟨3, ![1, 64, 64]⟩ .f32)
  (b2 f2 : Vec Ideal ⟨2, ![1, 64]⟩ .f32) (w3 : Vec Ideal ⟨3, ![1, 64, 2048]⟩ .f32) (b3 : Vec Ideal ⟨2, ![1, 2048]⟩ .f32)

def hid1 (r : Fin 4096) (j : Fin 64) : EReal :=
  Ideal.sin (f1 (ix2 0 j) * (∑ d : Fin 17, zf r d * w1 (ix3 0 d j) + b1 (ix2 0 j)))

def hid2 (r : Fin 4096) (j : Fin 64) : EReal :=
  Ideal.sin (f2 (ix2 0 j) * (∑ k : Fin 64, hid1 w1 b1 f1 r k * w2 (ix3 0 k j) + b2 (ix2 0 j)))

def window (r : Fin 4096) (c : Fin 2048) : EReal := Ideal.exp (-(time r) * rate c) + Ideal.ofBits .f32 0x3D4CCCCD#32

def spec : Vec Ideal ⟨2, ![4096, 2048]⟩ .f32 := fun i =>
  (∑ j : Fin 64, hid2 w1 b1 f1 w2 b2 f2 (i 0) j * w3 (ix3 0 j (i 1)) + b3 (ix2 0 (i 1))) * window (i 0) (i 1)
end

/-- The last weights that the precondition admits are real numbers. -/
theorem decode (x0 : Vec Ideal ⟨3, ![1, 17, 64]⟩ .f32) (x1 x2 : Vec Ideal ⟨2, ![1, 64]⟩ .f32) (x3 : Vec Ideal ⟨3, ![1, 64, 64]⟩ .f32)
    (x4 x5 : Vec Ideal ⟨2, ![1, 64]⟩ .f32) (x6 : Vec Ideal ⟨3, ![1, 64, 2048]⟩ .f32) (x7 : Vec Ideal ⟨2, ![1, 2048]⟩ .f32) [Cert.Pre_finite_w3.Facts]
    (h : Cert.Pre_finite_w3.fn (F := Ideal) x0 x1 x2 x3 x4 x5 x6 x7 = (fun _ => 1#1)) : ∀ j, ∃ x : ℝ, x6 j = x := fun j =>
  PeerValues.real_of_abs _ (Host.reduce_andi_all _ _ _ _ _ (congrFun h (fun a => a.elim0)) j)

/-! ## Readings of the operands -/

/-- A row taken to a vector and back. -/
theorem rowOf {C : Nat} (x : Vec Ideal ⟨2, ![1, C]⟩ .f32) (h1 : (⟨2, ![1, C]⟩ : Shape).ShapeCasts ⟨1, ![C]⟩)
    (h2 : (⟨1, ![C]⟩ : Shape).BroadcastsInDim ⟨2, ![1, C]⟩ (![1] : Fin 1 → Fin 2)) (k : Fin C) :
    broadcastInDim ⟨2, ![1, C]⟩ ![1] h2 (shapeCast ⟨1, ![C]⟩ x h1) (ix2 0 k) = x (ix2 0 k) := by
  refine (broadcastInDim_apply _ h2 _ (ix2 0 k) (ix1 k) (fun a => match a with
    | ⟨0, _⟩ => by
      show k.val = if C = 1 then 0 else k.val
      have := k.isLt
      split_ifs <;> omega)).trans ?_
  exact shapeCast_apply _ _ _ _ (by
    rewrite [Shape.rowMajor_val_two, Shape.rowMajor_val_one]
    show 0 * C + k.val = k.val
    omega)

/-- The three products of the split, as the kernel adds them. -/
def dot3 {R K C : Nat} (D : DotDims ⟨2, ![R, K]⟩ ⟨2, ![K, C]⟩ ⟨2, ![R, C]⟩) (h : FTy.bits .bf16 < FTy.bits .f32)
    (x : FVec Ideal ⟨2, ![R, K]⟩ .f32) (w : FVec Ideal ⟨2, ![K, C]⟩ .f32) : FVec Ideal ⟨2, ![R, C]⟩ .f32 :=
  addf (matmul D none (truncf .bf16 x h) (truncf .bf16 w h) (constant ⟨2, ![R, C]⟩ .f32 0x00000000#32))
    (addf (matmul D none (truncf .bf16 x h) (truncf .bf16 (subf w (extf .f32 (truncf .bf16 w h) h)) h) (constant ⟨2, ![R, C]⟩ .f32 0x00000000#32))
      (matmul D none (truncf .bf16 (subf x (extf .f32 (truncf .bf16 x h) h)) h) (truncf .bf16 w h) (constant ⟨2, ![R, C]⟩ .f32 0x00000000#32)))

theorem dot3_apply {R K C : Nat} (D : DotDims ⟨2, ![R, K]⟩ ⟨2, ![K, C]⟩ ⟨2, ![R, C]⟩)
    (hlc : D.lhsContracting = [1]) (hrc : D.rhsContracting = [0]) (hln : D.lhsNonContracting = [0]) (hrn : D.rhsNonContracting = [1])
    (hlb : D.lhsBatch = []) (hrb : D.rhsBatch = []) (h) (x : FVec Ideal ⟨2, ![R, K]⟩ .f32) (w : FVec Ideal ⟨2, ![K, C]⟩ .f32) (r : Fin R) (c : Fin C) :
    dot3 D h x w (ix2 r c) = triple (fun k => x (ix2 r k)) (fun k => w (ix2 k c)) := by
  have e := fun (a : FVec Ideal ⟨2, ![R, K]⟩ .bf16) (b : FVec Ideal ⟨2, ![K, C]⟩ .bf16) => Kit.mm2 D hlc hrc hln hrn hlb hrb none a b r c
  unfold dot3 triple
  exact congrArg₂ (· + ·) (e _ _) (congrArg₂ (· + ·) (e _ _) (e _ _))

/-- A sine layer on rows. -/
def layer {R K C : Nat} (D : DotDims ⟨2, ![R, K]⟩ ⟨2, ![K, C]⟩ ⟨2, ![R, C]⟩) (h : FTy.bits .bf16 < FTy.bits .f32)
    (hb : (⟨2, ![1, C]⟩ : Shape).Broadcasts ⟨2, ![R, C]⟩) (x : FVec Ideal ⟨2, ![R, K]⟩ .f32) (w : FVec Ideal ⟨2, ![K, C]⟩ .f32)
    (b f : FVec Ideal ⟨2, ![1, C]⟩ .f32) : FVec Ideal ⟨2, ![R, C]⟩ .f32 :=
  sin (mulf (broadcastTo ⟨2, ![R, C]⟩ f hb) (addf (dot3 D h x w) (broadcastTo ⟨2, ![R, C]⟩ b hb)))

theorem layer_apply {R K C : Nat} (D : DotDims ⟨2, ![R, K]⟩ ⟨2, ![K, C]⟩ ⟨2, ![R, C]⟩)
    (hlc : D.lhsContracting = [1]) (hrc : D.rhsContracting = [0]) (hln : D.lhsNonContracting = [0]) (hrn : D.rhsNonContracting = [1])
    (hlb : D.lhsBatch = []) (hrb : D.rhsBatch = []) (h hb) (x : FVec Ideal ⟨2, ![R, K]⟩ .f32) (w : FVec Ideal ⟨2, ![K, C]⟩ .f32)
    (b f : FVec Ideal ⟨2, ![1, C]⟩ .f32) (r : Fin R) (c : Fin C) :
    layer D h hb x w b f (ix2 r c) = Ideal.sin (f (ix2 0 c) * (∑ k, x (ix2 r k) * w (ix2 k c) + b (ix2 0 c))) := by
  unfold layer
  show Ideal.sin (broadcastTo ⟨2, ![R, C]⟩ f hb (ix2 r c) * (dot3 D h x w (ix2 r c) + broadcastTo ⟨2, ![R, C]⟩ b hb (ix2 r c))) = _
  rw [Kit.bcRow, Kit.bcRow, dot3_apply D hlc hrc hln hrn hlb hrb h x w r c, unit_eq]

end Cert.FilterNet

namespace Cert.FiltersIdeal.Hand

open Cert.FiltersIdeal Cert.FiltersIdeal.Gen Cert.FilterNet

variable (m : (ℓ : Loc nD τ sig) → Buf (Elt Ideal) ℓ) (ρ : Dev nD → PrngReg)

abbrev M0 (c : Dev nD) : Vec Ideal S1x17x64 .f32 := m ((c : Thread nD τ).loc main_arg0)
abbrev M1 (c : Dev nD) : Vec Ideal S1x64 .f32 := m ((c : Thread nD τ).loc main_arg1)
abbrev M2 (c : Dev nD) : Vec Ideal S1x64 .f32 := m ((c : Thread nD τ).loc main_arg2)
abbrev M3 (c : Dev nD) : Vec Ideal S1x64x64 .f32 := m ((c : Thread nD τ).loc main_arg3)
abbrev M4 (c : Dev nD) : Vec Ideal S1x64 .f32 := m ((c : Thread nD τ).loc main_arg4)
abbrev M5 (c : Dev nD) : Vec Ideal S1x64 .f32 := m ((c : Thread nD τ).loc main_arg5)
abbrev M6 (c : Dev nD) : Vec Ideal S1x64x2048 .f32 := m ((c : Thread nD τ).loc main_arg6)
abbrev M7 (c : Dev nD) : Vec Ideal S1x2048 .f32 := m ((c : Thread nD τ).loc main_arg7)

/-! ## The operands that the host code makes -/

set_option maxHeartbeats 4000000 in
theorem V_w2 (c : Dev nD) : (V m c main_v3 : Vec Ideal S64x64 .f32) = shapeCast S64x64 (M3 m c) shapeCasts_S1x64x64_S64x64 := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, StableHlo.TRef.binary, StableHlo.TRef.unary,
    StableHlo.TRef.toBuf, StableHlo.TRef.ofBuf, cast_eq]
  after_results <;> rfl

set_option maxHeartbeats 4000000 in
theorem V_w3 (c : Dev nD) : (V m c main_v6 : Vec Ideal S64x2048 .f32) = shapeCast S64x2048 (M6 m c) shapeCasts_S1x64x2048_S64x2048 := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, StableHlo.TRef.binary, StableHlo.TRef.unary,
    StableHlo.TRef.toBuf, StableHlo.TRef.ofBuf, cast_eq]
  after_results <;> rfl

set_option maxHeartbeats 4000000 in
theorem V_z (c : Dev nD) : (V m c main_v28 : Vec Ideal S4096x32 .f32) = pad S4096x32 ![0, 0] ![0, 15] ![0, 0] (FiltersRefIdeal.Read.val_main_v19 (F := Ideal)) (sitofp (F := Ideal) .f32 (constantI S_ 32 0#32)) pads_S4096x17_S4096x32_000_0150 h_S_ := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, StableHlo.TRef.binary, StableHlo.TRef.unary,
    StableHlo.TRef.toBuf, StableHlo.TRef.ofBuf, cast_eq]
  after_results <;> rfl

set_option maxHeartbeats 4000000 in
theorem V_w1 (c : Dev nD) : (V m c main_v29 : Vec Ideal S32x64 .f32) = pad S32x64 ![0, 0] ![15, 0] ![0, 0] (shapeCast S17x64 (M0 m c) shapeCasts_S1x17x64_S17x64) (sitofp (F := Ideal) .f32 (constantI S_ 32 0#32)) pads_S17x64_S32x64_0150_000 h_S_ := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, StableHlo.TRef.binary, StableHlo.TRef.unary,
    StableHlo.TRef.toBuf, StableHlo.TRef.ofBuf, cast_eq]
  after_results <;> rfl

set_option maxHeartbeats 4000000 in
theorem V_b1 (c : Dev nD) : (V m c main_v36 : Vec Ideal S1x64 .f32) = broadcastInDim S1x64 ![1] bcast_S64_S1x64_1 (shapeCast S64 (M1 m c) shapeCasts_S1x64_S64) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, StableHlo.TRef.binary, StableHlo.TRef.unary,
    StableHlo.TRef.toBuf, StableHlo.TRef.ofBuf, cast_eq]
  after_results <;> rfl

set_option maxHeartbeats 4000000 in
theorem V_f1 (c : Dev nD) : (V m c main_v37 : Vec Ideal S1x64 .f32) = broadcastInDim S1x64 ![1] bcast_S64_S1x64_1 (shapeCast S64 (M2 m c) shapeCasts_S1x64_S64) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, StableHlo.TRef.binary, StableHlo.TRef.unary,
    StableHlo.TRef.toBuf, StableHlo.TRef.ofBuf, cast_eq]
  after_results <;> rfl

set_option maxHeartbeats 4000000 in
theorem V_b2 (c : Dev nD) : (V m c main_v38 : Vec Ideal S1x64 .f32) = broadcastInDim S1x64 ![1] bcast_S64_S1x64_1 (shapeCast S64 (M4 m c) shapeCasts_S1x64_S64) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, StableHlo.TRef.binary, StableHlo.TRef.unary,
    StableHlo.TRef.toBuf, StableHlo.TRef.ofBuf, cast_eq]
  after_results <;> rfl

set_option maxHeartbeats 4000000 in
theorem V_f2 (c : Dev nD) : (V m c main_v39 : Vec Ideal S1x64 .f32) = broadcastInDim S1x64 ![1] bcast_S64_S1x64_1 (shapeCast S64 (M5 m c) shapeCasts_S1x64_S64) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, StableHlo.TRef.binary, StableHlo.TRef.unary,
    StableHlo.TRef.toBuf, StableHlo.TRef.ofBuf, cast_eq]
  after_results <;> rfl

set_option maxHeartbeats 4000000 in
theorem V_b3 (c : Dev nD) : (V m c main_v40 : Vec Ideal S1x2048 .f32) = broadcastInDim S1x2048 ![1] bcast_S2048_S1x2048_1 (shapeCast S2048 (M7 m c) shapeCasts_S1x2048_S2048) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, StableHlo.TRef.binary, StableHlo.TRef.unary,
    StableHlo.TRef.toBuf, StableHlo.TRef.ofBuf, cast_eq]
  after_results <;> rfl

set_option maxHeartbeats 4000000 in
theorem V_dl (c : Dev nD) : (V m c main_v35 : Vec Ideal S1x2048 .f32) = broadcastInDim S1x2048 ![1] bcast_S2048_S1x2048_1 (shapeCast S2048 (broadcastInDim S4x512 ![0, 1] bcast_S1x512_S4x512_0_1
      (shapeCast S1x512 (FiltersRefIdeal.Read.val_main_v50 (F := Ideal)) shapeCasts_S512_S1x512)) shapeCasts_S4x512_S2048) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, StableHlo.TRef.binary, StableHlo.TRef.unary,
    StableHlo.TRef.toBuf, StableHlo.TRef.ofBuf, cast_eq]
  after_results <;> rfl

/-! ## The body -/

theorem pay3_eq (x0 : Vec Ideal S512x32 .f32) (f1 : Vec Ideal S1x64 .f32) (w1 : Vec Ideal S32x64 .f32) (b1 : Vec Ideal S1x64 .f32) :
    k0_pay3 x0 f1 w1 b1 = layer dot_S512x32_S32x64_S512x64_1_0_0_1_n_n bitsLt_bf16_f32 broadcasts_S1x64_S512x64
      (shapeCast S512x32 x0 shapeCasts_S512x32_S512x32) (shapeCast S32x64 w1 shapeCasts_S32x64_S32x64) (shapeCast S1x64 b1 shapeCasts_S1x64_S1x64)
      (shapeCast S1x64 f1 shapeCasts_S1x64_S1x64) := rfl

/-- What the body stores, by its layers. -/
theorem pay_eq (x0 : Vec Ideal S512x32 .f32) (x1 : Vec Ideal S32x64 .f32) (x2 x3 : Vec Ideal S1x64 .f32) (x4 : Vec Ideal S64x64 .f32)
    (x5 x6 : Vec Ideal S1x64 .f32) (x7 : Vec Ideal S64x2048 .f32) (x8 x9 : Vec Ideal S1x2048 .f32) :
    k0_pay1 (k0_pay2 x0) (k0_pay4 x6) (k0_pay8 x0 x3 x1 x2 x4) (k0_pay9 x0 x3 x1 x2 x4) (k0_pay10 x0 x3 x1 x2 x4) x5 x7 x8 x9
      = mulf (addf (dot3 dot_S512x64_S64x2048_S512x2048_1_0_0_1_n_n bitsLt_bf16_f32
            (layer dot_S512x64_S64x64_S512x64_1_0_0_1_n_n bitsLt_bf16_f32 broadcasts_S1x64_S512x64 (k0_pay3 x0 x3 x1 x2)
              (shapeCast S64x64 x4 shapeCasts_S64x64_S64x64) (shapeCast S1x64 x5 shapeCasts_S1x64_S1x64) (shapeCast S1x64 x6 shapeCasts_S1x64_S1x64))
            (shapeCast S64x2048 x7 shapeCasts_S64x2048_S64x2048))
          (broadcastTo S512x2048 (shapeCast S1x2048 x8 shapeCasts_S1x2048_S1x2048) broadcasts_S1x2048_S512x2048))
        (addf (exp (mulf
            (broadcastTo S512x2048 (subf (broadcast S512x1 (Scalar.ofBits (F := Ideal) .f32 0x00000000#32))
              (extractStridedSlice S512x1 ![0, 0] (shapeCast S512x32 x0 shapeCasts_S512x32_S512x32) slices_S512x32_o0_0_S512x1)) broadcasts_S512x1_S512x2048)
            (broadcastTo S512x2048 (shapeCast S1x2048 x9 shapeCasts_S1x2048_S1x2048) broadcasts_S1x2048_S512x2048)))
          (broadcast S512x2048 (Scalar.ofBits (F := Ideal) .f32 0x3D4CCCCD#32))) := rfl

theorem pay_apply (x0 : Vec Ideal S512x32 .f32) (x1 : Vec Ideal S32x64 .f32) (x2 x3 : Vec Ideal S1x64 .f32) (x4 : Vec Ideal S64x64 .f32)
    (x5 x6 : Vec Ideal S1x64 .f32) (x7 : Vec Ideal S64x2048 .f32) (x8 x9 : Vec Ideal S1x2048 .f32) (h7 : ∀ k c, ∃ x : ℝ, x7 (ix2 k c) = x) (r : Fin 512) (c : Fin 2048) :
    k0_pay1 (k0_pay2 x0) (k0_pay4 x6) (k0_pay8 x0 x3 x1 x2 x4) (k0_pay9 x0 x3 x1 x2 x4) (k0_pay10 x0 x3 x1 x2 x4) x5 x7 x8 x9 (ix2 r c)
      = (∑ j : Fin 64, Ideal.sin (x6 (ix2 0 j) * (∑ k : Fin 64, Ideal.sin (x3 (ix2 0 k) * (∑ d : Fin 32, x0 (ix2 r d) * x1 (ix2 d k) + x2 (ix2 0 k))) * x4 (ix2 k j)
            + x5 (ix2 0 j))) * x7 (ix2 j c) + x8 (ix2 0 c))
        * (Ideal.exp (-(x0 (ix2 r 0)) * x9 (ix2 0 c)) + Ideal.ofBits .f32 0x3D4CCCCD#32) := by
  have hs : ∀ {s : Shape} (x : s.Idx → EReal) (h : s.ShapeCasts s), shapeCast s x h = x := fun x h => funext fun i => Kit.castSelf x h i
  have hl : ∀ (r : Fin 512) (j : Fin 64), layer dot_S512x64_S64x64_S512x64_1_0_0_1_n_n bitsLt_bf16_f32 broadcasts_S1x64_S512x64 (k0_pay3 x0 x3 x1 x2) x4 x5 x6 (ix2 r j)
      = Ideal.sin (x6 (ix2 0 j) * (∑ k : Fin 64, Ideal.sin (x3 (ix2 0 k) * (∑ d : Fin 32, x0 (ix2 r d) * x1 (ix2 d k) + x2 (ix2 0 k))) * x4 (ix2 k j)
            + x5 (ix2 0 j))) := fun r j => by
    rw [layer_apply _ rfl rfl rfl rfl rfl rfl]
    refine congrArg (fun s => Ideal.sin (x6 (ix2 0 j) * (s + x5 (ix2 0 j)))) (Finset.sum_congr rfl fun k _ => congrArg (· * x4 (ix2 k j)) ?_)
    rw [pay3_eq, hs, hs, hs, hs, layer_apply _ rfl rfl rfl rfl rfl rfl]
  rw [pay_eq, hs, hs, hs, hs, hs, hs, hs]
  show (dot3 dot_S512x64_S64x2048_S512x2048_1_0_0_1_n_n bitsLt_bf16_f32 _ x7 (ix2 r c) + broadcastTo S512x2048 x8 broadcasts_S1x2048_S512x2048 (ix2 r c))
      * (Ideal.exp (broadcastTo S512x2048 (subf (broadcast S512x1 (Scalar.ofBits (F := Ideal) .f32 0x00000000#32))
              (extractStridedSlice S512x1 ![0, 0] x0 slices_S512x32_o0_0_S512x1)) broadcasts_S512x1_S512x2048 (ix2 r c)
          * broadcastTo S512x2048 x9 broadcasts_S1x2048_S512x2048 (ix2 r c)) + Ideal.ofBits .f32 0x3D4CCCCD#32) = _
  rw [Kit.bcRow, Kit.bcRow, Kit.bcCol, dot3_apply _ rfl rfl rfl rfl rfl rfl, triple_eq _ _ (fun j => ?_) (fun j => h7 j c)]
  · have e : (subf (broadcast S512x1 (Scalar.ofBits (F := Ideal) .f32 0x00000000#32))
        (extractStridedSlice S512x1 ![0, 0] x0 slices_S512x32_o0_0_S512x1) : FVec Ideal S512x1 .f32) (ix2 r 0) = -(x0 (ix2 r 0)) := by
      show Ideal.ofBits .f32 0x00000000#32 - extractStridedSlice S512x1 ![0, 0] x0 slices_S512x32_o0_0_S512x1 (ix2 r 0) = _
      rw [Ideal.ofBits_zero_f32, sub_eq_add_neg, zero_add]
      refine congrArg Neg.neg (extractStridedSlice_apply _ _ slices_S512x32_o0_0_S512x1 _ _ (fun a => match a with
        | ⟨0, _⟩ => by show r.val = 0 + r.val; omega
        | ⟨1, _⟩ => rfl))
    rw [e]
    exact congrArg (fun s => (s + x8 (ix2 0 c)) * _) (Finset.sum_congr rfl fun j _ => congrArg (· * x7 (ix2 j c)) (hl r j))
  · rw [hl r j]
    exact sin_ne_top _

/-! ## The operands at an index -/

/-- The first column of three pieces side by side. -/
theorem first_col {α : Type} (x : S4096x1.Idx → α) (y z : S4096x8.Idx → α) (h) (r : Fin 4096) :
    concatenate S4096x17 (1 : Fin 2) [⟨S4096x1, x⟩, ⟨S4096x8, y⟩, ⟨S4096x8, z⟩] h (ix2 r 0) = x (ix2 r 0) :=
  concatenate_apply_piece (t := S4096x17) (1 : Fin 2) [⟨S4096x1, x⟩, ⟨S4096x8, y⟩, ⟨S4096x8, z⟩] h (ix2 r 0 : S4096x17.Idx) 0 (by decide : 0 < 3) S4096x1 x rfl rfl 0 rfl (ix2 r 0)
    (fun b hb => by
      match b with
      | ⟨0, _⟩ => rfl
      | ⟨1, _⟩ => exact absurd rfl hb) rfl

/-- The first position feature is the time. -/
theorem zf_zero (r : Fin 4096) : zf r 0 = time r := by
  exact first_col (FiltersRefIdeal.Read.val_main_v1 (F := Ideal)) (FiltersRefIdeal.Read.val_main_v13 (F := Ideal)) (FiltersRefIdeal.Read.val_main_v18 (F := Ideal)) _ r

theorem V_z_in (c : Dev nD) (r : Fin 4096) (d : Fin 17) : (V m c main_v28 : Vec Ideal S4096x32 .f32) (ix2 r ⟨d.val, by omega⟩) = zf r d := by
  rw [V_z]
  exact pad_apply_of_inside _ _ _ _ _ _ _ _ (ix2 r d) (fun a => match a with
    | ⟨0, _⟩ => by show r.val = 0 + r.val * (0 + 1); omega
    | ⟨1, _⟩ => by show d.val = 0 + d.val * (0 + 1); omega)

theorem V_w1_in (c : Dev nD) (d : Fin 17) (k : Fin 64) : (V m c main_v29 : Vec Ideal S32x64 .f32) (ix2 ⟨d.val, by omega⟩ k) = M0 m c (ix3 0 d k) := by
  rw [V_w1]
  refine (pad_apply_of_inside _ _ _ _ _ _ _ _ (ix2 d k) (fun a => match a with
    | ⟨0, _⟩ => by show d.val = 0 + d.val * (0 + 1); omega
    | ⟨1, _⟩ => by show k.val = 0 + k.val * (0 + 1); omega)).trans ?_
  exact Kit.cast32 (M0 m c) shapeCasts_S1x17x64_S17x64 d k

theorem V_w1_out (c : Dev nD) (d : Fin 32) (k : Fin 64) (h : 17 ≤ d.val) : (V m c main_v29 : Vec Ideal S32x64 .f32) (ix2 d k) = (0 : EReal) := by
  rw [V_w1]
  refine (pad_apply_of_not_inside _ _ _ _ _ pads_S17x64_S32x64_0150_000 h_S_ _ (0 : Fin 2) ?_).trans (InProjCols.pad_zero _)
  show ¬(0 ≤ d.val ∧ (d.val - 0) % (0 + 1) = 0 ∧ (d.val - 0) / (0 + 1) < 17)
  omega

theorem V_dl_apply (c : Dev nD) (k : Fin 2048) : (V m c main_v35 : Vec Ideal S1x2048 .f32) (ix2 0 k) = rate k := by
  have hk := k.isLt
  rw [V_dl]
  refine (broadcastInDim_apply _ bcast_S2048_S1x2048_1 _ (ix2 0 k) (ix1 k) (fun a => match a with | ⟨0, _⟩ => rfl)).trans ?_
  refine (shapeCast_apply _ shapeCasts_S4x512_S2048 (ix1 k) (ix2 ⟨k.val / 512, by omega⟩ ⟨k.val % 512, by omega⟩) (by
    rewrite [Shape.rowMajor_val_two, Shape.rowMajor_val_one]
    show k.val / 512 * 512 + k.val % 512 = k.val
    omega)).trans ?_
  refine (broadcastInDim_apply _ bcast_S1x512_S4x512_0_1 _ _ (ix2 0 ⟨k.val % 512, by omega⟩) (fun a => match a with
    | ⟨0, _⟩ => rfl
    | ⟨1, _⟩ => rfl)).trans ?_
  exact shapeCast_apply _ shapeCasts_S512_S1x512 _ _ (by
    rewrite [Shape.rowMajor_val_two, Shape.rowMajor_val_one]
    show k.val % 512 = 0 * 512 + k.val % 512
    omega)

/-- What the body stores, from operands that hold the padded features and the arguments. -/
theorem pay_spec (x0 : Vec Ideal S512x32 .f32) (x1 : Vec Ideal S32x64 .f32) (x2 x3 : Vec Ideal S1x64 .f32) (x4 : Vec Ideal S64x64 .f32)
    (x5 x6 : Vec Ideal S1x64 .f32) (x7 : Vec Ideal S64x2048 .f32) (x8 x9 : Vec Ideal S1x2048 .f32)
    (w1 : Vec Ideal S1x17x64 .f32) (b1 f1 : Vec Ideal S1x64 .f32) (w2 : Vec Ideal S1x64x64 .f32) (b2 f2 : Vec Ideal S1x64 .f32)
    (w3 : Vec Ideal S1x64x2048 .f32) (b3 : Vec Ideal S1x2048 .f32) (R : Fin 4096) (r : Fin 512) {k : Fin 2048}
    (h0 : ∀ d : Fin 17, x0 (ix2 r ⟨d.val, by omega⟩) = zf R d)
    (h1 : ∀ (d : Fin 17) (j : Fin 64), x1 (ix2 ⟨d.val, by omega⟩ j) = w1 (ix3 0 d j))
    (h1' : ∀ (d : Fin 32) (j : Fin 64), 17 ≤ d.val → x1 (ix2 d j) = (0 : EReal))
    (h2 : ∀ j : Fin 64, x2 (ix2 0 j) = b1 (ix2 0 j)) (h3 : ∀ j : Fin 64, x3 (ix2 0 j) = f1 (ix2 0 j))
    (h4 : ∀ i j : Fin 64, x4 (ix2 i j) = w2 (ix3 0 i j))
    (h5 : ∀ j : Fin 64, x5 (ix2 0 j) = b2 (ix2 0 j)) (h6 : ∀ j : Fin 64, x6 (ix2 0 j) = f2 (ix2 0 j))
    (h7 : ∀ (j : Fin 64) (k : Fin 2048), x7 (ix2 j k) = w3 (ix3 0 j k)) (h8 : ∀ k : Fin 2048, x8 (ix2 0 k) = b3 (ix2 0 k))
    (h9 : x9 (ix2 0 k) = rate k) (hw : ∀ j, ∃ x : ℝ, w3 j = x) :
    k0_pay1 (k0_pay2 x0) (k0_pay4 x6) (k0_pay8 x0 x3 x1 x2 x4) (k0_pay9 x0 x3 x1 x2 x4) (k0_pay10 x0 x3 x1 x2 x4) x5 x7 x8 x9 (ix2 r k)
      = spec w1 b1 f1 w2 b2 f2 w3 b3 (ix2 R k) := by
  have hd : ∀ j : Fin 64, ∑ d : Fin 32, x0 (ix2 r d) * x1 (ix2 d j) = ∑ d : Fin 17, zf R d * w1 (ix3 0 d j) := fun j => by
    rw [sum_17 (fun d => x0 (ix2 r d) * x1 (ix2 d j)) (fun d h17 => by
      show x0 (ix2 r d) * x1 (ix2 d j) = 0
      rw [h1' d j h17, mul_zero])]
    refine Finset.sum_congr rfl fun d _ => ?_
    show x0 (ix2 r ⟨d.val, _⟩) * x1 (ix2 ⟨d.val, _⟩ j) = _
    rw [h0, h1]
  have ht : x0 (ix2 r 0) = time R := (h0 0).trans (zf_zero R)
  rw [pay_apply _ _ _ _ _ _ _ _ _ _ (fun d j => by rw [h7]; exact hw _), ht, h9, h8]
  simp only [hd, h2, h3, h4, h5, h6, h7]
  rfl

/-! ## The blocks -/

theorem hz2 : (![0, 0] : Fin 2 → Nat) = fun _ => 0 := funext fun a => by fin_cases a <;> rfl

theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (cfg0.win 10).flush t = true :=
  (by decide +kernel : ∀ t : Fin grid0.N, _)

variable (t : Fin cfg0.N)

theorem iblk1_apply (c : Dev nD) (d : Fin 32) (k : Fin 64) : iblk m c 1 t (ix2 d k) = V m c main_v29 (ix2 d k) := by
  obtain ⟨-, ⟨e0, e1⟩, -⟩ := idx_facts t
  have e : ((cfg0.win 1).blk t).view.emb (ix2 d k) = (ix2 d k : S32x64.Idx) := by
    funext a; apply Fin.ext
    match a with
    | ⟨0, _⟩ => show win0_1.index t (0 : Fin 2) * 32 + 1 * d.val = d.val; omega
    | ⟨1, _⟩ => show win0_1.index t (1 : Fin 2) * 64 + 1 * k.val = k.val; omega
  show V m c main_v29 (((cfg0.win 1).blk t).view.emb (ix2 d k)) = _
  rw [e]

theorem iblk2_apply (c : Dev nD) (k : Fin 64) : iblk m c 2 t (ix2 0 k) = M1 m c (ix2 0 k) := by
  obtain ⟨-, -, ⟨e0, e1⟩, -⟩ := idx_facts t
  have e : ((cfg0.win 2).blk t).view.emb (ix2 0 k) = (ix2 0 k : S1x64.Idx) := by
    funext a; apply Fin.ext
    match a with
    | ⟨0, _⟩ => show win0_2.index t (0 : Fin 2) * 1 + 1 * 0 = 0; omega
    | ⟨1, _⟩ => show win0_2.index t (1 : Fin 2) * 64 + 1 * k.val = k.val; omega
  show V m c main_v36 (((cfg0.win 2).blk t).view.emb (ix2 0 k)) = _
  rw [e]
  rw [V_b1]
  exact rowOf _ _ _ k

theorem iblk3_apply (c : Dev nD) (k : Fin 64) : iblk m c 3 t (ix2 0 k) = M2 m c (ix2 0 k) := by
  obtain ⟨-, -, -, ⟨e0, e1⟩, -⟩ := idx_facts t
  have e : ((cfg0.win 3).blk t).view.emb (ix2 0 k) = (ix2 0 k : S1x64.Idx) := by
    funext a; apply Fin.ext
    match a with
    | ⟨0, _⟩ => show win0_3.index t (0 : Fin 2) * 1 + 1 * 0 = 0; omega
    | ⟨1, _⟩ => show win0_3.index t (1 : Fin 2) * 64 + 1 * k.val = k.val; omega
  show V m c main_v37 (((cfg0.win 3).blk t).view.emb (ix2 0 k)) = _
  rw [e]
  rw [V_f1]
  exact rowOf _ _ _ k

theorem iblk4_apply (c : Dev nD) (d : Fin 64) (k : Fin 64) : iblk m c 4 t (ix2 d k) = M3 m c (ix3 0 d k) := by
  obtain ⟨-, -, -, -, ⟨e0, e1⟩, -⟩ := idx_facts t
  have e : ((cfg0.win 4).blk t).view.emb (ix2 d k) = (ix2 d k : S64x64.Idx) := by
    funext a; apply Fin.ext
    match a with
    | ⟨0, _⟩ => show win0_4.index t (0 : Fin 2) * 64 + 1 * d.val = d.val; omega
    | ⟨1, _⟩ => show win0_4.index t (1 : Fin 2) * 64 + 1 * k.val = k.val; omega
  show V m c main_v3 (((cfg0.win 4).blk t).view.emb (ix2 d k)) = _
  rw [e]
  rw [V_w2]
  exact Kit.cast32 _ _ d k

theorem iblk5_apply (c : Dev nD) (k : Fin 64) : iblk m c 5 t (ix2 0 k) = M4 m c (ix2 0 k) := by
  obtain ⟨-, -, -, -, -, ⟨e0, e1⟩, -⟩ := idx_facts t
  have e : ((cfg0.win 5).blk t).view.emb (ix2 0 k) = (ix2 0 k : S1x64.Idx) := by
    funext a; apply Fin.ext
    match a with
    | ⟨0, _⟩ => show win0_5.index t (0 : Fin 2) * 1 + 1 * 0 = 0; omega
    | ⟨1, _⟩ => show win0_5.index t (1 : Fin 2) * 64 + 1 * k.val = k.val; omega
  show V m c main_v38 (((cfg0.win 5).blk t).view.emb (ix2 0 k)) = _
  rw [e]
  rw [V_b2]
  exact rowOf _ _ _ k

theorem iblk6_apply (c : Dev nD) (k : Fin 64) : iblk m c 6 t (ix2 0 k) = M5 m c (ix2 0 k) := by
  obtain ⟨-, -, -, -, -, -, ⟨e0, e1⟩, -⟩ := idx_facts t
  have e : ((cfg0.win 6).blk t).view.emb (ix2 0 k) = (ix2 0 k : S1x64.Idx) := by
    funext a; apply Fin.ext
    match a with
    | ⟨0, _⟩ => show win0_6.index t (0 : Fin 2) * 1 + 1 * 0 = 0; omega
    | ⟨1, _⟩ => show win0_6.index t (1 : Fin 2) * 64 + 1 * k.val = k.val; omega
  show V m c main_v39 (((cfg0.win 6).blk t).view.emb (ix2 0 k)) = _
  rw [e]
  rw [V_f2]
  exact rowOf _ _ _ k

theorem iblk7_apply (c : Dev nD) (d : Fin 64) (k : Fin 2048) : iblk m c 7 t (ix2 d k) = M6 m c (ix3 0 d k) := by
  obtain ⟨-, -, -, -, -, -, -, ⟨e0, e1⟩, -⟩ := idx_facts t
  have e : ((cfg0.win 7).blk t).view.emb (ix2 d k) = (ix2 d k : S64x2048.Idx) := by
    funext a; apply Fin.ext
    match a with
    | ⟨0, _⟩ => show win0_7.index t (0 : Fin 2) * 64 + 1 * d.val = d.val; omega
    | ⟨1, _⟩ => show win0_7.index t (1 : Fin 2) * 2048 + 1 * k.val = k.val; omega
  show V m c main_v6 (((cfg0.win 7).blk t).view.emb (ix2 d k)) = _
  rw [e]
  rw [V_w3]
  exact Kit.cast32 _ _ d k

theorem iblk8_apply (c : Dev nD) (k : Fin 2048) : iblk m c 8 t (ix2 0 k) = M7 m c (ix2 0 k) := by
  obtain ⟨-, -, -, -, -, -, -, -, ⟨e0, e1⟩, -⟩ := idx_facts t
  have e : ((cfg0.win 8).blk t).view.emb (ix2 0 k) = (ix2 0 k : S1x2048.Idx) := by
    funext a; apply Fin.ext
    match a with
    | ⟨0, _⟩ => show win0_8.index t (0 : Fin 2) * 1 + 1 * 0 = 0; omega
    | ⟨1, _⟩ => show win0_8.index t (1 : Fin 2) * 2048 + 1 * k.val = k.val; omega
  show V m c main_v40 (((cfg0.win 8).blk t).view.emb (ix2 0 k)) = _
  rw [e]
  rw [V_b3]
  exact rowOf _ _ _ k

theorem iblk9_apply (c : Dev nD) (k : Fin 2048) : iblk m c 9 t (ix2 0 k) = rate k := by
  obtain ⟨-, -, -, -, -, -, -, -, -, ⟨e0, e1⟩, -⟩ := idx_facts t
  have e : ((cfg0.win 9).blk t).view.emb (ix2 0 k) = (ix2 0 k : S1x2048.Idx) := by
    funext a; apply Fin.ext
    match a with
    | ⟨0, _⟩ => show win0_9.index t (0 : Fin 2) * 1 + 1 * 0 = 0; omega
    | ⟨1, _⟩ => show win0_9.index t (1 : Fin 2) * 2048 + 1 * k.val = k.val; omega
  show V m c main_v35 (((cfg0.win 9).blk t).view.emb (ix2 0 k)) = _
  rw [e]
  exact V_dl_apply m c k

variable (q : Fin 8) (ht : t.val = q.val)
include ht

theorem iblk0_apply (c : Dev nD) (r : Fin 512) (d : Fin 32) :
    iblk m c 0 t (ix2 r d) = V m c main_v28 (ix2 ⟨q.val * 512 + r.val, by omega⟩ d) := by
  obtain ⟨⟨e0, e1⟩, -⟩ := idx_facts t
  have e : ((cfg0.win 0).blk t).view.emb (ix2 r d) = (ix2 ⟨q.val * 512 + r.val, by omega⟩ d : S4096x32.Idx) := by
    funext a; apply Fin.ext
    match a with
    | ⟨0, _⟩ => show win0_0.index t (0 : Fin 2) * 512 + 1 * r.val = q.val * 512 + r.val; omega
    | ⟨1, _⟩ => show win0_0.index t (1 : Fin 2) * 32 + 1 * d.val = d.val; omega
  show V m c main_v28 (((cfg0.win 0).blk t).view.emb (ix2 r d)) = _
  rw [e]

theorem emb10 (r : Fin 512) (k : Fin 2048) : ((cfg0.win 10).blk t).view.emb (ix2 r k) = (ix2 ⟨q.val * 512 + r.val, by omega⟩ k : S4096x2048.Idx) := by
  obtain ⟨-, -, -, -, -, -, -, -, -, -, ⟨e0, e1⟩, -⟩ := idx_facts t
  funext a; apply Fin.ext
  match a with
  | ⟨0, _⟩ => show win0_10.index t (0 : Fin 2) * 512 + 1 * r.val = q.val * 512 + r.val; omega
  | ⟨1, _⟩ => show win0_10.index t (1 : Fin 2) * 2048 + 1 * k.val = k.val; omega

/-- The array that the run leaves, at an index of block `t`. -/
theorem final_at (c : Dev nD) (hw : ∀ j, ∃ x : ℝ, M6 m c j = x) (r : Fin 512) (k : Fin 2048) :
    (dats m 0 c).arrAt 10 cfg0.N (ix2 ⟨q.val * 512 + r.val, by omega⟩ k : S4096x2048.Idx)
      = spec (M0 m c) (M1 m c) (M2 m c) (M3 m c) (M4 m c) (M5 m c) (M6 m c) (M7 m c) (ix2 ⟨q.val * 512 + r.val, by omega⟩ k) := by
  have h := congrFun (Value.blocks10 m c t (idx_facts t).2.2.2.2.2.2.2.2.2.2.2) (ix2 r k)
  rw [Value.flushed10] at h
  have h' : (dats m 0 c).arrAt 10 cfg0.N (((cfg0.win 10).blk t).view.emb (ix2 r k)) = out0_10 (iblk m c 0 t) (iblk m c 1 t) (iblk m c 2 t) (iblk m c 3 t)
    (iblk m c 4 t) (iblk m c 5 t) (iblk m c 6 t) (iblk m c 7 t) (iblk m c 8 t) (iblk m c 9 t) (ix2 r k) := h
  rw [emb10 t q ht] at h'
  refine h'.trans ?_
  unfold out0_10
  rw [View.canon_unit_zero hz2, View.ld_unit_zero hz2, View.ld_unit_zero hz2, View.ld_unit_zero hz2, View.ld_unit_zero hz2, View.ld_unit_zero hz2, View.ld_unit_zero hz2, View.ld_unit_zero hz2, View.ld_unit_zero hz2, View.ld_unit_zero hz2, View.ld_unit_zero hz2]
  exact pay_spec _ _ _ _ _ _ _ _ _ _ _ _ _ _ _ _ _ _ _ _ (fun d => (iblk0_apply m t q ht c r _).trans (V_z_in m c _ d))
    (fun d j => (iblk1_apply m t c _ j).trans (V_w1_in m c d j)) (fun d j h17 => (iblk1_apply m t c d j).trans (V_w1_out m c d j h17))
    (iblk2_apply m t c) (iblk3_apply m t c) (iblk4_apply m t c) (iblk5_apply m t c) (iblk6_apply m t c) (fun j => iblk7_apply m t c j)
    (iblk8_apply m t c) (iblk9_apply m t c k) hw

omit ht in
theorem final_eq (c : Dev nD) (hw : ∀ j, ∃ x : ℝ, M6 m c j = x) :
    (dats m 0 c).arrAt 10 cfg0.N = spec (M0 m c) (M1 m c) (M2 m c) (M3 m c) (M4 m c) (M5 m c) (M6 m c) (M7 m c) := by
  refine funext fun (j : S4096x2048.Idx) => ?_
  obtain ⟨R, k, rfl⟩ : ∃ (R : Fin 4096) (k : Fin 2048), j = ix2 R k := ⟨j 0, j 1, Kit.ix2_ext rfl rfl⟩
  have hR : R = ⟨(⟨R.val / 512, by omega⟩ : Fin 8).val * 512 + (⟨R.val % 512, by omega⟩ : Fin 512).val, by show R.val / 512 * 512 + R.val % 512 < 4096; omega⟩ :=
    Fin.ext (by show R.val = R.val / 512 * 512 + R.val % 512; omega)
  rw [hR]
  exact final_at m ⟨R.val / 512, by show _ < 8; omega⟩ _ rfl c hw _ k

end Cert.FiltersIdeal.Hand

namespace Cert.FiltersRefIdeal.Hand

open Cert.FiltersRefIdeal Cert.FiltersRefIdeal.Gen Cert.FiltersRefIdeal.Read Cert.FilterNet

variable (x0 : Vec Ideal S1x17x64 .f32) (x1 x2 : Vec Ideal S1x64 .f32) (x3 : Vec Ideal S1x64x64 .f32) (x4 x5 : Vec Ideal S1x64 .f32)
  (x6 : Vec Ideal S1x64x2048 .f32) (x7 : Vec Ideal S1x2048 .f32)

theorem v25_apply (r : Fin 4096) (j : Fin 64) : val_main_v25 x1 (ix2 r j) = x1 (ix2 0 j) := by
  rw [val_main_v25_apply, val_main_v24_apply, val_main_v23_apply]
  exact congrArg x1 (Kit.ix2_ext rfl (Nat.mod_eq_of_lt j.isLt))

theorem v28_apply (r : Fin 4096) (j : Fin 64) : val_main_v28 x2 (ix2 r j) = x2 (ix2 0 j) := by
  rw [val_main_v28_apply, val_main_v27_apply, val_main_v20_apply]
  exact congrArg x2 (Kit.ix2_ext rfl (Nat.mod_eq_of_lt j.isLt))

theorem v36_apply (r : Fin 4096) (j : Fin 64) : val_main_v36 x4 (ix2 r j) = x4 (ix2 0 j) := by
  rw [val_main_v36_apply, val_main_v35_apply, val_main_v34_apply]
  exact congrArg x4 (Kit.ix2_ext rfl (Nat.mod_eq_of_lt j.isLt))

theorem v39_apply (r : Fin 4096) (j : Fin 64) : val_main_v39 x5 (ix2 r j) = x5 (ix2 0 j) := by
  rw [val_main_v39_apply, val_main_v38_apply, val_main_v31_apply]
  exact congrArg x5 (Kit.ix2_ext rfl (Nat.mod_eq_of_lt j.isLt))

theorem v46_apply (r : Fin 4096) (j : Fin 2048) : val_main_v46 x7 (ix2 r j) = x7 (ix2 0 j) := by
  rw [val_main_v46_apply, val_main_v45_apply, val_main_v44_apply]
  exact congrArg x7 (Kit.ix2_ext rfl (Nat.mod_eq_of_lt j.isLt))

theorem v30_apply (r : Fin 4096) (j : Fin 64) : val_main_v30 x0 x1 x2 (ix2 r j) = hid1 x0 x1 x2 r j := by
  rw [val_main_v30_apply, val_main_v29_apply, val_main_v26_apply, v25_apply, v28_apply, val_main_v22_apply]
  refine congrArg (fun s => Ideal.sin (x2 (ix2 0 j) * (s + x1 (ix2 0 j)))) (Finset.sum_congr rfl fun d _ => ?_)
  rw [show lidx_main_v22 (ix2 r j) d = ix2 r d from Kit.ix2_ext rfl rfl, show ridx_main_v22 (ix2 r j) d = ix2 d j from Kit.ix2_ext rfl rfl]
  unfold val_main_v21
  exact congrArg (zf r d * ·) (Kit.cast32 x0 _ d j)

theorem v41_apply (r : Fin 4096) (j : Fin 64) : val_main_v41 x0 x1 x2 x3 x4 x5 (ix2 r j) = hid2 x0 x1 x2 x3 x4 x5 r j := by
  rw [val_main_v41_apply, val_main_v40_apply, val_main_v37_apply, v36_apply, v39_apply, val_main_v33_apply]
  refine congrArg (fun s => Ideal.sin (x5 (ix2 0 j) * (s + x4 (ix2 0 j)))) (Finset.sum_congr rfl fun d _ => ?_)
  rw [show lidx_main_v33 (ix2 r j) d = ix2 r d from Kit.ix2_ext rfl rfl, show ridx_main_v33 (ix2 r j) d = ix2 d j from Kit.ix2_ext rfl rfl, v30_apply]
  unfold val_main_v32
  exact congrArg (hid1 x0 x1 x2 r d * ·) (Kit.cast32 x3 _ d j)

theorem v47_apply (r : Fin 4096) (k : Fin 2048) : val_main_v47 x0 x1 x2 x3 x4 x5 x6 x7 (ix2 r k)
    = ∑ j : Fin 64, hid2 x0 x1 x2 x3 x4 x5 r j * x6 (ix3 0 j k) + x7 (ix2 0 k) := by
  rw [val_main_v47_apply, v46_apply, val_main_v43_apply]
  refine congrArg (fun s : EReal => s + x7 (ix2 0 k)) (Finset.sum_congr rfl fun j _ => ?_)
  rw [show lidx_main_v43 (ix2 r k) j = ix2 r j from Kit.ix2_ext rfl rfl, show ridx_main_v43 (ix2 r k) j = ix2 j k from Kit.ix2_ext rfl rfl, v41_apply]
  unfold val_main_v42
  exact congrArg (hid2 x0 x1 x2 x3 x4 x5 r j * ·) (Kit.cast32 x6 _ j k)

theorem v56_apply (r : Fin 4096) (d : Fin 512) :
    val_main_v56 (F := Ideal) (ix2 r d) = Ideal.exp (-(time r) * val_main_v50 (F := Ideal) (ix1 d)) := by
  rw [val_main_v56_apply, val_main_v55_apply, val_main_v53_apply, val_main_v51_apply, val_main_v54_apply, val_main_v52_apply,
    show idx_main_v53 (ix2 r d) = ix2 r 0 from Kit.ix2_ext rfl rfl,
    show idx_main_v52 (idx_main_v54 (ix2 r d)) = ix1 d from funext fun a => match a with | ⟨0, _⟩ => rfl]
  rfl

theorem v62_eq : val_main_v62 x0 x1 x2 x3 x4 x5 x6 x7 = spec x0 x1 x2 x3 x4 x5 x6 x7 := by
  refine funext fun (j : S4096x2048.Idx) => ?_
  obtain ⟨r, k, rfl⟩ : ∃ (r : Fin 4096) (k : Fin 2048), j = ix2 r k := ⟨j 0, j 1, Kit.ix2_ext rfl rfl⟩
  have hr := r.isLt
  have hk := k.isLt
  rw [val_main_v62_apply, val_main_v61_apply, val_main_v48_apply, val_main_v60_apply, val_main_v59_apply, val_main_v57_apply, val_main_v58_apply,
    val_main_cst_6_apply,
    show idx_main_v48 (idx_main_v62 (ix2 r k)) = ix2 r k from Kit.ix2_ext
      (by
        show ((((r.val * 2048 + k.val) / 2048 * 2 + (r.val * 2048 + k.val) / 1024 % 2) * 2 + (r.val * 2048 + k.val) / 512 % 2) * 512 + (r.val * 2048 + k.val) % 512) / 2048 = r.val
        omega)
      (by
        show ((((r.val * 2048 + k.val) / 2048 * 2 + (r.val * 2048 + k.val) / 1024 % 2) * 2 + (r.val * 2048 + k.val) / 512 % 2) * 512 + (r.val * 2048 + k.val) % 512) % 2048 = k.val
        omega),
    show idx_main_v57 (idx_main_v60 (idx_main_v62 (ix2 r k))) = ix2 r ⟨k.val % 512, Nat.mod_lt _ (by decide)⟩ from Kit.ix2_ext
      (by show (r.val * 2048 + k.val) / 2048 = r.val; omega) (by show (r.val * 2048 + k.val) % 512 = k.val % 512; omega),
    v47_apply, v56_apply]
  rfl

end Cert.FiltersRefIdeal.Hand

namespace Cert.Proof

open Cert.FiltersIdeal.Hand in
theorem filters_reference_frame : Cert.quiescent_FiltersRefIdeal := fun m ρ _ =>
  (θ_run Cert.FiltersRefIdeal.defs _ _).mono
    (fun r h => ⟨fun c => (h c).2, Idealize.ShloMosaic.sem_eq_zero_of_no_sems (by decide) r.2⟩)
    (Cert.FiltersRefIdeal.Value.run (F := Ideal) m ρ)

open Cert.FiltersIdeal.Hand in
theorem filters_algebraic [Cert.Pre_finite_w3.Facts] : Cert.algebraic_FiltersIdeal_FiltersRefIdeal_pre_finite_w3 := by
  intro m ρ m' ρ' hpre hagree
  have hw := fun c => Cert.FilterNet.decode _ _ _ _ _ _ _ _ (hpre c)
  refine ⟨fun c => Cert.FilterNet.spec (M0 m c) (M1 m c) (M2 m c) (M3 m c) (M4 m c) (M5 m c) (M6 m c) (M7 m c), ?_, ?_⟩
  · exact (θ_run Cert.FiltersIdeal.defs _ _).mono (fun _ h c => ⟨(h c).1.trans (final_eq m c (hw c)), (h c).2⟩)
      (Cert.FiltersIdeal.Value.run_blocks (F := Ideal) m ρ)
  · refine (θ_run Cert.FiltersRefIdeal.defs _ _).mono (fun _ h c => ⟨?_, (h c).2⟩) (Cert.FiltersRefIdeal.Value.run (F := Ideal) m' ρ')
    refine ((h c).1.trans (Cert.FiltersRefIdeal.Read.val_main_v62_eq _ _)).trans ?_
    rw [(hagree c).1, (hagree c).2.1, (hagree c).2.2.1, (hagree c).2.2.2.1, (hagree c).2.2.2.2.1, (hagree c).2.2.2.2.2.1, (hagree c).2.2.2.2.2.2.1,
      (hagree c).2.2.2.2.2.2.2]
    exact Cert.FiltersRefIdeal.Hand.v62_eq _ _ _ _ _ _ _ _

end Cert.Proof

end
-- ==== Proof.lean ====
module

public import proofs.«01_k».proof.Defs
public import proofs.«01_k».proof.Proof.Gen.Scores
public import proofs.«01_k».proof.Proof.Gen.Scores.Skeleton
public import proofs.«01_k».proof.Proof.Gen.Scores.Launch
public import proofs.«01_k».proof.Proof.Gen.Scores.Points
public import proofs.«01_k».proof.Proof.Gen.Scores.Frame
public import proofs.«01_k».proof.Proof.Gen.ScoresIdeal
public import proofs.«01_k».proof.Proof.Gen.ScoresIdeal.Skeleton
public import proofs.«01_k».proof.Proof.Gen.ScoresIdeal.Launch
public import proofs.«01_k».proof.Proof.Gen.ScoresIdeal.Points
public import proofs.«01_k».proof.Proof.Gen.ScoresIdeal.Frame
public import proofs.«01_k».proof.Proof.Gen.ScoresRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.Pre_experts_in_range
public import proofs.«01_k».proof.Proof.Gen.ScoresIdeal.Value
public import proofs.«01_k».proof.Proof.Gen.ScoresRefIdeal.Run
public import proofs.«01_k».proof.Proof.Gen.ScoresRefIdeal.Read
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.InProj
public import proofs.«01_k».proof.Proof.OutProjRef
public import proofs.«01_k».proof.Proof.Scores
public import proofs.«01_k».proof.Proof.ValuesBits
public import proofs.«01_k».proof.Proof.ValuesRef
public import proofs.«01_k».proof.Proof.Modulation
public import proofs.«01_k».proof.Proof.CtxProj
public import proofs.«01_k».proof.Proof.Filters
public import Idealize.ShloMosaic.Adequacy
public import Idealize.ShloMosaic.Init

@[expose] public section

noncomputable section

namespace Cert.Proof

open Idealize.ShloMosaic Idealize.SL.Sem

theorem claim : Cert.Claim := ⟨Cert.Scores.Gen.facts, Cert.ScoresIdeal.Gen.facts, Cert.ScoresRefIdeal.Gen.facts,
  Cert.InProj.Gen.facts, Cert.InProjIdeal.Gen.facts, Cert.InProjRefIdeal.Gen.facts,
  Cert.OutProj.Gen.facts, Cert.OutProjIdeal.Gen.facts, Cert.OutProjRefIdeal.Gen.facts,
  Cert.Values.Gen.facts, Cert.ValuesIdeal.Gen.facts, Cert.ValuesRefIdeal.Gen.facts,
  Cert.Modulation.Gen.facts, Cert.ModulationIdeal.Gen.facts, Cert.ModulationRefIdeal.Gen.facts,
  Cert.CtxProj.Gen.facts, Cert.CtxProjIdeal.Gen.facts, Cert.CtxProjRefIdeal.Gen.facts,
  Cert.Filters.Gen.facts, Cert.FiltersIdeal.Gen.facts, Cert.FiltersRefIdeal.Gen.facts,
  Cert.Pre_experts_in_range.Gen.facts, Cert.Pre_chosen_and_finite.Gen.facts, Cert.Pre_finite_w3.Gen.facts,
  fun m ρ _ => Cert.Scores.Gen.frame m ρ, fun m ρ _ => Cert.ScoresIdeal.Gen.frame m ρ, fun m ρ _ => Cert.ScoresIdeal.Gen.frame m ρ,
  scores_reference_frame, fun m ρ _ => scores_reference_frame m ρ trivial,
  fun m ρ _ => Cert.InProj.Gen.frame m ρ, fun m ρ _ => Cert.InProjIdeal.Gen.frame m ρ, inproj_reference_frame,
  fun m ρ _ => Cert.OutProj.Gen.frame m ρ, fun m ρ _ => Cert.OutProjIdeal.Gen.frame m ρ, outproj_reference_frame,
  fun m ρ _ => Cert.Values.Hand.frame m ρ, fun m ρ _ => Cert.ValuesIdeal.Hand.frame m ρ, fun m ρ _ => Cert.ValuesIdeal.Hand.frame m ρ,
  values_reference_frame, fun m ρ _ => values_reference_frame m ρ trivial,
  fun m ρ _ => Cert.Modulation.Gen.frame m ρ, fun m ρ _ => Cert.ModulationIdeal.Gen.frame m ρ, modulation_reference_frame,
  fun m ρ _ => Cert.CtxProj.Gen.frame m ρ, fun m ρ _ => Cert.CtxProjIdeal.Gen.frame m ρ, ctx_reference_frame,
  fun m ρ _ => Cert.Filters.Gen.frame m ρ, fun m ρ _ => Cert.FiltersIdeal.Gen.frame m ρ, fun m ρ _ => Cert.FiltersIdeal.Gen.frame m ρ,
  filters_reference_frame, fun m ρ _ => filters_reference_frame m ρ trivial,
  trivial, scores_algebraic, trivial, inproj_algebraic, trivial, outproj_algebraic, trivial, values_algebraic,
  trivial, modulation_algebraic, trivial, ctx_algebraic, trivial, filters_algebraic⟩

end Cert.Proof

end
